-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.bf16_pair.BufferStatement Cert.KernelIdeal.S1024x2x256 Cert.KernelIdeal.S1024x1x256
  ∧ IdealRules.bf16_pair.Statement Cert.KernelIdeal.S256x128 Cert.KernelIdeal.S128x128
  ∧ IdealRules.bf16_pair.PackStatement Cert.KernelIdeal.S128x128
  ∧ IdealRules.bf16_pair.Statement Cert.KernelIdeal.S128x2x128 Cert.KernelIdeal.S128x1x128
  ∧ IdealRules.bf16_pair.Statement Cert.KernelIdeal.S1x2x256 Cert.KernelIdeal.S1x1x256
  ∧ IdealRules.bf16_pair.Statement Cert.KernelIdeal.S32x256 Cert.KernelIdeal.S16x256
  ∧ IdealRules.bf16_pair.PackStatement Cert.KernelIdeal.S16x512
  ∧ IdealRules.bf16_pair.Statement Cert.KernelIdeal.S32x512 Cert.KernelIdeal.S16x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x4096 : Shape := ⟨3, ![128, 1, 4096]⟩
abbrev S128x1x4x64 : Shape := ⟨4, ![128, 1, 4, 64]⟩
abbrev S128x32768x4x32 : Shape := ⟨4, ![128, 32768, 4, 32]⟩
abbrev S128x1024x4x64 : Shape := ⟨4, ![128, 1024, 4, 64]⟩
abbrev S128x32768x4 : Shape := ⟨3, ![128, 32768, 4]⟩
abbrev S128x128x4x64 : Shape := ⟨4, ![128, 128, 4, 64]⟩
abbrev S128x4x16x1x32x2 : Shape := ⟨6, ![128, 4, 16, 1, 32, 2]⟩
abbrev S128x4x16x2x1x32 : Shape := ⟨6, ![128, 4, 16, 2, 1, 32]⟩
abbrev S4x4 : Shape := ⟨2, ![4, 4]⟩
abbrev S_ : Shape := ⟨0, ![]⟩
abbrev S1x4x1x1x4x1 : Shape := ⟨6, ![1, 4, 1, 1, 4, 1]⟩
abbrev S128x4x16x2x4x32 : Shape := ⟨6, ![128, 4, 16, 2, 4, 32]⟩
abbrev S128x64x256 : Shape := ⟨3, ![128, 64, 256]⟩
abbrev S1x4x64x128 : Shape := ⟨4, ![1, 4, 64, 128]⟩
abbrev S256x128 : Shape := ⟨2, ![256, 128]⟩
abbrev S128x4x32x32768 : Shape := ⟨4, ![128, 4, 32, 32768]⟩
abbrev S128x4x64x1024 : Shape := ⟨4, ![128, 4, 64, 1024]⟩
abbrev S128x4x32768 : Shape := ⟨3, ![128, 4, 32768]⟩
abbrev S128x4x64x128 : Shape := ⟨4, ![128, 4, 64, 128]⟩
abbrev S128x64x64 : Shape := ⟨3, ![128, 64, 64]⟩
abbrev S128x128 : Shape := ⟨2, ![128, 128]⟩
abbrev S4x128 : Shape := ⟨2, ![4, 128]⟩
abbrev S1x64x256 : Shape := ⟨3, ![1, 64, 256]⟩
abbrev S1x4x32x32768 : Shape := ⟨4, ![1, 4, 32, 32768]⟩
abbrev S1x4x64x1024 : Shape := ⟨4, ![1, 4, 64, 1024]⟩
abbrev S1x4x32768 : Shape := ⟨3, ![1, 4, 32768]⟩
abbrev S1x64x64 : Shape := ⟨3, ![1, 64, 64]⟩
abbrev S64x33024 : Shape := ⟨2, ![64, 33024]⟩
abbrev S1024x256 : Shape := ⟨2, ![1024, 256]⟩
abbrev S64x256 : Shape := ⟨2, ![64, 256]⟩
abbrev S2x4x32x128 : Shape := ⟨4, ![2, 4, 32, 128]⟩
abbrev S1x4x1x128 : Shape := ⟨4, ![1, 4, 1, 128]⟩
abbrev S1x4x32x128 : Shape := ⟨4, ![1, 4, 32, 128]⟩
abbrev S4x32x128 : Shape := ⟨3, ![4, 32, 128]⟩
abbrev S4x64x128 : Shape := ⟨3, ![4, 64, 128]⟩
abbrev S256 : Shape := ⟨1, ![256]⟩
abbrev S256x1 : Shape := ⟨2, ![256, 1]⟩
abbrev S256x256 : Shape := ⟨2, ![256, 256]⟩
abbrev S64x128 : Shape := ⟨2, ![64, 128]⟩
abbrev S1x4x32x512 : Shape := ⟨4, ![1, 4, 32, 512]⟩
abbrev S4x32x512 : Shape := ⟨3, ![4, 32, 512]⟩
abbrev S128x512 : Shape := ⟨2, ![128, 512]⟩
abbrev S512x128 : Shape := ⟨2, ![512, 128]⟩
abbrev S512x256 : Shape := ⟨2, ![512, 256]⟩
abbrev S1x256 : Shape := ⟨2, ![1, 256]⟩
abbrev S16x256 : Shape := ⟨2, ![16, 256]⟩
abbrev S32x256 : Shape := ⟨2, ![32, 256]⟩
abbrev S64x512 : Shape := ⟨2, ![64, 512]⟩
abbrev S64 : Shape := ⟨1, ![64]⟩
abbrev S64x1 : Shape := ⟨2, ![64, 1]⟩
abbrev S32x512 : Shape := ⟨2, ![32, 512]⟩
abbrev S1x4x512 : Shape := ⟨3, ![1, 4, 512]⟩
abbrev S4x512 : Shape := ⟨2, ![4, 512]⟩
abbrev S1x512 : Shape := ⟨2, ![1, 512]⟩
abbrev S16x512 : Shape := ⟨2, ![16, 512]⟩
abbrev S256x512 : Shape := ⟨2, ![256, 512]⟩
abbrev S256x64 : Shape := ⟨2, ![256, 64]⟩
abbrev S64x64 : Shape := ⟨2, ![64, 64]⟩

abbrev nBuf : Space → Nat
  | .hbm => 44
  | .vmem => 36
  | .smem => 0
  | _ => 0

abbrev bufTy : (tb : Table) → Fin (tcTables nBuf tb) → BufTy
  | .hbm, ⟨0, _⟩ => ⟨S128x1x4096, .bf16⟩
  | .hbm, ⟨1, _⟩ => ⟨S128x1x4x64, .bf16⟩
  | .hbm, ⟨2, _⟩ => ⟨S128x1x4x64, .bf16⟩
  | .hbm, ⟨3, _⟩ => ⟨S128x32768x4x32, .i8⟩
  | .hbm, ⟨4, _⟩ => ⟨S128x1024x4x64, .f32⟩
  | .hbm, ⟨5, _⟩ => ⟨S128x1024x4x64, .f32⟩
  | .hbm, ⟨6, _⟩ => ⟨S128x32768x4x32, .i8⟩
  | .hbm, ⟨7, _⟩ => ⟨S128x32768x4, .f32⟩
  | .hbm, ⟨8, _⟩ => ⟨S128x32768x4, .f32⟩
  | .hbm, ⟨9, _⟩ => ⟨S128x128x4x64, .bf16⟩
  | .hbm, ⟨10, _⟩ => ⟨S128x128x4x64, .bf16⟩
  | .hbm, ⟨11, _⟩ => ⟨S128x4x16x1x32x2, .bf16⟩
  | .hbm, ⟨12, _⟩ => ⟨S128x4x16x2x1x32, .bf16⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .bf16⟩
  | .hbm, ⟨20, _⟩ => ⟨S1x4x1x1x4x1, .bf16⟩
  | .hbm, ⟨21, _⟩ => ⟨S128x4x16x2x4x32, .bf16⟩
  | .hbm, ⟨22, _⟩ => ⟨S128x4x16x2x4x32, .bf16⟩
  | .hbm, ⟨23, _⟩ => ⟨S128x4x16x2x4x32, .bf16⟩
  | .hbm, ⟨24, _⟩ => ⟨S128x64x256, .bf16⟩
  | .hbm, ⟨25, _⟩ => ⟨S1x4x64x128, .bf16⟩
  | .hbm, ⟨26, _⟩ => ⟨S256x128, .bf16⟩
  | .hbm, ⟨27, _⟩ => ⟨S1x4x64x128, .bf16⟩
  | .hbm, ⟨28, _⟩ => ⟨S256x128, .bf16⟩
  | .hbm, ⟨29, _⟩ => ⟨S128x4x32x32768, .i8⟩
  | .hbm, ⟨30, _⟩ => ⟨S128x4x64x1024, .f32⟩
  | .hbm, ⟨31, _⟩ => ⟨S128x4x64x1024, .f32⟩
  | .hbm, ⟨32, _⟩ => ⟨S128x4x32x32768, .i8⟩
  | .hbm, ⟨33, _⟩ => ⟨S128x4x32768, .f32⟩
  | .hbm, ⟨34, _⟩ => ⟨S128x4x32768, .f32⟩
  | .hbm, ⟨35, _⟩ => ⟨S128x4x64x128, .bf16⟩
  | .hbm, ⟨36, _⟩ => ⟨S128x4x64x128, .bf16⟩
  | .hbm, ⟨37, _⟩ => ⟨S128x64x64, .bf16⟩
  | .hbm, ⟨38, _⟩ => ⟨S128x128, .i8⟩
  | .hbm, ⟨39, _⟩ => ⟨S256x128, .f32⟩
  | .hbm, ⟨40, _⟩ => ⟨S256x128, .f32⟩
  | .hbm, ⟨41, _⟩ => ⟨S128x128, .i8⟩
  | .hbm, ⟨42, _⟩ => ⟨S4x128, .f32⟩
  | .hbm, ⟨43, _⟩ => ⟨S4x128, .f32⟩
  | .local _ .vmem, ⟨0, _⟩ => ⟨S1x64x256, .bf16⟩
  | .local _ .vmem, ⟨1, _⟩ => ⟨S1x64x256, .bf16⟩
  | .local _ .vmem, ⟨2, _⟩ => ⟨S256x128, .bf16⟩
  | .local _ .vmem, ⟨3, _⟩ => ⟨S256x128, .bf16⟩
  | .local _ .vmem, ⟨4, _⟩ => ⟨S1x4x32x32768, .i8⟩
  | .local _ .vmem, ⟨5, _⟩ => ⟨S1x4x32x32768, .i8⟩
  | .local _ .vmem, ⟨6, _⟩ => ⟨S1x4x64x1024, .f32⟩
  | .local _ .vmem, ⟨7, _⟩ => ⟨S1x4x64x1024, .f32⟩
  | .local _ .vmem, ⟨8, _⟩ => ⟨S1x4x64x1024, .f32⟩
  | .local _ .vmem, ⟨9, _⟩ => ⟨S1x4x64x1024, .f32⟩
  | .local _ .vmem, ⟨10, _⟩ => ⟨S1x4x32x32768, .i8⟩
  | .local _ .vmem, ⟨11, _⟩ => ⟨S1x4x32x32768, .i8⟩
  | .local _ .vmem, ⟨12, _⟩ => ⟨S1x4x32768, .f32⟩
  | .local _ .vmem, ⟨13, _⟩ => ⟨S1x4x32768, .f32⟩
  | .local _ .vmem, ⟨14, _⟩ => ⟨S1x4x32768, .f32⟩
  | .local _ .vmem, ⟨15, _⟩ => ⟨S1x4x32768, .f32⟩
  | .local _ .vmem, ⟨16, _⟩ => ⟨S1x4x64x128, .bf16⟩
  | .local _ .vmem, ⟨17, _⟩ => ⟨S1x4x64x128, .bf16⟩
  | .local _ .vmem, ⟨18, _⟩ => ⟨S1x4x64x128, .bf16⟩
  | .local _ .vmem, ⟨19, _⟩ => ⟨S1x4x64x128, .bf16⟩
  | .local _ .vmem, ⟨20, _⟩ => ⟨S1x64x64, .bf16⟩
  | .local _ .vmem, ⟨21, _⟩ => ⟨S1x64x64, .bf16⟩
  | .local _ .vmem, ⟨22, _⟩ => ⟨S128x128, .i8⟩
  | .local _ .vmem, ⟨23, _⟩ => ⟨S256x128, .f32⟩
  | .local _ .vmem, ⟨24, _⟩ => ⟨S256x128, .f32⟩
  | .local _ .vmem, ⟨25, _⟩ => ⟨S128x128, .i8⟩
  | .local _ .vmem, ⟨26, _⟩ => ⟨S4x128, .f32⟩
  | .local _ .vmem, ⟨27, _⟩ => ⟨S4x128, .f32⟩
  | .local _ .vmem, ⟨28, _⟩ => ⟨S64x33024, .f32⟩
  | .local _ .vmem, ⟨29, _⟩ => ⟨S1024x256, .i32⟩
  | .local _ .vmem, ⟨30, _⟩ => ⟨S1024x256, .i32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | _, _ => ⟨S128x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev main_v25_5 : Ref sig .tc := ⟨.hbm, 42, rfl⟩
abbrev main_v25_6 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [BitOps F]

abbrev grid0 : Pipeline.Grid := ⟨1, ![128], ![false]⟩

@[reducible] def k0_t1_loop : Scf.Loop 32 :=
  let c0_i32_254 : BitVec 32 := 0#32
  let c64_i32 : BitVec 32 := 64#32
  let v401 : BitVec 32 := Scalar.addi c0_i32_254 c64_i32
  let c1_i32 : BitVec 32 := 1#32
  ⟨c0_i32_254, v401, c1_i32⟩
def k0_mult1 (k0_t1 : Fin k0_t1_loop.trips) : BitVec 32 :=
  let c0_i32_254 : BitVec 32 := 0#32
  let c1_i32 : BitVec 32 := 1#32
  let arg27 : BitVec 32 := Scf.iv c0_i32_254 c1_i32 k0_t1
  let c512_i32 : BitVec 32 := 512#32
  let v575 : BitVec 32 := Scalar.muli arg27 c512_i32
  v575
def k0_off1 (k0_t1 : Fin k0_t1_loop.trips) : Fin 4 → Nat :=
  let c0_314 : Index := 0#32
  let c0_315 : Index := 0#32
  let c0_316 : Index := 0#32
  let c0_i32_254 : BitVec 32 := 0#32
  let c1_i32 : BitVec 32 := 1#32
  let arg27 : BitVec 32 := Scf.iv c0_i32_254 c1_i32 k0_t1
  let c512_i32 : BitVec 32 := 512#32
  let v575 : BitVec 32 := Scalar.muli arg27 c512_i32
  let v576 : BitVec 32 := v575
  let v577 : Index := Scalar.indexCast v576
  ![0, 0, 0, v577.toNat]
def k0_off2 (k0_t1 : Fin k0_t1_loop.trips) (c0_i32_319 : BitVec 32) : Fin 2 → Nat :=
  let c0_i32_254 : BitVec 32 := 0#32
  let c1_i32 : BitVec 32 := 1#32
  let arg27 : BitVec 32 := Scf.iv c0_i32_254 c1_i32 k0_t1
  let c16_i32_318 : BitVec 32 := 16#32
  let v594 : BitVec 32 := Scalar.muli arg27 c16_i32_318
  let v595 : BitVec 32 := Scalar.addi v594 c0_i32_319
  let v596 : Index := Scalar.indexCast v595
  let c0_320 : Index := 0#32
  ![v596.toNat, 0]
def k0_off3 (k0_t1 : Fin k0_t1_loop.trips) : Fin 2 → Nat :=
  let c0_372 : Index := 0#32
  let c0_i32_254 : BitVec 32 := 0#32
  let c1_i32 : BitVec 32 := 1#32
  let arg27 : BitVec 32 := Scf.iv c0_i32_254 c1_i32 k0_t1
  let c512_i32 : BitVec 32 := 512#32
  let v575 : BitVec 32 := Scalar.muli arg27 c512_i32
  let v576 : BitVec 32 := v575
  let v805 : Index := Scalar.indexCast v576
  ![0, v805.toNat]
@[reducible] def k0_t2_loop : Scf.Loop 32 :=
  let c0_i32_271 : BitVec 32 := 0#32
  let c64_i32_272 : BitVec 32 := 64#32
  let v442 : BitVec 32 := Scalar.addi c0_i32_271 c64_i32_272
  let c1_i32_273 : BitVec 32 := 1#32
  ⟨c0_i32_271, v442, c1_i32_273⟩
def k0_mult2 (k0_t2 : Fin k0_t2_loop.trips) : BitVec 32 :=
  let c0_i32_271 : BitVec 32 := 0#32
  let c1_i32_273 : BitVec 32 := 1#32
  let arg27 : BitVec 32 := Scf.iv c0_i32_271 c1_i32_273 k0_t2
  let c512_i32 : BitVec 32 := 512#32
  let v575 : BitVec 32 := Scalar.muli arg27 c512_i32
  v575
def k0_off4 (k0_t2 : Fin k0_t2_loop.trips) : Fin 4 → Nat :=
  let c0_314 : Index := 0#32
  let c0_315 : Index := 0#32
  let c0_316 : Index := 0#32
  let c0_i32_271 : BitVec 32 := 0#32
  let c1_i32_273 : BitVec 32 := 1#32
  let arg27 : BitVec 32 := Scf.iv c0_i32_271 c1_i32_273 k0_t2
  let c512_i32 : BitVec 32 := 512#32
  let v575 : BitVec 32 := Scalar.muli arg27 c512_i32
  let v576 : BitVec 32 := v575
  let v577 : Index := Scalar.indexCast v576
  ![0, 0, 0, v577.toNat]
def k0_off5 (k0_t2 : Fin k0_t2_loop.trips) : Fin 3 → Nat :=
  let c0_318 : Index := 0#32
  let c0_319 : Index := 0#32
  let c0_i32_271 : BitVec 32 := 0#32
  let c1_i32_273 : BitVec 32 := 1#32
  let arg27 : BitVec 32 := Scf.iv c0_i32_271 c1_i32_273 k0_t2
  let c512_i32 : BitVec 32 := 512#32
  let v575 : BitVec 32 := Scalar.muli arg27 c512_i32
  let v576 : BitVec 32 := v575
  let v592 : Index := Scalar.indexCast v576
  ![0, 0, v592.toNat]
def k0_off6 (k0_t2 : Fin k0_t2_loop.trips) : Fin 2 → Nat :=
  let c0_322 : Index := 0#32
  let c0_i32_271 : BitVec 32 := 0#32
  let c1_i32_273 : BitVec 32 := 1#32
  let arg27 : BitVec 32 := Scf.iv c0_i32_271 c1_i32_273 k0_t2
  let c512_i32 : BitVec 32 := 512#32
  let v575 : BitVec 32 := Scalar.muli arg27 c512_i32
  let v576 : BitVec 32 := v575
  let v645 : Index := Scalar.indexCast v576
  ![0, v645.toNat]
def k0_cond2 (i : grid0.Coords) : BitVec 1 :=
  let arg0 : BitVec 32 := BitVec.ofNat 32 (i 0).val
  let c127_i32 : BitVec 32 := 127#32
  let v572 : BitVec 1 := Scalar.cmpi .eq arg0 c127_i32
  let v573 : BitVec 32 := Scalar.extui v572
  let c0_i32_313 : BitVec 32 := 0#32
  let v574 : BitVec 1 := Scalar.cmpi .ne v573 c0_i32_313
  v574

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x32x32768 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x32x32768 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x32768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x64x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x128 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== KernelIdeal.lean ====
abbrev S128x1x4096 : Shape := ⟨3, ![128, 1, 4096]⟩
abbrev S128x1x4x64 : Shape := ⟨4, ![128, 1, 4, 64]⟩
abbrev S128x32768x4x32 : Shape := ⟨4, ![128, 32768, 4, 32]⟩
abbrev S128x1024x4x64 : Shape := ⟨4, ![128, 1024, 4, 64]⟩
abbrev S128x32768x4 : Shape := ⟨3, ![128, 32768, 4]⟩
abbrev S128x128x4x64 : Shape := ⟨4, ![128, 128, 4, 64]⟩
abbrev S128x4x16x1x32x2 : Shape := ⟨6, ![128, 4, 16, 1, 32, 2]⟩
abbrev S128x4x16x2x1x32 : Shape := ⟨6, ![128, 4, 16, 2, 1, 32]⟩
abbrev S4x4 : Shape := ⟨2, ![4, 4]⟩
abbrev S_ : Shape := ⟨0, ![]⟩
abbrev S1x4x1x1x4x1 : Shape := ⟨6, ![1, 4, 1, 1, 4, 1]⟩
abbrev S128x4x16x2x4x32 : Shape := ⟨6, ![128, 4, 16, 2, 4, 32]⟩
abbrev S128x64x256 : Shape := ⟨3, ![128, 64, 256]⟩
abbrev S1x4x64x128 : Shape := ⟨4, ![1, 4, 64, 128]⟩
abbrev S256x128 : Shape := ⟨2, ![256, 128]⟩
abbrev S128x4x32x32768 : Shape := ⟨4, ![128, 4, 32, 32768]⟩
abbrev S128x4x64x1024 : Shape := ⟨4, ![128, 4, 64, 1024]⟩
abbrev S128x4x32768 : Shape := ⟨3, ![128, 4, 32768]⟩
abbrev S128x4x64x128 : Shape := ⟨4, ![128, 4, 64, 128]⟩
abbrev S128x64x64 : Shape := ⟨3, ![128, 64, 64]⟩
abbrev S128x128 : Shape := ⟨2, ![128, 128]⟩
abbrev S4x128 : Shape := ⟨2, ![4, 128]⟩
abbrev S1x64x256 : Shape := ⟨3, ![1, 64, 256]⟩
abbrev S1x4x32x32768 : Shape := ⟨4, ![1, 4, 32, 32768]⟩
abbrev S1x4x64x1024 : Shape := ⟨4, ![1, 4, 64, 1024]⟩
abbrev S1x4x32768 : Shape := ⟨3, ![1, 4, 32768]⟩
abbrev S1x64x64 : Shape := ⟨3, ![1, 64, 64]⟩
abbrev S64x33024 : Shape := ⟨2, ![64, 33024]⟩
abbrev S1024x256 : Shape := ⟨2, ![1024, 256]⟩
abbrev S1024x2x256 : Shape := ⟨3, ![1024, 2, 256]⟩
abbrev S1024x1x256 : Shape := ⟨3, ![1024, 1, 256]⟩
abbrev S64x256 : Shape := ⟨2, ![64, 256]⟩
abbrev S2x4x32x128 : Shape := ⟨4, ![2, 4, 32, 128]⟩
abbrev S1x4x1x128 : Shape := ⟨4, ![1, 4, 1, 128]⟩
abbrev S1x4x32x128 : Shape := ⟨4, ![1, 4, 32, 128]⟩
abbrev S4x32x128 : Shape := ⟨3, ![4, 32, 128]⟩
abbrev S4x64x128 : Shape := ⟨3, ![4, 64, 128]⟩
abbrev S256 : Shape := ⟨1, ![256]⟩
abbrev S256x1 : Shape := ⟨2, ![256, 1]⟩
abbrev S256x256 : Shape := ⟨2, ![256, 256]⟩
abbrev S128x2x128 : Shape := ⟨3, ![128, 2, 128]⟩
abbrev S128x1x128 : Shape := ⟨3, ![128, 1, 128]⟩
abbrev S64x128 : Shape := ⟨2, ![64, 128]⟩
abbrev S1x4x32x512 : Shape := ⟨4, ![1, 4, 32, 512]⟩
abbrev S4x32x512 : Shape := ⟨3, ![4, 32, 512]⟩
abbrev S128x512 : Shape := ⟨2, ![128, 512]⟩
abbrev S512x128 : Shape := ⟨2, ![512, 128]⟩
abbrev S512x256 : Shape := ⟨2, ![512, 256]⟩
abbrev S1x256 : Shape := ⟨2, ![1, 256]⟩
abbrev S1x2x256 : Shape := ⟨3, ![1, 2, 256]⟩
abbrev S1x1x256 : Shape := ⟨3, ![1, 1, 256]⟩
abbrev S16x256 : Shape := ⟨2, ![16, 256]⟩
abbrev S32x256 : Shape := ⟨2, ![32, 256]⟩
abbrev S64x512 : Shape := ⟨2, ![64, 512]⟩
abbrev S64 : Shape := ⟨1, ![64]⟩
abbrev S64x1 : Shape := ⟨2, ![64, 1]⟩
abbrev S32x512 : Shape := ⟨2, ![32, 512]⟩
abbrev S1x4x512 : Shape := ⟨3, ![1, 4, 512]⟩
abbrev S4x512 : Shape := ⟨2, ![4, 512]⟩
abbrev S1x512 : Shape := ⟨2, ![1, 512]⟩
abbrev S16x512 : Shape := ⟨2, ![16, 512]⟩
abbrev S256x512 : Shape := ⟨2, ![256, 512]⟩
abbrev S256x64 : Shape := ⟨2, ![256, 64]⟩
abbrev S64x64 : Shape := ⟨2, ![64, 64]⟩

abbrev nBuf : Space → Nat
  | .hbm => 44
  | .vmem => 36
  | .smem => 0
  | _ => 0

abbrev bufTy : (tb : Table) → Fin (tcTables nBuf tb) → BufTy
  | .hbm, ⟨0, _⟩ => ⟨S128x1x4096, .bf16⟩
  | .hbm, ⟨1, _⟩ => ⟨S128x1x4x64, .bf16⟩
  | .hbm, ⟨2, _⟩ => ⟨S128x1x4x64, .bf16⟩
  | .hbm, ⟨3, _⟩ => ⟨S128x32768x4x32, .i8⟩
  | .hbm, ⟨4, _⟩ => ⟨S128x1024x4x64, .f32⟩
  | .hbm, ⟨5, _⟩ => ⟨S128x1024x4x64, .f32⟩
  | .hbm, ⟨6, _⟩ => ⟨S128x32768x4x32, .i8⟩
  | .hbm, ⟨7, _⟩ => ⟨S128x32768x4, .f32⟩
  | .hbm, ⟨8, _⟩ => ⟨S128x32768x4, .f32⟩
  | .hbm, ⟨9, _⟩ => ⟨S128x128x4x64, .bf16⟩
  | .hbm, ⟨10, _⟩ => ⟨S128x128x4x64, .bf16⟩
  | .hbm, ⟨11, _⟩ => ⟨S128x4x16x1x32x2, .bf16⟩
  | .hbm, ⟨12, _⟩ => ⟨S128x4x16x2x1x32, .bf16⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .bf16⟩
  | .hbm, ⟨20, _⟩ => ⟨S1x4x1x1x4x1, .bf16⟩
  | .hbm, ⟨21, _⟩ => ⟨S128x4x16x2x4x32, .bf16⟩
  | .hbm, ⟨22, _⟩ => ⟨S128x4x16x2x4x32, .bf16⟩
  | .hbm, ⟨23, _⟩ => ⟨S128x4x16x2x4x32, .bf16⟩
  | .hbm, ⟨24, _⟩ => ⟨S128x64x256, .bf16⟩
  | .hbm, ⟨25, _⟩ => ⟨S1x4x64x128, .bf16⟩
  | .hbm, ⟨26, _⟩ => ⟨S256x128, .bf16⟩
  | .hbm, ⟨27, _⟩ => ⟨S1x4x64x128, .bf16⟩
  | .hbm, ⟨28, _⟩ => ⟨S256x128, .bf16⟩
  | .hbm, ⟨29, _⟩ => ⟨S128x4x32x32768, .i8⟩
  | .hbm, ⟨30, _⟩ => ⟨S128x4x64x1024, .f32⟩
  | .hbm, ⟨31, _⟩ => ⟨S128x4x64x1024, .f32⟩
  | .hbm, ⟨32, _⟩ => ⟨S128x4x32x32768, .i8⟩
  | .hbm, ⟨33, _⟩ => ⟨S128x4x32768, .f32⟩
  | .hbm, ⟨34, _⟩ => ⟨S128x4x32768, .f32⟩
  | .hbm, ⟨35, _⟩ => ⟨S128x4x64x128, .bf16⟩
  | .hbm, ⟨36, _⟩ => ⟨S128x4x64x128, .bf16⟩
  | .hbm, ⟨37, _⟩ => ⟨S128x64x64, .bf16⟩
  | .hbm, ⟨38, _⟩ => ⟨S128x128, .i8⟩
  | .hbm, ⟨39, _⟩ => ⟨S256x128, .f32⟩
  | .hbm, ⟨40, _⟩ => ⟨S256x128, .f32⟩
  | .hbm, ⟨41, _⟩ => ⟨S128x128, .i8⟩
  | .hbm, ⟨42, _⟩ => ⟨S4x128, .f32⟩
  | .hbm, ⟨43, _⟩ => ⟨S4x128, .f32⟩
  | .local _ .vmem, ⟨0, _⟩ => ⟨S1x64x256, .bf16⟩
  | .local _ .vmem, ⟨1, _⟩ => ⟨S1x64x256, .bf16⟩
  | .local _ .vmem, ⟨2, _⟩ => ⟨S256x128, .bf16⟩
  | .local _ .vmem, ⟨3, _⟩ => ⟨S256x128, .bf16⟩
  | .local _ .vmem, ⟨4, _⟩ => ⟨S1x4x32x32768, .i8⟩
  | .local _ .vmem, ⟨5, _⟩ => ⟨S1x4x32x32768, .i8⟩
  | .local _ .vmem, ⟨6, _⟩ => ⟨S1x4x64x1024, .f32⟩
  | .local _ .vmem, ⟨7, _⟩ => ⟨S1x4x64x1024, .f32⟩
  | .local _ .vmem, ⟨8, _⟩ => ⟨S1x4x64x1024, .f32⟩
  | .local _ .vmem, ⟨9, _⟩ => ⟨S1x4x64x1024, .f32⟩
  | .local _ .vmem, ⟨10, _⟩ => ⟨S1x4x32x32768, .i8⟩
  | .local _ .vmem, ⟨11, _⟩ => ⟨S1x4x32x32768, .i8⟩
  | .local _ .vmem, ⟨12, _⟩ => ⟨S1x4x32768, .f32⟩
  | .local _ .vmem, ⟨13, _⟩ => ⟨S1x4x32768, .f32⟩
  | .local _ .vmem, ⟨14, _⟩ => ⟨S1x4x32768, .f32⟩
  | .local _ .vmem, ⟨15, _⟩ => ⟨S1x4x32768, .f32⟩
  | .local _ .vmem, ⟨16, _⟩ => ⟨S1x4x64x128, .bf16⟩
  | .local _ .vmem, ⟨17, _⟩ => ⟨S1x4x64x128, .bf16⟩
  | .local _ .vmem, ⟨18, _⟩ => ⟨S1x4x64x128, .bf16⟩
  | .local _ .vmem, ⟨19, _⟩ => ⟨S1x4x64x128, .bf16⟩
  | .local _ .vmem, ⟨20, _⟩ => ⟨S1x64x64, .bf16⟩
  | .local _ .vmem, ⟨21, _⟩ => ⟨S1x64x64, .bf16⟩
  | .local _ .vmem, ⟨22, _⟩ => ⟨S128x128, .i8⟩
  | .local _ .vmem, ⟨23, _⟩ => ⟨S256x128, .f32⟩
  | .local _ .vmem, ⟨24, _⟩ => ⟨S256x128, .f32⟩
  | .local _ .vmem, ⟨25, _⟩ => ⟨S128x128, .i8⟩
  | .local _ .vmem, ⟨26, _⟩ => ⟨S4x128, .f32⟩
  | .local _ .vmem, ⟨27, _⟩ => ⟨S4x128, .f32⟩
  | .local _ .vmem, ⟨28, _⟩ => ⟨S64x33024, .f32⟩
  | .local _ .vmem, ⟨29, _⟩ => ⟨S1024x2x256, .bf16⟩
  | .local _ .vmem, ⟨30, _⟩ => ⟨S1024x2x256, .bf16⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | _, _ => ⟨S128x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev main_v25_5 : Ref sig .tc := ⟨.hbm, 42, rfl⟩
abbrev main_v25_6 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_254 : BitVec 32 := 0#32
  let c64_i32 : BitVec 32 := 64#32
  let v401 : BitVec 32 := Scalar.addi c0_i32_254 c64_i32
  let c1_i32 : BitVec 32 := 1#32
  ⟨c0_i32_254, v401, c1_i32⟩
def k0_mult1 (k0_t1 : Fin k0_t1_loop.trips) : BitVec 32 :=
  let c0_i32_254 : BitVec 32 := 0#32
  let c1_i32 : BitVec 32 := 1#32
  let arg27 : BitVec 32 := Scf.iv c0_i32_254 c1_i32 k0_t1
  let c512_i32 : BitVec 32 := 512#32
  let v575 : BitVec 32 := Scalar.muli arg27 c512_i32
  v575
def k0_off1 (k0_t1 : Fin k0_t1_loop.trips) : Fin 4 → Nat :=
  let c0_314 : Index := 0#32
  let c0_315 : Index := 0#32
  let c0_316 : Index := 0#32
  let c0_i32_254 : BitVec 32 := 0#32
  let c1_i32 : BitVec 32 := 1#32
  let arg27 : BitVec 32 := Scf.iv c0_i32_254 c1_i32 k0_t1
  let c512_i32 : BitVec 32 := 512#32
  let v575 : BitVec 32 := Scalar.muli arg27 c512_i32
  let v576 : BitVec 32 := v575
  let v577 : Index := Scalar.indexCast v576
  ![0, 0, 0, v577.toNat]
def k0_off2 (k0_t1 : Fin k0_t1_loop.trips) (c0_i32_319 : BitVec 32) : Fin 3 → Nat :=
  let c0_i32_254 : BitVec 32 := 0#32
  let c1_i32 : BitVec 32 := 1#32
  let arg27 : BitVec 32 := Scf.iv c0_i32_254 c1_i32 k0_t1
  let c16_i32_318 : BitVec 32 := 16#32
  let v594 : BitVec 32 := Scalar.muli arg27 c16_i32_318
  let v595 : BitVec 32 := Scalar.addi v594 c0_i32_319
  let v596 : Index := Scalar.indexCast v595
  let c0_320 : Index := 0#32
  ![v596.toNat, 0, 0]
def k0_off3 (k0_t1 : Fin k0_t1_loop.trips) : Fin 2 → Nat :=
  let c0_372 : Index := 0#32
  let c0_i32_254 : BitVec 32 := 0#32
  let c1_i32 : BitVec 32 := 1#32
  let arg27 : BitVec 32 := Scf.iv c0_i32_254 c1_i32 k0_t1
  let c512_i32 : BitVec 32 := 512#32
  let v575 : BitVec 32 := Scalar.muli arg27 c512_i32
  let v576 : BitVec 32 := v575
  let v805 : Index := Scalar.indexCast v576
  ![0, v805.toNat]
@[reducible] def k0_t2_loop : Scf.Loop 32 :=
  let c0_i32_271 : BitVec 32 := 0#32
  let c64_i32_272 : BitVec 32 := 64#32
  let v442 : BitVec 32 := Scalar.addi c0_i32_271 c64_i32_272
  let c1_i32_273 : BitVec 32 := 1#32
  ⟨c0_i32_271, v442, c1_i32_273⟩
def k0_mult2 (k0_t2 : Fin k0_t2_loop.trips) : BitVec 32 :=
  let c0_i32_271 : BitVec 32 := 0#32
  let c1_i32_273 : BitVec 32 := 1#32
  let arg27 : BitVec 32 := Scf.iv c0_i32_271 c1_i32_273 k0_t2
  let c512_i32 : BitVec 32 := 512#32
  let v575 : BitVec 32 := Scalar.muli arg27 c512_i32
  v575
def k0_off4 (k0_t2 : Fin k0_t2_loop.trips) : Fin 4 → Nat :=
  let c0_314 : Index := 0#32
  let c0_315 : Index := 0#32
  let c0_316 : Index := 0#32
  let c0_i32_271 : BitVec 32 := 0#32
  let c1_i32_273 : BitVec 32 := 1#32
  let arg27 : BitVec 32 := Scf.iv c0_i32_271 c1_i32_273 k0_t2
  let c512_i32 : BitVec 32 := 512#32
  let v575 : BitVec 32 := Scalar.muli arg27 c512_i32
  let v576 : BitVec 32 := v575
  let v577 : Index := Scalar.indexCast v576
  ![0, 0, 0, v577.toNat]
def k0_off5 (k0_t2 : Fin k0_t2_loop.trips) : Fin 3 → Nat :=
  let c0_318 : Index := 0#32
  let c0_319 : Index := 0#32
  let c0_i32_271 : BitVec 32 := 0#32
  let c1_i32_273 : BitVec 32 := 1#32
  let arg27 : BitVec 32 := Scf.iv c0_i32_271 c1_i32_273 k0_t2
  let c512_i32 : BitVec 32 := 512#32
  let v575 : BitVec 32 := Scalar.muli arg27 c512_i32
  let v576 : BitVec 32 := v575
  let v592 : Index := Scalar.indexCast v576
  ![0, 0, v592.toNat]
def k0_off6 (k0_t2 : Fin k0_t2_loop.trips) : Fin 2 → Nat :=
  let c0_322 : Index := 0#32
  let c0_i32_271 : BitVec 32 := 0#32
  let c1_i32_273 : BitVec 32 := 1#32
  let arg27 : BitVec 32 := Scf.iv c0_i32_271 c1_i32_273 k0_t2
  let c512_i32 : BitVec 32 := 512#32
  let v575 : BitVec 32 := Scalar.muli arg27 c512_i32
  let v576 : BitVec 32 := v575
  let v645 : Index := Scalar.indexCast v576
  ![0, v645.toNat]
def k0_cond2 (i : grid0.Coords) : BitVec 1 :=
  let arg0 : BitVec 32 := BitVec.ofNat 32 (i 0).val
  let c127_i32 : BitVec 32 := 127#32
  let v572 : BitVec 1 := Scalar.cmpi .eq arg0 c127_i32
  let v573 : BitVec 32 := Scalar.extui v572
  let c0_i32_313 : BitVec 32 := 0#32
  let v574 : BitVec 1 := Scalar.cmpi .ne v573 c0_i32_313
  v574

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x32x32768 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x32x32768 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x32768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x64x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x128 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S128x1x4096 : Shape := ⟨3, ![128, 1, 4096]⟩
abbrev S128x1x4x64 : Shape := ⟨4, ![128, 1, 4, 64]⟩
abbrev S128x32768x4x32 : Shape := ⟨4, ![128, 32768, 4, 32]⟩
abbrev S128x1024x4x64 : Shape := ⟨4, ![128, 1024, 4, 64]⟩
abbrev S128x32768x4 : Shape := ⟨3, ![128, 32768, 4]⟩
abbrev S128x128x4x64 : Shape := ⟨4, ![128, 128, 4, 64]⟩
abbrev S128x31x4x64 : Shape := ⟨4, ![128, 31, 4, 64]⟩
abbrev S128x32x4x64 : Shape := ⟨4, ![128, 32, 4, 64]⟩
abbrev S_ : Shape := ⟨0, ![]⟩
abbrev S128x4x64 : Shape := ⟨3, ![128, 4, 64]⟩
abbrev S128x1x4x32 : Shape := ⟨4, ![128, 1, 4, 32]⟩
abbrev S128x1x4 : Shape := ⟨3, ![128, 1, 4]⟩
abbrev S128x1x4x1 : Shape := ⟨4, ![128, 1, 4, 1]⟩
abbrev S128x1024x1x4x64 : Shape := ⟨5, ![128, 1024, 1, 4, 64]⟩
abbrev S128x1024x32x4x64 : Shape := ⟨5, ![128, 1024, 32, 4, 64]⟩
abbrev S128x32768x4x64 : Shape := ⟨4, ![128, 32768, 4, 64]⟩
abbrev S128x32768x4x32x1 : Shape := ⟨5, ![128, 32768, 4, 32, 1]⟩
abbrev S128x32768x4x32x2 : Shape := ⟨5, ![128, 32768, 4, 32, 2]⟩
abbrev S128x32768x4x1 : Shape := ⟨4, ![128, 32768, 4, 1]⟩
abbrev S128x1x4x32x1 : Shape := ⟨5, ![128, 1, 4, 32, 1]⟩
abbrev S128x1x4x32x2 : Shape := ⟨5, ![128, 1, 4, 32, 2]⟩
abbrev S128x32897x4x64 : Shape := ⟨4, ![128, 32897, 4, 64]⟩
abbrev S128x4x16x64 : Shape := ⟨4, ![128, 4, 16, 64]⟩
abbrev S128x4x16x32897 : Shape := ⟨4, ![128, 4, 16, 32897]⟩
abbrev S128x4x16 : Shape := ⟨3, ![128, 4, 16]⟩
abbrev S128x4x16x1 : Shape := ⟨4, ![128, 4, 16, 1]⟩
abbrev S128x64x64 : Shape := ⟨3, ![128, 64, 64]⟩

abbrev nBuf : Space → Nat
  | .hbm => 192
  | .vmem => 0
  | .smem => 0
  | _ => 0

abbrev hbmTy0_0 (i : Nat) : BufTy := match i % 128 with
  | 0 => ⟨S128x1x4096, .bf16⟩
  | 1 => ⟨S128x1x4x64, .bf16⟩
  | 2 => ⟨S128x1x4x64, .bf16⟩
  | 3 => ⟨S128x32768x4x32, .i8⟩
  | 4 => ⟨S128x1024x4x64, .f32⟩
  | 5 => ⟨S128x1024x4x64, .f32⟩
  | 6 => ⟨S128x32768x4x32, .i8⟩
  | 7 => ⟨S128x32768x4, .f32⟩
  | 8 => ⟨S128x32768x4, .f32⟩
  | 9 => ⟨S128x128x4x64, .bf16⟩
  | 10 => ⟨S128x128x4x64, .bf16⟩
  | 11 => ⟨S128x1x4x64, .f32⟩
  | 12 => ⟨S128x31x4x64, .bf16⟩
  | 13 => ⟨S128x32x4x64, .bf16⟩
  | 14 => ⟨S128x32x4x64, .f32⟩
  | 15 => ⟨S_, .f32⟩
  | 16 => ⟨S128x4x64, .f32⟩
  | 17 => ⟨S128x1x4x64, .f32⟩
  | 18 => ⟨S_, .f32⟩
  | 19 => ⟨S128x4x64, .f32⟩
  | 20 => ⟨S128x1x4x64, .f32⟩
  | 21 => ⟨S128x1x4x64, .f32⟩
  | 22 => ⟨S_, .f32⟩
  | 23 => ⟨S128x1x4x64, .f32⟩
  | 24 => ⟨S128x1x4x64, .i1⟩
  | 25 => ⟨S_, .f32⟩
  | 26 => ⟨S128x1x4x64, .f32⟩
  | 27 => ⟨S128x1x4x64, .f32⟩
  | 28 => ⟨S_, .f32⟩
  | 29 => ⟨S_, .f32⟩
  | 30 => ⟨S128x1x4x64, .f32⟩
  | 31 => ⟨S128x1x4x64, .f32⟩
  | 32 => ⟨S128x1x4x64, .f32⟩
  | 33 => ⟨S128x1x4x64, .f32⟩
  | 34 => ⟨S128x1x4x64, .f32⟩
  | 35 => ⟨S_, .i32⟩
  | 36 => ⟨S_, .i32⟩
  | 37 => ⟨S_, .f32⟩
  | 38 => ⟨S128x1x4x64, .f32⟩
  | 39 => ⟨S128x1x4x64, .f32⟩
  | 40 => ⟨S_, .f32⟩
  | 41 => ⟨S128x1x4x64, .f32⟩
  | 42 => ⟨S128x1x4x64, .f32⟩
  | 43 => ⟨S128x1x4x64, .i32⟩
  | 44 => ⟨S128x1x4x32, .i32⟩
  | 45 => ⟨S128x1x4x32, .i32⟩
  | 46 => ⟨S_, .i32⟩
  | 47 => ⟨S128x1x4x32, .i32⟩
  | 48 => ⟨S128x1x4x32, .i32⟩
  | 49 => ⟨S128x1x4x32, .i32⟩
  | 50 => ⟨S128x1x4x32, .i8⟩
  | 51 => ⟨S128x1x4x64, .f32⟩
  | 52 => ⟨S_, .f32⟩
  | 53 => ⟨S128x1x4, .f32⟩
  | 54 => ⟨S128x1x4x1, .f32⟩
  | 55 => ⟨S_, .f32⟩
  | 56 => ⟨S128x1x4, .f32⟩
  | 57 => ⟨S128x1x4x1, .f32⟩
  | 58 => ⟨S128x1x4x1, .f32⟩
  | 59 => ⟨S_, .f32⟩
  | 60 => ⟨S128x1x4x1, .f32⟩
  | 61 => ⟨S128x1x4x1, .i1⟩
  | 62 => ⟨S_, .f32⟩
  | 63 => ⟨S128x1x4x1, .f32⟩
  | 64 => ⟨S128x1x4x1, .f32⟩
  | 65 => ⟨S_, .f32⟩
  | 66 => ⟨S_, .f32⟩
  | 67 => ⟨S128x1x4x1, .f32⟩
  | 68 => ⟨S128x1x4x1, .f32⟩
  | 69 => ⟨S128x1x4x64, .f32⟩
  | 70 => ⟨S128x1x4x64, .f32⟩
  | 71 => ⟨S128x1x4x64, .f32⟩
  | 72 => ⟨S128x1x4x64, .f32⟩
  | 73 => ⟨S128x1x4x64, .f32⟩
  | 74 => ⟨S_, .i32⟩
  | 75 => ⟨S_, .i32⟩
  | 76 => ⟨S_, .f32⟩
  | 77 => ⟨S128x1x4x64, .f32⟩
  | 78 => ⟨S128x1x4x64, .f32⟩
  | 79 => ⟨S_, .f32⟩
  | 80 => ⟨S128x1x4x64, .f32⟩
  | 81 => ⟨S128x1x4x64, .f32⟩
  | 82 => ⟨S128x1x4x64, .i32⟩
  | 83 => ⟨S128x1x4x32, .i32⟩
  | 84 => ⟨S128x1x4x32, .i32⟩
  | 85 => ⟨S_, .i32⟩
  | 86 => ⟨S128x1x4x32, .i32⟩
  | 87 => ⟨S128x1x4x32, .i32⟩
  | 88 => ⟨S128x1x4x32, .i32⟩
  | 89 => ⟨S128x1x4x32, .i8⟩
  | 90 => ⟨S128x1024x1x4x64, .f32⟩
  | 91 => ⟨S128x1024x32x4x64, .f32⟩
  | 92 => ⟨S128x32768x4x64, .f32⟩
  | 93 => ⟨S128x1024x1x4x64, .f32⟩
  | 94 => ⟨S128x1024x32x4x64, .f32⟩
  | 95 => ⟨S128x32768x4x64, .f32⟩
  | 96 => ⟨S128x32768x4x32, .i32⟩
  | 97 => ⟨S_, .i32⟩
  | 98 => ⟨S128x32768x4x32, .i32⟩
  | 99 => ⟨S128x32768x4x32, .i32⟩
  | 100 => ⟨S_, .i32⟩
  | 101 => ⟨S128x32768x4x32, .i32⟩
  | 102 => ⟨S128x32768x4x32, .i32⟩
  | 103 => ⟨S128x32768x4x32x1, .i32⟩
  | 104 => ⟨S128x32768x4x32x1, .i32⟩
  | 105 => ⟨S128x32768x4x32x2, .i32⟩
  | 106 => ⟨S128x32768x4x64, .i32⟩
  | 107 => ⟨S128x32768x4x64, .f32⟩
  | 108 => ⟨S128x32768x4x64, .bf16⟩
  | 109 => ⟨S128x32768x4x64, .bf16⟩
  | 110 => ⟨S128x32768x4x64, .bf16⟩
  | 111 => ⟨S128x32768x4x64, .bf16⟩
  | 112 => ⟨S128x32768x4x64, .bf16⟩
  | 113 => ⟨S128x32768x4x1, .f32⟩
  | 114 => ⟨S128x32768x4x1, .f32⟩
  | 115 => ⟨S128x32768x4x32, .i32⟩
  | 116 => ⟨S_, .i32⟩
  | 117 => ⟨S128x32768x4x32, .i32⟩
  | 118 => ⟨S128x32768x4x32, .i32⟩
  | 119 => ⟨S_, .i32⟩
  | 120 => ⟨S128x32768x4x32, .i32⟩
  | 121 => ⟨S128x32768x4x32, .i32⟩
  | 122 => ⟨S128x32768x4x32x1, .i32⟩
  | 123 => ⟨S128x32768x4x32x1, .i32⟩
  | 124 => ⟨S128x32768x4x32x2, .i32⟩
  | 125 => ⟨S128x32768x4x64, .i32⟩
  | 126 => ⟨S128x32768x4x64, .f32⟩
  | 127 => ⟨S128x32768x4x64, .bf16⟩
  | _ => ⟨S128x1x4096, .bf16⟩

abbrev hbmTy0_1 (i : Nat) : BufTy := match i % 128 with
  | 0 => ⟨S128x32768x4x1, .bf16⟩
  | 1 => ⟨S128x32768x4x64, .bf16⟩
  | 2 => ⟨S128x32768x4x64, .bf16⟩
  | 3 => ⟨S128x32768x4x1, .bf16⟩
  | 4 => ⟨S128x32768x4x64, .bf16⟩
  | 5 => ⟨S128x32768x4x64, .bf16⟩
  | 6 => ⟨S128x1x4x32, .i32⟩
  | 7 => ⟨S_, .i32⟩
  | 8 => ⟨S128x1x4x32, .i32⟩
  | 9 => ⟨S128x1x4x32, .i32⟩
  | 10 => ⟨S_, .i32⟩
  | 11 => ⟨S128x1x4x32, .i32⟩
  | 12 => ⟨S128x1x4x32, .i32⟩
  | 13 => ⟨S128x1x4x32x1, .i32⟩
  | 14 => ⟨S128x1x4x32x1, .i32⟩
  | 15 => ⟨S128x1x4x32x2, .i32⟩
  | 16 => ⟨S128x1x4x64, .i32⟩
  | 17 => ⟨S128x1x4x64, .f32⟩
  | 18 => ⟨S128x1x4x64, .bf16⟩
  | 19 => ⟨S128x1x4x64, .bf16⟩
  | 20 => ⟨S128x1x4x64, .bf16⟩
  | 21 => ⟨S128x1x4x64, .bf16⟩
  | 22 => ⟨S128x1x4x64, .bf16⟩
  | 23 => ⟨S128x32897x4x64, .bf16⟩
  | 24 => ⟨S128x1x4x32, .i32⟩
  | 25 => ⟨S_, .i32⟩
  | 26 => ⟨S128x1x4x32, .i32⟩
  | 27 => ⟨S128x1x4x32, .i32⟩
  | 28 => ⟨S_, .i32⟩
  | 29 => ⟨S128x1x4x32, .i32⟩
  | 30 => ⟨S128x1x4x32, .i32⟩
  | 31 => ⟨S128x1x4x32x1, .i32⟩
  | 32 => ⟨S128x1x4x32x1, .i32⟩
  | 33 => ⟨S128x1x4x32x2, .i32⟩
  | 34 => ⟨S128x1x4x64, .i32⟩
  | 35 => ⟨S128x1x4x64, .f32⟩
  | 36 => ⟨S128x1x4x64, .bf16⟩
  | 37 => ⟨S128x1x4x1, .bf16⟩
  | 38 => ⟨S128x1x4x64, .bf16⟩
  | 39 => ⟨S128x1x4x64, .bf16⟩
  | 40 => ⟨S128x1x4x1, .bf16⟩
  | 41 => ⟨S128x1x4x64, .bf16⟩
  | 42 => ⟨S128x1x4x64, .bf16⟩
  | 43 => ⟨S128x32897x4x64, .bf16⟩
  | 44 => ⟨S128x4x16x64, .bf16⟩
  | 45 => ⟨S128x4x16x32897, .f32⟩
  | 46 => ⟨S_, .f32⟩
  | 47 => ⟨S128x4x16x32897, .f32⟩
  | 48 => ⟨S128x4x16x32897, .f32⟩
  | 49 => ⟨S_, .f32⟩
  | 50 => ⟨S128x4x16, .f32⟩
  | 51 => ⟨S128x4x16x1, .f32⟩
  | 52 => ⟨S128x4x16x32897, .f32⟩
  | 53 => ⟨S128x4x16x32897, .f32⟩
  | 54 => ⟨S128x4x16x32897, .f32⟩
  | 55 => ⟨S128x32897x4x64, .f32⟩
  | 56 => ⟨S128x4x16x64, .f32⟩
  | 57 => ⟨S_, .f32⟩
  | 58 => ⟨S128x4x16, .f32⟩
  | 59 => ⟨S128x4x16x1, .f32⟩
  | 60 => ⟨S128x4x16x64, .f32⟩
  | 61 => ⟨S128x4x16x64, .f32⟩
  | 62 => ⟨S128x64x64, .f32⟩
  | 63 => ⟨S128x64x64, .bf16⟩
  | _ => ⟨S128x1x4096, .bf16⟩

abbrev hbmTy (i : Nat) : BufTy := match i / 128 with
  | 0 => hbmTy0_0 i
  | 1 => hbmTy0_1 i
  | _ => ⟨S128x1x4096, .bf16⟩

abbrev bufTy : (tb : Table) → Fin (tcTables nBuf tb) → BufTy
  | .hbm, ⟨i, _⟩ => hbmTy i
  | _, _ => ⟨S128x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_c_4 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_6 : Ref sig .tc := ⟨.hbm, 52, rfl⟩
abbrev main_v26 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_8 : Ref sig .tc := ⟨.hbm, 59, rfl⟩
abbrev main_v31 : Ref sig .tc := ⟨.hbm, 60, rfl⟩
abbrev main_v32 : Ref sig .tc := ⟨.hbm, 61, rfl⟩
abbrev main_cst_9 : Ref sig .tc := ⟨.hbm, 62, rfl⟩
abbrev main_v33 : Ref sig .tc := ⟨.hbm, 63, rfl⟩
abbrev main_v34 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_c_11 : Ref sig .tc := ⟨.hbm, 74, rfl⟩
abbrev main_c_12 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c_13 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_14 : Ref sig .tc := ⟨.hbm, 97, rfl⟩
abbrev main_v56 : Ref sig .tc := ⟨.hbm, 98, rfl⟩
abbrev main_v57 : Ref sig .tc := ⟨.hbm, 99, rfl⟩
abbrev main_c_15 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_c_16 : Ref sig .tc := ⟨.hbm, 116, rfl⟩
abbrev main_v73 : Ref sig .tc := ⟨.hbm, 117, rfl⟩
abbrev main_v74 : Ref sig .tc := ⟨.hbm, 118, rfl⟩
abbrev main_c_17 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_18 : Ref sig .tc := ⟨.hbm, 135, rfl⟩
abbrev main_v90 : Ref sig .tc := ⟨.hbm, 136, rfl⟩
abbrev main_v91 : Ref sig .tc := ⟨.hbm, 137, rfl⟩
abbrev main_c_19 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_c_20 : Ref sig .tc := ⟨.hbm, 153, rfl⟩
abbrev main_v106 : Ref sig .tc := ⟨.hbm, 154, rfl⟩
abbrev main_v107 : Ref sig .tc := ⟨.hbm, 155, rfl⟩
abbrev main_c_21 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_22 : Ref sig .tc := ⟨.hbm, 174, rfl⟩
abbrev main_v125 : Ref sig .tc := ⟨.hbm, 175, rfl⟩
abbrev main_v126 : Ref sig .tc := ⟨.hbm, 176, rfl⟩
abbrev main_cst_23 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_24 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩

abbrev nD : Nat := 1
abbrev τ : Topo := Topo.v7x

variable {F : FTy → Type} [FloatOps F]
-- ==== Proof.FrameIdeal.lean ====
/- The frame of `Cert.KernelIdeal`: the body runs at every grid point from any contents of its windows and its
   scratch, and the pipeline around it leaves the argument arrays as they were. Nothing is said here of what
   the results hold. -/
module

public import proofs.«01_k».proof.Proof.Gen.KernelIdeal.Loops
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The body, decided by its two grid conditions, from any contents of every buffer it is handed, ends with every
    buffer at some contents. -/
theorem body_run (c : Dev nD) (i : grid0.Coords)
    (hc : (k0_cond1 i = 1#1 ∧ k0_cond2 i = 1#1) ∨ (k0_cond1 i = 1#1 ∧ ¬ k0_cond2 i = 1#1) ∨ (¬ k0_cond1 i = 1#1 ∧ k0_cond2 i = 1#1) ∨ (¬ k0_cond1 i = 1#1 ∧ ¬ k0_cond2 i = 1#1))
    (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x2x256 .bf16) (harg20 : arg20.IsWhole) (arg21 : Memref sig .tc .vmem S1024x2x256 .bf16) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) Set.univ (cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__attn_kernel_eq_skeleton]; unfold cc0__attn_kernel_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  rcases hc with ⟨h1, h2⟩ | ⟨h1, h2⟩ | ⟨h1, h2⟩ | ⟨h1, h2⟩
  all_goals
    sl_exec (disch := first | sl_exact h1 | sl_exact h2)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl

    iexists _, _; isplitr; swap; · iexact H26
    ipureintro; rfl

variable (m : (ℓ : Loc nD τ sig) → Buf (Elt F) ℓ) (ρ : Dev nD → PrngReg)

/-- The proof data of the pipeline, naming no window's contents. -/
def fdats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem defs₀_row (t : Fin cfg0.N) :
    defs₀ (F := F) .tc cfg0.body (cfg0.bodyArgs t (cfg0.slots t)) = bodyAt0 t := by
  unfold defs₀; rw [Defs.onTc_tc]

/-- The pipeline's invariant with the scratch buffers owned at some contents each. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

theorem fsound (c : Dev nD) (t : Fin cfg0.N) :
    iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) ∗ (fdats (F := F) m 0 c).owesAt () t.castSucc ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X))
      ⊢ wp frame (wpE (defs₀ (F := F)) Variants.none c none) Set.univ (bodyAt0 (F := F) t) (fun _ =>
    iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) ∗ (fdats (F := F) m 0 c).owesAt () t.succ ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X))) := by
  iintro ⟨⟨⟨H19, H20, H21, H22, H23, H24, H25, H26⟩, Hg⟩, HW, H1, H2, H3, H4, H5, H6, H7, H8, H9, H10, H11, H12, H13, H14, H15, H16, H17, H18⟩
  iapply (body_run c (grid0.coords t) (by by_cases h1 : k0_cond1 (grid0.coords t) = 1#1 <;> by_cases h2 : k0_cond2 (grid0.coords t) = 1#1 <;> tauto))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H1, H2, H3, H4, H5, H6, H7, H8, H9, H10, H11, H12, H13, H14, H15, H16, H17, H18, H19, H20, H21, H22, H23, H24, H25, H26⟩
  isplitl [H19 H20 H21 H22 H23 H24 H25 H26 Hg]
  · isplitr [Hg]
    · isplitl [H19]; · iexact H19
      isplitl [H20]; · iexact H20
      isplitl [H21]; · iexact H21
      isplitl [H22]; · iexact H22
      isplitl [H23]; · iexact H23
      isplitl [H24]; · iexact H24
      isplitl [H25]; · iexact H25
      iexact H26
    iexact Hg
  isplitl [HW]; · iexact HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem fbody (c : Dev nD) : BodyObligation (fdats (F := F) m 0 c) (defs₀ (F := F)) Variants.none () Set.univ (fun _ => true) := fun t => by
  rw [bigSep_W0, defs₀_row, show (fdats (F := F) m 0 c).Φ t.castSucc = Pipeline.ΦA spec0 c from rfl, show (fdats (F := F) m 0 c).Φ t.succ = Pipeline.ΦA spec0 c from rfl, PhiA_eq]
  exact triple_restated (fsound m c t) rfl .rfl fun _ => .rfl

set_option backward.isDefEq.respectTransparency.types false in
theorem frun : θ_run defs (onTc (τ := τ) (main (F := F))) (s₀ m ρ)
    (fun r => Pipeline.RDat.FramePost cfg0 (fun c => (fdats m 0 c).toRForget (fun _ => true)) (V m) r ∧ r.2.sem = fun _ => 0) :=
  Pipeline.θ_run_frame_forget (Q' := _) cfgs (fdats m) (0 : Fin 1) launch0 defs₀ Variants.none (fun _ => true) m ρ main
    (hbody := fun c => (fbody m c).loose) (hshare := fun c => (fdats m 0 c).share_full fun _ => rfl)
    (howed := fun _ _ => rfl) (V := V m) (hmain := hmain m Variants.none) (hA := fA_eq m) (hΦ := fun _ _ => rfl)

/-- The frame: every run ends with the argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (frun m ρ)

end Cert.KernelIdeal.Hand

end
-- ==== Proof.FrameBits.lean ====
/- The frame of `Cert.Kernel`: the body runs at every grid point from any contents of its windows and its
   scratch, and the pipeline around it leaves the argument arrays as they were. Nothing is said here of what
   the results hold. -/
module

public import proofs.«01_k».proof.Proof.Gen.Kernel.Loops
public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [BitOps F]

local notation "𝕄" => MT nD τ sig Unit (Elt F) ℕ (UR sig nD τ) ℕ

/-- The body, decided by its two grid conditions, from any contents of every buffer it is handed, ends with every
    buffer at some contents. -/
theorem body_run (c : Dev nD) (i : grid0.Coords)
    (hc : (k0_cond1 i = 1#1 ∧ k0_cond2 i = 1#1) ∨ (k0_cond1 i = 1#1 ∧ ¬ k0_cond2 i = 1#1) ∨ (¬ k0_cond1 i = 1#1 ∧ k0_cond2 i = 1#1) ∨ (¬ k0_cond1 i = 1#1 ∧ ¬ k0_cond2 i = 1#1))
    (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x256 .i32) (harg20 : arg20.IsWhole) (arg21 : Memref sig .tc .vmem S1024x256 .i32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) Set.univ (cc0__attn_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__attn_kernel_eq_skeleton]; unfold cc0__attn_kernel_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  rcases hc with ⟨h1, h2⟩ | ⟨h1, h2⟩ | ⟨h1, h2⟩ | ⟨h1, h2⟩
  all_goals
    sl_exec (disch := first | sl_exact h1 | sl_exact h2)
    sl_step
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl

    iexists _, _; isplitr; swap; · iexact H26
    ipureintro; rfl

variable (m : (ℓ : Loc nD τ sig) → Buf (Elt F) ℓ) (ρ : Dev nD → PrngReg)

/-- The proof data of the pipeline, naming no window's contents. -/
def fdats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem defs₀_row (t : Fin cfg0.N) :
    defs₀ (F := F) .tc cfg0.body (cfg0.bodyArgs t (cfg0.slots t)) = bodyAt0 t := by
  unfold defs₀; rw [Defs.onTc_tc]

/-- The pipeline's invariant with the scratch buffers owned at some contents each. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

theorem fsound (c : Dev nD) (t : Fin cfg0.N) :
    iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) ∗ (fdats (F := F) m 0 c).owesAt () t.castSucc ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X))
      ⊢ wp frame (wpE (defs₀ (F := F)) Variants.none c none) Set.univ (bodyAt0 (F := F) t) (fun _ =>
    iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) ∗ (fdats (F := F) m 0 c).owesAt () t.succ ∗ (∃ X, owns (c : Thread nD τ) (win0_0.stage (cfg0.slots t 0)) fullShare X) ∗ (∃ X, owns (c : Thread nD τ) (win0_1.stage (cfg0.slots t 1)) fullShare X) ∗ (∃ X, owns (c : Thread nD τ) (win0_2.stage (cfg0.slots t 2)) fullShare X) ∗ (∃ X, owns (c : Thread nD τ) (win0_3.stage (cfg0.slots t 3)) fullShare X) ∗ (∃ X, owns (c : Thread nD τ) (win0_4.stage (cfg0.slots t 4)) fullShare X) ∗ (∃ X, owns (c : Thread nD τ) (win0_5.stage (cfg0.slots t 5)) fullShare X) ∗ (∃ X, owns (c : Thread nD τ) (win0_6.stage (cfg0.slots t 6)) fullShare X) ∗ (∃ X, owns (c : Thread nD τ) (win0_7.stage (cfg0.slots t 7)) fullShare X) ∗ (∃ X, owns (c : Thread nD τ) (win0_8.stage (cfg0.slots t 8)) fullShare X) ∗ (∃ X, owns (c : Thread nD τ) (win0_9.stage (cfg0.slots t 9)) fullShare X) ∗ (∃ X, owns (c : Thread nD τ) (win0_10.stage (cfg0.slots t 10)) fullShare X) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X))) := by
  iintro ⟨⟨⟨H19, H20, H21, H22, H23, H24, H25, H26⟩, Hg⟩, HW, H1, H2, H3, H4, H5, H6, H7, H8, H9, H10, H11, H12, H13, H14, H15, H16, H17, H18⟩
  iapply (body_run c (grid0.coords t) (by by_cases h1 : k0_cond1 (grid0.coords t) = 1#1 <;> by_cases h2 : k0_cond2 (grid0.coords t) = 1#1 <;> tauto))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H1, H2, H3, H4, H5, H6, H7, H8, H9, H10, H11, H12, H13, H14, H15, H16, H17, H18, H19, H20, H21, H22, H23, H24, H25, H26⟩
  isplitl [H19 H20 H21 H22 H23 H24 H25 H26 Hg]
  · isplitr [Hg]
    · isplitl [H19]; · iexact H19
      isplitl [H20]; · iexact H20
      isplitl [H21]; · iexact H21
      isplitl [H22]; · iexact H22
      isplitl [H23]; · iexact H23
      isplitl [H24]; · iexact H24
      isplitl [H25]; · iexact H25
      iexact H26
    iexact Hg
  isplitl [HW]; · iexact HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem fbody (c : Dev nD) : BodyObligation (fdats (F := F) m 0 c) (defs₀ (F := F)) Variants.none () Set.univ (fun _ => true) := fun t => by
  rw [bigSep_W0, defs₀_row, show (fdats (F := F) m 0 c).Φ t.castSucc = Pipeline.ΦA spec0 c from rfl, show (fdats (F := F) m 0 c).Φ t.succ = Pipeline.ΦA spec0 c from rfl, PhiA_eq]
  exact triple_restated (fsound m c t) rfl .rfl fun _ => .rfl

set_option backward.isDefEq.respectTransparency.types false in
theorem frun : θ_run defs (onTc (τ := τ) (main (F := F))) (s₀ m ρ)
    (fun r => Pipeline.RDat.FramePost cfg0 (fun c => (fdats m 0 c).toRForget (fun _ => true)) (V m) r ∧ r.2.sem = fun _ => 0) :=
  Pipeline.θ_run_frame_forget (Q' := _) cfgs (fdats m) (0 : Fin 1) launch0 defs₀ Variants.none (fun _ => true) m ρ main
    (hbody := fun c => (fbody m c).loose) (hshare := fun c => (fdats m 0 c).share_full fun _ => rfl)
    (howed := fun _ _ => rfl) (V := V m) (hmain := hmain m Variants.none) (hA := fA_eq m) (hΦ := fun _ _ => rfl)

/-- The frame: every run ends with the argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (frun m ρ)

end Cert.Kernel.Hand

end
-- ==== Proof.Nib.lean ====
/- Packed 4-bit codes read through a word: four bytes of a column as one 32-bit word, masked (or shifted by four and
   masked), and taken apart again are the low (or high) nibbles of the bytes. -/
module

public import proofs.«01_k».proof.Proof.Gen.KernelIdeal.Skeleton
public import Idealize.ShloMosaic.Lib.BitcastFour
public import Idealize.ShloMosaic.Lib.Pointwise

@[expose] public section

noncomputable section

namespace Cert.KernelIdeal.Val

open Idealize.ShloMosaic

/-- A word's byte, taken at 8 bits from the word array, at a bit. -/
theorem bitcast_32_8_getLsbD {R r n : Nat} (y : (⟨2, ![r, n]⟩ : Shape).Idx → BitVec 32)
    (h : (⟨2, ![r, n]⟩ : Shape).Bitcasts 32 ⟨2, ![R, n]⟩ 8) (a : Fin R) (l : Fin n) (q : Nat) (hq : q < 8) (p : Fin r)
    (hp : p.val = a.val / 4) :
    (bitcast ⟨2, ![R, n]⟩ 8 y h (ix2 a l)).getLsbD q = (y (ix2 p l)).getLsbD (8 * (a.val % 4) + q) := by
  rw [bitcast_getLsbD y h _ q hq (by decide)]
  have hrow : (⟨2, ![R, n]⟩ : Shape).row (ix2 a l) = a.val := rfl
  have e : (a.val * 8 + q) / 32 = p.val := by omega
  have e2 : (a.val * 8 + q) % 32 = 8 * (a.val % 4) + q := by omega
  rw [show ((⟨2, ![R, n]⟩ : Shape).row (ix2 a l) * 8 + q) % 32 = 8 * (a.val % 4) + q by rw [hrow]; exact e2]
  congr 2
  funext d
  match d with
  | ⟨0, _⟩ => exact Fin.ext (by simpa [Shape.Bitcasts.srcIdx, hrow] using e)
  | ⟨1, _⟩ => rfl

theorem bitcast_8_32_get {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 32) (p : Fin R)
    (hp : p.val = 4 * a.val + q / 8) :
    (bitcast ⟨2, ![r, n]⟩ 32 x h (ix2 a l)).getLsbD q = (x (ix2 p l)).getLsbD (q % 8) := by
  have := bitcast_8_32_getLsbD_ix2 x h a l q hq p hp
  exact this

theorem mask_bit (k : Nat) (q : Nat) (hk : k < 4) (hq : q < 8) :
    (252645135#32 : BitVec 32).getLsbD (8 * k + q) = decide (q < 4) := by
  interval_cases k <;> interval_cases q <;> rfl

theorem fifteen_bit (q : Nat) (hq : q < 8) : (15#8 : BitVec 8).getLsbD q = decide (q < 4) := by
  interval_cases q <;> rfl

/-- The low nibble through the word. -/
theorem nib_lo {R r n : Nat} (hr : R ≤ 4 * r) (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (a : Fin R) (l : Fin n) :
    bitcast ⟨2, ![R, n]⟩ 8 (andi (bitcast ⟨2, ![r, n]⟩ 32 x h) (broadcast ⟨2, ![r, n]⟩ 252645135#32)) h' (ix2 a l)
      = x (ix2 a l) &&& 15#8 := by
  apply BitVec.eq_of_getLsbD_eq
  intro q hq
  rw [bitcast_32_8_getLsbD _ h' a l q hq ⟨a.val / 4, by have := a.isLt; omega⟩ rfl]
  show (IntOp.andi _ (252645135#32)).getLsbD _ = _
  unfold IntOp.andi
  rw [BitVec.getLsbD_and, BitVec.getLsbD_and, bitcast_8_32_get x h _ l _ (by omega) a (by show a.val = 4 * (a.val / 4) + _; omega),
    mask_bit _ _ (by omega) hq, fifteen_bit _ hq, show (8 * (a.val % 4) + q) % 8 = q by omega]

/-- The high nibble through the word. -/
theorem nib_hi {R r n : Nat} (hr : R ≤ 4 * r) (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (a : Fin R) (l : Fin n) :
    bitcast ⟨2, ![R, n]⟩ 8 (andi (shrsi (bitcast ⟨2, ![r, n]⟩ 32 x h) (broadcast ⟨2, ![r, n]⟩ 4#32)) (broadcast ⟨2, ![r, n]⟩ 252645135#32)) h' (ix2 a l)
      = x (ix2 a l) >>> 4 := by
  apply BitVec.eq_of_getLsbD_eq
  intro q hq
  rw [bitcast_32_8_getLsbD _ h' a l q hq ⟨a.val / 4, by have := a.isLt; omega⟩ rfl]
  show (IntOp.andi (IntOp.shrsi .vector _ 4#32) (252645135#32)).getLsbD _ = _
  unfold IntOp.andi IntOp.shrsi
  rw [BitVec.getLsbD_and, mask_bit _ _ (by omega) hq, BitVec.getLsbD_ushiftRight]
  by_cases h4 : q < 4
  · rw [if_pos (by decide), BitVec.sshiftRight_eq', BitVec.getLsbD_sshiftRight]
    simp only [h4, decide_true, Bool.and_true]
    rw [show (4#32 : BitVec 32).toNat = 4 from rfl, if_pos (by omega), decide_eq_false (by omega : ¬ (32 ≤ 8 * (a.val % 4) + q)),
      bitcast_8_32_get x h _ l _ (by omega) a (by show a.val = 4 * (a.val / 4) + _; omega)]
    rw [Bool.not_false, Bool.true_and]
    congr 1; omega
  · simp only [h4, decide_false, Bool.and_false]
    rw [BitVec.getLsbD_of_ge _ _ (by omega)]

end Cert.KernelIdeal.Val
-- ==== Proof.PayK.lean ====
/- One trip of the score loop, element by element: sixteen groups of 32 tokens, each decoded by its scale and zero
   rows, and the product with the query. -/
module

public import proofs.«01_k».proof.Proof.Nib

@[expose] public section

set_option maxRecDepth 16384
set_option maxHeartbeats 2000000

noncomputable section

namespace Cert.KernelIdeal.Val

open Idealize.ShloMosaic Cert.KernelIdeal Cert.KernelIdeal.Gen

/-- The value of a nibble's byte. -/
def nibv (p : Nat) (b : BitVec 8) : EReal := (((if p = 0 then b &&& 15#8 else b >>> 4 : BitVec 8).toInt : ℝ) : EReal)

theorem concat16 (x : FVec Ideal S1x256 .bf16)
    (h : Shape.Concatenates [S1x256, S1x256, S1x256, S1x256, S1x256, S1x256, S1x256, S1x256, S1x256, S1x256, S1x256, S1x256, S1x256, S1x256, S1x256, S1x256] S16x256 0) :
    concatenate S16x256 0 [⟨S1x256, x⟩, ⟨S1x256, x⟩, ⟨S1x256, x⟩, ⟨S1x256, x⟩, ⟨S1x256, x⟩, ⟨S1x256, x⟩, ⟨S1x256, x⟩, ⟨S1x256, x⟩, ⟨S1x256, x⟩, ⟨S1x256, x⟩, ⟨S1x256, x⟩, ⟨S1x256, x⟩, ⟨S1x256, x⟩, ⟨S1x256, x⟩, ⟨S1x256, x⟩, ⟨S1x256, x⟩] h = fun i => x (ix2 0 (i 1)) := by
  funext i
  refine concatenate_replicate_apply (t := S16x256) (s₁ := S1x256) 0 16 x h rfl i _ ?_ ?_
  · exact (Nat.mod_one _).symm
  · intro b hb
    match b with
    | ⟨0, _⟩ => exact absurd rfl hb
    | ⟨1, _⟩ => rfl

/-- The unpacked codes of 512 tokens: token `t`, channel row `r` (the low nibbles first). -/
theorem pay10_apply (v : Vec Ideal S1x4x32x512 .i8) (t : Fin 512) (r : Fin 256) :
    k0_pay10 (F := Ideal) v (ix2 t r)
      = nibv (r.val / 128) (v (ix4 0 ⟨r.val % 128 / 32, by omega⟩ ⟨r.val % 32, by omega⟩ t)) := by
  unfold k0_pay10
  dsimp only
  pointwise
  by_cases hr : r.val < 128
  · have hn : ∀ b, nibv (r.val / 128) b = (((b &&& 15#8 : BitVec 8).toInt : ℝ) : EReal) := fun b => by
      unfold nibv; rw [if_pos (by omega)]
    rw [dif_pos hr, nib_lo (by decide), hn]
    pointwise
    rw [show (⟨r.val % 128 / 32, by omega⟩ : Fin 4) = ⟨r.val / 32, by omega⟩ from Fin.ext (by show r.val % 128 / 32 = r.val / 32; omega)]
    rfl
  · have hn : ∀ b, nibv (r.val / 128) b = (((b >>> 4 : BitVec 8).toInt : ℝ) : EReal) := fun b => by
      unfold nibv; rw [if_neg (by omega)]
    rw [dif_neg hr, nib_hi (by decide), hn]
    pointwise
    have h1 : (r.val - 128) / 32 = r.val % 128 / 32 := by omega
    have h2 : (r.val - 128) % 32 = r.val % 32 := by omega
    simp only [h1, h2]
    rfl

/-- The row of a pair that a token's parity picks. -/
def psel (s : Vec Ideal S1x2x256 .bf16) (a : Nat) (r : Fin 256) : EReal := if a % 2 = 0 then s (ix3 0 0 r) else s (ix3 0 1 r)

theorem grp0 (v : Vec Ideal S1x4x32x512 .i8) (s z : Vec Ideal S1x2x256 .bf16) (a : Fin 32) (r : Fin 256) :
    k0_pay11 (F := Ideal) v s z (ix2 a r) = k0_pay10 (F := Ideal) v (ix2 ⟨a.val, by omega⟩ r) * psel s a.val r + psel z a.val r := by
  unfold k0_pay11
  simp only [concat16]
  generalize k0_pay10 (F := Ideal) v = c
  unfold psel
  pointwise

theorem grp1 (c : FVec Ideal S512x256 .bf16) (s z : Vec Ideal S1x2x256 .bf16) (a : Fin 32) (r : Fin 256) :
    k0_pay14 (F := Ideal) c (k0_pay12 (F := Ideal) s) (k0_pay13 (F := Ideal) s) z (ix2 a r) = c (ix2 ⟨32 + a.val, by omega⟩ r) * psel s a.val r + psel z a.val r := by
  unfold k0_pay14 k0_pay12 k0_pay13
  simp only [concat16]
  unfold psel
  pointwise

theorem grp2 (c : FVec Ideal S512x256 .bf16) (s z : Vec Ideal S1x2x256 .bf16) (a : Fin 32) (r : Fin 256) :
    k0_pay15 (F := Ideal) c s z (ix2 a r) = c (ix2 ⟨64 + a.val, by omega⟩ r) * psel s a.val r + psel z a.val r := by
  unfold k0_pay15
  simp only [concat16]
  unfold psel
  pointwise

theorem grp3 (c : FVec Ideal S512x256 .bf16) (s z : Vec Ideal S1x2x256 .bf16) (a : Fin 32) (r : Fin 256) :
    k0_pay18 (F := Ideal) (k0_pay16 (F := Ideal) z) (k0_pay17 (F := Ideal) c s) (ix2 a r) = c (ix2 ⟨96 + a.val, by omega⟩ r) * psel s a.val r + psel z a.val r := by
  unfold k0_pay18 k0_pay16 k0_pay17
  simp only [concat16]
  unfold psel
  pointwise

theorem grp4 (c : FVec Ideal S512x256 .bf16) (s z : Vec Ideal S1x2x256 .bf16) (a : Fin 32) (r : Fin 256) :
    k0_pay19 (F := Ideal) c s z (ix2 a r) = c (ix2 ⟨128 + a.val, by omega⟩ r) * psel s a.val r + psel z a.val r := by
  unfold k0_pay19
  simp only [concat16]
  unfold psel
  pointwise

theorem grp5 (c : FVec Ideal S512x256 .bf16) (s z : Vec Ideal S1x2x256 .bf16) (a : Fin 32) (r : Fin 256) :
    k0_pay20 (F := Ideal) c s z (ix2 a r) = c (ix2 ⟨160 + a.val, by omega⟩ r) * psel s a.val r + psel z a.val r := by
  unfold k0_pay20
  simp only [concat16]
  unfold psel
  pointwise

theorem grp6 (c : FVec Ideal S512x256 .bf16) (s z : Vec Ideal S1x2x256 .bf16) (a : Fin 32) (r : Fin 256) :
    k0_pay22 (F := Ideal) c (k0_pay21 (F := Ideal) s) z (ix2 a r) = c (ix2 ⟨192 + a.val, by omega⟩ r) * psel s a.val r + psel z a.val r := by
  unfold k0_pay22 k0_pay21
  simp only [concat16]
  unfold psel
  pointwise

theorem grp7 (c : FVec Ideal S512x256 .bf16) (s z : Vec Ideal S1x2x256 .bf16) (a : Fin 32) (r : Fin 256) :
    k0_pay23 (F := Ideal) c s z (ix2 a r) = c (ix2 ⟨224 + a.val, by omega⟩ r) * psel s a.val r + psel z a.val r := by
  unfold k0_pay23
  simp only [concat16]
  unfold psel
  pointwise

theorem grp8 (c : FVec Ideal S512x256 .bf16) (s z : Vec Ideal S1x2x256 .bf16) (a : Fin 32) (r : Fin 256) :
    k0_pay24 (F := Ideal) c s z (ix2 a r) = c (ix2 ⟨256 + a.val, by omega⟩ r) * psel s a.val r + psel z a.val r := by
  unfold k0_pay24
  simp only [concat16]
  unfold psel
  pointwise

theorem grp9 (c : FVec Ideal S512x256 .bf16) (s z : Vec Ideal S1x2x256 .bf16) (a : Fin 32) (r : Fin 256) :
    k0_pay25 (F := Ideal) c s z (ix2 a r) = c (ix2 ⟨288 + a.val, by omega⟩ r) * psel s a.val r + psel z a.val r := by
  unfold k0_pay25
  simp only [concat16]
  unfold psel
  pointwise

theorem grp10 (c : FVec Ideal S512x256 .bf16) (s z : Vec Ideal S1x2x256 .bf16) (a : Fin 32) (r : Fin 256) :
    k0_pay26 (F := Ideal) c s z (ix2 a r) = c (ix2 ⟨320 + a.val, by omega⟩ r) * psel s a.val r + psel z a.val r := by
  unfold k0_pay26
  simp only [concat16]
  unfold psel
  pointwise

theorem grp11 (c : FVec Ideal S512x256 .bf16) (s z : Vec Ideal S1x2x256 .bf16) (a : Fin 32) (r : Fin 256) :
    k0_pay30 (F := Ideal) c (k0_pay27 (F := Ideal) s) (k0_pay28 (F := Ideal) z) (k0_pay29 (F := Ideal) z) (ix2 a r) = c (ix2 ⟨352 + a.val, by omega⟩ r) * psel s a.val r + psel z a.val r := by
  unfold k0_pay30 k0_pay27 k0_pay28 k0_pay29
  simp only [concat16]
  unfold psel
  pointwise

theorem grp12 (c : FVec Ideal S512x256 .bf16) (s z : Vec Ideal S1x2x256 .bf16) (a : Fin 32) (r : Fin 256) :
    k0_pay31 (F := Ideal) c s z (ix2 a r) = c (ix2 ⟨384 + a.val, by omega⟩ r) * psel s a.val r + psel z a.val r := by
  unfold k0_pay31
  simp only [concat16]
  unfold psel
  pointwise

theorem grp13 (c : FVec Ideal S512x256 .bf16) (s z : Vec Ideal S1x2x256 .bf16) (a : Fin 32) (r : Fin 256) :
    k0_pay32 (F := Ideal) c s z (ix2 a r) = c (ix2 ⟨416 + a.val, by omega⟩ r) * psel s a.val r + psel z a.val r := by
  unfold k0_pay32
  simp only [concat16]
  unfold psel
  pointwise

theorem grp14 (c : FVec Ideal S512x256 .bf16) (s z : Vec Ideal S1x2x256 .bf16) (a : Fin 32) (r : Fin 256) :
    k0_pay35 (F := Ideal) c (k0_pay33 (F := Ideal) s) (k0_pay34 (F := Ideal) s) z (ix2 a r) = c (ix2 ⟨448 + a.val, by omega⟩ r) * psel s a.val r + psel z a.val r := by
  unfold k0_pay35 k0_pay33 k0_pay34
  simp only [concat16]
  unfold psel
  pointwise

theorem grp15 (c : FVec Ideal S512x256 .bf16) (s z : Vec Ideal S1x2x256 .bf16) (a : Fin 32) (r : Fin 256) :
    k0_pay36 (F := Ideal) c s z (ix2 a r) = c (ix2 ⟨480 + a.val, by omega⟩ r) * psel s a.val r + psel z a.val r := by
  unfold k0_pay36
  simp only [concat16]
  unfold psel
  pointwise

/-- The scores of a trip: the product of the query with the sixteen groups, stacked. -/
theorem pay37_apply (q : FVec Ideal S64x256 .bf16) (g0 g1 g2 g3 g4 g5 g6 g7 g8 g9 g10 g11 g12 g13 g14 g15 : FVec Ideal S32x256 .bf16) (h : Fin 64) (t : Fin 512) :
    k0_pay37 (F := Ideal) q g0 g1 g2 g3 g4 g5 g6 g7 g8 g9 g10 g11 g12 g13 g14 g15 (ix2 h t)
      = ∑ r : Fin 256, q (ix2 h r) * (![g0, g1, g2, g3, g4, g5, g6, g7, g8, g9, g10, g11, g12, g13, g14, g15] ⟨t.val / 32, by omega⟩ : FVec Ideal S32x256 .bf16) (ix2 ⟨t.val % 32, by omega⟩ r) := by
  unfold k0_pay37
  generalize hC : concatenate S512x256 0 _ _ = C
  have hCa : ∀ r : Fin 256, C (ix2 t r) = (![g0, g1, g2, g3, g4, g5, g6, g7, g8, g9, g10, g11, g12, g13, g14, g15] ⟨t.val / 32, by omega⟩ : FVec Ideal S32x256 .bf16) (ix2 ⟨t.val % 32, by omega⟩ r) := by
    intro r
    rw [← hC]
    refine concatenate_ofFn_apply (t := S512x256) (s₁ := S32x256) 0 (N := 16) (![g0, g1, g2, g3, g4, g5, g6, g7, g8, g9, g10, g11, g12, g13, g14, g15]) _ rfl 32 rfl _ ⟨t.val / 32, by omega⟩ rfl _ rfl ?_
    intro b hb
    match b with
    | ⟨0, _⟩ => exact absurd rfl hb
    | ⟨1, _⟩ => rfl
  pointwise
  exact Finset.sum_congr rfl fun r _ => congrArg _ (hCa r)
end Cert.KernelIdeal.Val
-- ==== Proof.PayV.lean ====
/- The value loop's trip and the closing payloads, element by element. -/
module

public import proofs.«01_k».proof.Proof.PayK

@[expose] public section

set_option maxRecDepth 16384
set_option maxHeartbeats 2000000

noncomputable section

namespace Cert.KernelIdeal.Val

open Idealize.ShloMosaic Cert.KernelIdeal Cert.KernelIdeal.Gen

theorem pay41_apply (v : Vec Ideal S1x4x32x512 .i8) (a : Fin 128) (t : Fin 512) :
    k0_pay41 (F := Ideal) v (ix2 a t) = nibv 0 (v (ix4 0 ⟨a.val / 32, by omega⟩ ⟨a.val % 32, by omega⟩ t)) := by
  unfold k0_pay41 k0_pay40
  pointwise
  rw [nib_lo (by decide)]
  pointwise
  rfl

theorem pay42_apply (v : Vec Ideal S1x4x32x512 .i8) (a : Fin 128) (t : Fin 512) :
    k0_pay42 (F := Ideal) v (ix2 a t) = nibv 1 (v (ix4 0 ⟨a.val / 32, by omega⟩ ⟨a.val % 32, by omega⟩ t)) := by
  unfold k0_pay42 k0_pay40
  pointwise
  rw [nib_hi (by decide)]
  pointwise
  rfl

theorem pay43_apply (v : Vec Ideal S1x4x512 .f32) (a : Fin 4) (t : Fin 512) :
    k0_pay43 (F := Ideal) v (ix2 a t) = v (ix3 0 a t) := by
  pointwise [k0_pay43]

theorem pay44_apply (v : Vec Ideal S1x4x512 .f32) (a : Fin 128) (t : Fin 512) :
    k0_pay44 (F := Ideal) v (ix2 a t) = v (ix3 0 ⟨a.val / 32, by omega⟩ t) := by
  pointwise [k0_pay44]
  have e : ∀ b : Fin 4, a.val / 32 = b.val → v (ix3 0 b t) = v (ix3 0 ⟨a.val / 32, by omega⟩ t) := by
    intro b hb; congr 2; exact Fin.ext hb.symm
  split
  · split <;> exact e 0 (by change _ = 0; omega)
  split
  · split <;> exact e 1 (by change _ = 1; omega)
  split
  · split <;> exact e 2 (by change _ = 2; omega)
  · split <;> exact e 3 (by change _ = 3; omega)

/-- The weight of a score against the running maximum. -/
def prob (s m : EReal) : EReal := Ideal.exp ((s - m) * Ideal.ofBits FTy.f32 1040187392#32)

theorem pay140_apply (m : FVec Ideal S64x1 .f32) (s : Vec Ideal S64x512 .f32) (h : Fin 64) (t : Fin 512) :
    k0_pay140 (F := Ideal) m s (ix2 h t) = prob (s (ix2 h t)) (m (ix2 h 0)) := by
  pointwise [k0_pay140]
  rfl

theorem pay142_apply (m : FVec Ideal S64x1 .f32) (l : FVec Ideal S64x128 .f32) (s : Vec Ideal S64x512 .f32) (h : Fin 64) (t : Fin 128) :
    k0_pay142 (F := Ideal) m l s (ix2 h t) = l (ix2 h t) +
      (prob (s (ix2 h ⟨t.val, by omega⟩)) (m (ix2 h 0)) + prob (s (ix2 h ⟨128 + t.val, by omega⟩)) (m (ix2 h 0))
        + prob (s (ix2 h ⟨256 + t.val, by omega⟩)) (m (ix2 h 0)) + prob (s (ix2 h ⟨384 + t.val, by omega⟩)) (m (ix2 h 0))) := by
  unfold k0_pay142
  simp only [← pay140_apply]
  generalize k0_pay140 (F := Ideal) m s = p
  pointwise

theorem pay141_apply (m : FVec Ideal S64x1 .f32) (acc : FVec Ideal S64x256 .f32) (lo hi : FVec Ideal S128x512 .bf16)
    (z : FVec Ideal S4x512 .f32) (sc : FVec Ideal S128x512 .bf16) (s : Vec Ideal S64x512 .f32) (h : Fin 64) (r : Fin 256) :
    k0_pay141 (F := Ideal) m acc lo hi z sc s (ix2 h r) = acc (ix2 h r) + ∑ t : Fin 512, prob (s (ix2 h t)) (m (ix2 h 0)) *
      ((if r.val / 128 = 0 then lo (ix2 ⟨r.val % 128, by omega⟩ t) else hi (ix2 ⟨r.val % 128, by omega⟩ t)) * sc (ix2 ⟨r.val % 128, by omega⟩ t)
        + z (ix2 ⟨r.val % 128 / 32, by omega⟩ t)) := by
  unfold k0_pay141
  simp only [← pay140_apply]
  generalize k0_pay140 (F := Ideal) m s = p
  pointwise
  congr 1
  apply Finset.sum_congr rfl
  intro t _
  congr 1
  have e : ∀ b : Fin 4, r.val % 128 / 32 = b.val → z (ix2 b t) = z (ix2 ⟨r.val % 128 / 32, by omega⟩ t) := by
    intro b hb; congr 2; exact Fin.ext hb.symm
  simp only [ite_self]
  by_cases hr : r.val < 128
  · rw [dif_pos hr, if_pos (by omega)]
    refine congrArg₂ (· + ·) (congrArg₂ (· * ·) (congrArg (fun a => lo (ix2 a t)) (Fin.ext ?_)) (congrArg (fun a => sc (ix2 a t)) (Fin.ext ?_))) ?_
    · show r.val = r.val % 128; omega
    · show r.val = r.val % 128; omega
    split
    · exact e 0 (by show _ = 0; omega)
    split
    · exact e 1 (by show _ = 1; omega)
    split
    · exact e 2 (by show _ = 2; omega)
    · exact e 3 (by show _ = 3; omega)
  · refine (dif_neg hr).trans ?_
    rw [if_neg (show ¬ r.val / 128 = 0 by omega)]
    refine congrArg₂ (· + ·) (congrArg₂ (· * ·) (congrArg (fun a => hi (ix2 a t)) (Fin.ext ?_)) (congrArg (fun a => sc (ix2 a t)) (Fin.ext ?_))) ?_
    · show r.val - 128 = r.val % 128; omega
    · show r.val - 128 = r.val % 128; omega
    split
    · exact e 0 (by show _ = 0; omega)
    split
    · exact e 1 (by show _ = 1; omega)
    split
    · exact e 2 (by show _ = 2; omega)
    · exact e 3 (by show _ = 3; omega)

theorem ofNat_eq_iff (a b : ℕ) (ha : a < 2 ^ 32) (hb : b < 2 ^ 32) : BitVec.ofNat 32 a = BitVec.ofNat 32 b ↔ a = b := by
  constructor
  · intro h
    have := congrArg BitVec.toNat h
    simp only [BitVec.toNat_ofNat] at this
    rwa [Nat.mod_eq_of_lt ha, Nat.mod_eq_of_lt hb] at this
  · rintro rfl; rfl

theorem mask_one (A B A' B' : BitVec 32) (hA : A = A') (hB : B = B') :
    FloatOps.sitofp (F := Ideal) FTy.f32 (BitVec.setWidth 32 (IntOp.cmpi CmpIPredicate.eq A B)) = if A' = B' then (1 : EReal) else 0 := by
  subst hA hB
  by_cases h : A = B
  · subst h
    have : IntOp.cmpi CmpIPredicate.eq A A = 1#1 := by simp [IntOp.cmpi]
    rw [this, if_pos rfl]
    show (((BitVec.setWidth 32 1#1).toInt : ℝ) : EReal) = 1
    rw [show (BitVec.setWidth 32 1#1).toInt = 1 by decide]; simp
  · have : IntOp.cmpi CmpIPredicate.eq A B = 0#1 := by
      show BitVec.ofBool (A == B) = 0#1
      rw [beq_eq_false_iff_ne.mpr h]; rfl
    rw [this, if_neg h]
    show (((BitVec.setWidth 32 0#1).toInt : ℝ) : EReal) = 0
    rw [show (BitVec.setWidth 32 0#1).toInt = 0 by decide]; simp

theorem mask_sel {α : Type} (A B A' B' : BitVec 32) (x y : α) (hA : A = A') (hB : B = B') :
    Scalar.select (IntOp.cmpi CmpIPredicate.eq A B) x y = if A' = B' then x else y := by
  subst hA hB
  by_cases h : A = B
  · subst h
    have : IntOp.cmpi CmpIPredicate.eq A A = 1#1 := by simp [IntOp.cmpi]
    rw [this, if_pos rfl]; rfl
  · have : IntOp.cmpi CmpIPredicate.eq A B = 0#1 := by
      show BitVec.ofBool (A == B) = 0#1
      rw [beq_eq_false_iff_ne.mpr h]; rfl
    rw [this, if_neg h]; rfl

theorem pay149_apply (r : Fin 256) (d : Fin 64) :
    k0_pay149 (F := Ideal) (iota .tc S256x64 32 [0] iota_S256x64_d0_w32) (iota .tc S256x64 32 [1] iota_S256x64_d1_w32) 32#32 0#32 (ix2 r d)
     = if 2 * (r.val % 32) + r.val / 128 = d.val then 1 else 0 := by
  pointwise [k0_pay149]
  refine (mask_one _ _ (BitVec.ofNat 32 (2 * (r.val % 32) + r.val / 128)) (BitVec.ofNat 32 d.val) ?_ rfl).trans ?_
  · revert r; decide +kernel
  · refine if_congr ?_ rfl rfl
    exact ofNat_eq_iff _ _ (by omega) (by omega)

theorem pay148_apply (x : FVec Ideal S64x256 .bf16) (h : Fin 64) (r : Fin 256) :
    k0_pay148 (F := Ideal) x (iota .tc S64x256 32 [0] iota_S64x256_d0_w32) k0_pay144 32#32 k0_pay145 k0_pay146 k0_pay147 (ix2 h r)
     = if r.val % 128 / 32 = h.val / 16 then x (ix2 h r) else 0 := by
  pointwise [k0_pay148, k0_pay144, k0_pay145, k0_pay146, k0_pay147]
  refine (mask_sel _ _ (BitVec.ofNat 32 (r.val % 128 / 32)) (BitVec.ofNat 32 (h.val / 16)) _ _ ?_ ?_).trans ?_
  · clear x; revert r; decide +kernel
  · clear x; revert h; decide +kernel
  · rw [if_congr (ofNat_eq_iff _ _ (by omega) (by omega)) rfl rfl]

theorem pay143_apply (l : FVec Ideal S64x128 .f32) (a : FVec Ideal S64x256 .f32) (h : Fin 64) (r : Fin 256) :
    k0_pay143 (F := Ideal) l a (ix2 h r) = Ideal.div (a (ix2 h r)) (∑ j : Fin 128, l (ix2 h j)) := by
  pointwise [k0_pay143]

theorem pay1_apply (a : FVec Ideal S64x256 .bf16) (w : FVec Ideal S256x64 .bf16) (h : Fin 64) (d : Fin 64) :
    k0_pay1 (F := Ideal) a w (constant S64x64 .f32 0x00000000#32) (ix3 0 h d) = ∑ r : Fin 256, a (ix2 h r) * w (ix2 r d) := by
  pointwise [k0_pay1]

theorem pay133_apply (s : FVec Ideal S64x256 .f32) (h : Fin 64) (j : Fin 128) :
    k0_pay133 (F := Ideal) s (ix2 h j) = max (s (ix2 h ⟨j.val, by omega⟩)) (s (ix2 h ⟨128 + j.val, by omega⟩)) := by
  pointwise [k0_pay133]

theorem ofBits_ninf : Ideal.ofBits FTy.f32 4286578688#32 = ⊥ := by
  simp [Ideal.ofBits, Ideal.ieee]

theorem ofBits_pinf : Ideal.ofBits FTy.f32 2139095040#32 = ⊤ := by
  simp [Ideal.ofBits, Ideal.ieee]

theorem sel_lane {α : Type} (a b : ℕ) (ha : a < 2 ^ 32) (hb : b < 2 ^ 32) (x y : α) :
    Scalar.select (IntOp.cmpi CmpIPredicate.eq (BitVec.ofNat 32 a) (BitVec.ofNat 32 b)) x y = if a = b then x else y :=
  (mask_sel _ _ _ _ _ _ rfl rfl).trans (if_congr (ofNat_eq_iff _ _ ha hb) rfl rfl)

theorem sel_ge97 {α : Type} (a : Fin 128) (x y : α) :
    Scalar.select (IntOp.cmpi CmpIPredicate.sge (BitVec.ofNat 32 a.val) 97#32) x y = if 97 ≤ a.val then x else y := by
  have : ∀ a : Fin 128, IntOp.cmpi CmpIPredicate.sge (BitVec.ofNat 32 a.val) 97#32 = if 97 ≤ a.val then 1#1 else 0#1 := by decide +kernel
  rw [this]; split <;> rfl

theorem sel_le128 {α : Type} (a : Fin 256) (x y : α) :
    Scalar.select (IntOp.cmpi CmpIPredicate.sle (BitVec.ofNat 32 a.val) 128#32) x y = if a.val ≤ 128 then x else y := by
  have : ∀ a : Fin 256, IntOp.cmpi CmpIPredicate.sle (BitVec.ofNat 32 a.val) 128#32 = if a.val ≤ 128 then 1#1 else 0#1 := by decide +kernel
  rw [this]; split <;> rfl

theorem sum_lane {n : ℕ} (f : Fin n → EReal) (i : ℕ) (hi : i < n) :
    (∑ x : Fin n, if x.val = i then f x else 0) = f ⟨i, hi⟩ := by
  rw [Finset.sum_eq_single (⟨i, hi⟩ : Fin n)]
  · simp
  · intro b _ hb; rw [if_neg]; intro h; exact hb (Fin.ext h)
  · intro h; exact absurd (Finset.mem_univ _) h

theorem fold_max_bot {n : ℕ} (f : Fin n → EReal) :
    Finset.fold max (Ideal.ofBits FTy.f32 4286578688#32) f Finset.univ = Finset.univ.sup f := by
  rw [ofBits_ninf]; rfl

theorem fold_min_top {n : ℕ} (f : Fin n → EReal) :
    Finset.fold min (Ideal.ofBits FTy.f32 2139095040#32) f Finset.univ = Finset.univ.inf f := by
  rw [ofBits_pinf]; rfl

theorem pay134_apply (s : FVec Ideal S64x128 .f32) (h : Fin 64) :
    k0_pay134 (F := Ideal) s (ix2 h 0) = Finset.univ.sup fun j : Fin 128 => s (ix2 h j) := by
  pointwise [k0_pay134]
  exact fold_max_bot _

theorem pay39_apply (m : FVec Ideal S64x128 .f32) (s : FVec Ideal S64x512 .f32) (h : Fin 64) (j : Fin 128) :
    k0_pay39 (F := Ideal) m s (ix2 h j) = max (max (max (max (m (ix2 h j)) (s (ix2 h ⟨j.val, by omega⟩))) (s (ix2 h ⟨128 + j.val, by omega⟩))) (s (ix2 h ⟨256 + j.val, by omega⟩))) (s (ix2 h ⟨384 + j.val, by omega⟩)) := by
  pointwise [k0_pay39]

theorem pay137_apply (s : FVec Ideal S64x256 .f32) (m : FVec Ideal S64x1 .f32) (h : Fin 64) (j : Fin 256) :
    k0_pay137 (F := Ideal) s m (ix2 h j) = prob (s (ix2 h j)) (m (ix2 h 0)) := by
  pointwise [k0_pay137]
  rfl

theorem pay138_apply (s : FVec Ideal S64x256 .f32) (m : FVec Ideal S64x1 .f32) (h : Fin 64) (j : Fin 128) :
    k0_pay138 (F := Ideal) s m (ix2 h j) = k0_pay137 (F := Ideal) s m (ix2 h ⟨j.val, by omega⟩) + k0_pay137 (F := Ideal) s m (ix2 h ⟨128 + j.val, by omega⟩) := by
  unfold k0_pay138
  generalize k0_pay137 (F := Ideal) s m = p
  pointwise

theorem pay139_apply (s : FVec Ideal S64x256 .f32) (m : FVec Ideal S64x1 .f32) (vt : FVec Ideal S256x128 .bf16) (vn : FVec Ideal S256x128 .f32) (h : Fin 64) (r : Fin 256) :
    k0_pay139 (F := Ideal) s m vt vn (ix2 h r) = ∑ j : Fin 128, prob (s (ix2 h ⟨j.val, by omega⟩)) (m (ix2 h 0)) * vt (ix2 r j)
      + ∑ j : Fin 128, prob (s (ix2 h ⟨128 + j.val, by omega⟩)) (m (ix2 h 0)) * vn (ix2 r j) := by
  unfold k0_pay139
  simp only [← pay137_apply]
  generalize k0_pay137 (F := Ideal) s m = p
  pointwise

theorem plane_ix (v : Vec Ideal S1x4x64x128 .bf16) (r : Fin 256) (j : Fin 128) :
    (if h : r.val < 128 then v (ix4 0 ⟨2 * r.val / 64, by omega⟩ ⟨2 * r.val % 64, by omega⟩ j)
    else v (ix4 0 ⟨(2 * (r.val - 128) + 1) / 64, by omega⟩ ⟨(2 * (r.val - 128) + 1) % 64, by omega⟩ j)) =
    v (ix4 0 ⟨r.val % 128 / 32, by omega⟩ ⟨2 * (r.val % 32) + r.val / 128, by omega⟩ j) := by
  split
  · congr 1
    have h1 : (⟨2 * r.val / 64, by omega⟩ : Fin 4) = ⟨r.val % 128 / 32, by omega⟩ := Fin.ext (by simp; omega)
    have h2 : (⟨2 * r.val % 64, by omega⟩ : Fin 64) = ⟨2 * (r.val % 32) + r.val / 128, by omega⟩ := Fin.ext (by simp; omega)
    rw [h1, h2]
  · congr 1
    have h1 : (⟨(2 * (r.val - 128) + 1) / 64, by omega⟩ : Fin 4) = ⟨r.val % 128 / 32, by omega⟩ := Fin.ext (by simp; omega)
    have h2 : (⟨(2 * (r.val - 128) + 1) % 64, by omega⟩ : Fin 64) = ⟨2 * (r.val % 32) + r.val / 128, by omega⟩ := Fin.ext (by simp; omega)
    rw [h1, h2]

theorem pay135_apply (v : Vec Ideal S1x4x64x128 .bf16) (r : Fin 256) (j : Fin 128) :
    k0_pay135 (F := Ideal) v (ix2 r j) = v (ix4 0 ⟨r.val % 128 / 32, by omega⟩ ⟨2 * (r.val % 32) + r.val / 128, by omega⟩ j) := by
  pointwise [k0_pay135]
  exact plane_ix _ r j

theorem pay53_apply (i : grid0.Coords) (v : Vec Ideal S256x128 .bf16) (r : Fin 256) :
    k0_pay53 (F := Ideal) i v (ix2 r 0) = v (ix2 ⟨2 * (r.val % 128) + r.val / 128, by omega⟩ ⟨(i 0).val, (i 0).isLt⟩) := by
  pointwise [k0_pay53]
  have hi : (i 0).val < 128 := (i 0).isLt
  have e : ∀ x : Fin 128, (if h : r.val < 128 then v (ix2 ⟨2 * r.val, by omega⟩ x) else v (ix2 ⟨2 * (r.val - 128) + 1, by omega⟩ x))
      = v (ix2 ⟨2 * (r.val % 128) + r.val / 128, by omega⟩ x) := by
    intro x
    split
    · refine congrArg (fun a => v (ix2 a x)) (Fin.ext ?_); simp; omega
    · refine congrArg (fun a => v (ix2 a x)) (Fin.ext ?_); simp; omega
  refine Eq.trans ?_ (sum_lane (fun x : Fin 128 => v (ix2 ⟨2 * (r.val % 128) + r.val / 128, by omega⟩ x)) (i 0).val hi)
  apply Finset.sum_congr rfl
  intro x _
  rw [sel_lane _ _ (by omega) (by omega)]
  exact if_congr Iff.rfl (e x) rfl

/-- The new key's least value over its quantisation window. -/
def wlo (w : Fin 128 → EReal) (n : EReal) : EReal := min (Finset.univ.inf fun x : Fin 128 => if 97 ≤ x.val then w x else ⊤) n
/-- The new key's greatest value over its quantisation window. -/
def whi (w : Fin 128 → EReal) (n : EReal) : EReal := max (Finset.univ.sup fun x : Fin 128 => if 97 ≤ x.val then w x else ⊥) n
/-- The quantiser's step from the least and the greatest value. -/
def qstep (lo hi : EReal) : EReal := if 0 < hi - lo then Ideal.div (hi - lo) (Ideal.ofBits FTy.f32 1097859072#32) else 1
/-- The quantiser's code of a value. -/
def qcode (v lo sc : EReal) : EReal := min (Ideal.ofBits FTy.f32 1097859072#32) (max 0 (FloatOps.roundeven (F := Ideal) (φ := .f32) (Ideal.div (v - lo) sc)))

theorem pay55_apply (i : grid0.Coords) (t : Vec Ideal S1x4x64x128 .bf16) (v : Vec Ideal S256x128 .bf16) (r : Fin 256) :
    k0_pay55 (F := Ideal) i t v (ix2 r 0) = wlo (fun x => k0_pay52 (F := Ideal) t (ix2 r x)) (k0_pay53 (F := Ideal) i v (ix2 r 0)) := by
  unfold k0_pay55 k0_pay54
  generalize k0_pay53 (F := Ideal) i v = n
  generalize k0_pay52 (F := Ideal) t = w
  pointwise
  simp only [sel_ge97, fold_min_top, ofBits_pinf]
  rfl

theorem pay56_apply (w : FVec Ideal S256x128 .f32) (n lo : FVec Ideal S256x1 .f32) (r : Fin 256) :
    k0_pay56 (F := Ideal) w n k0_pay54 lo (ix2 r 0) = qstep (lo (ix2 r 0)) (whi (fun x => w (ix2 r x)) (n (ix2 r 0))) := by
  pointwise [k0_pay56, k0_pay54]
  simp only [sel_ge97, fold_max_bot, ofBits_ninf]
  rfl

theorem pay58_apply (w : FVec Ideal S256x128 .f32) (n lo : FVec Ideal S256x1 .f32) (r : Fin 256) :
    k0_pay58 (F := Ideal) w n k0_pay54 lo (ix2 r 0) = qcode (n (ix2 r 0)) (lo (ix2 r 0)) (qstep (lo (ix2 r 0)) (whi (fun x => w (ix2 r x)) (n (ix2 r 0))))
      * qstep (lo (ix2 r 0)) (whi (fun x => w (ix2 r x)) (n (ix2 r 0))) + lo (ix2 r 0) := by
  unfold k0_pay58 k0_pay57
  rw [← pay56_apply]
  generalize k0_pay56 (F := Ideal) w n k0_pay54 lo = sc
  pointwise
  rfl

theorem pay63_apply (q : FVec Ideal S64x256 .bf16) (w : FVec Ideal S256x128 .f32) (n : FVec Ideal S256x1 .bf16) (h : Fin 64) (j : Fin 256) :
    k0_pay63 (F := Ideal) q (iota .tc S256x128 32 [1] iota_S256x128_d1_w32) w n (ix2 h j) =
      if h' : j.val < 128 then ∑ r : Fin 256, q (ix2 h r) * w (ix2 r ⟨j.val, h'⟩)
      else if j.val = 128 then ∑ r : Fin 256, q (ix2 h r) * n (ix2 r 0) else ⊥ := by
  pointwise [k0_pay63]
  rw [sel_le128, ofBits_ninf]
  by_cases h1 : j.val < 128
  · rw [if_pos (by omega), dif_pos h1]
    apply Finset.sum_congr rfl
    intro x _
    rw [dif_pos h1]
  · rw [dif_neg h1]
    refine (if_congr Iff.rfl (u := ∑ r : Fin 256, q (ix2 h r) * (if j.val - 128 = 0 then n (ix2 r 0) else 0)) ?_ rfl).trans ?_
    · apply Finset.sum_congr rfl
      intro x _
      rw [dif_neg h1]
      exact congrArg _ (sel_lane _ 0 (by omega) (by omega) _ _)
    · by_cases h2 : j.val = 128
      · rw [if_pos (by omega), if_pos h2]
        apply Finset.sum_congr rfl
        intro x _
        rw [if_pos (by omega)]
      · rw [if_neg (by omega), if_neg h2]

theorem pay64_eq (q : FVec Ideal S64x256 .bf16) (v : IVec S256x128 32) (w : FVec Ideal S256x128 .f32) (n : FVec Ideal S256x1 .bf16) :
    k0_pay64 (F := Ideal) q v w n = k0_pay63 q v w n := by
  funext x
  unfold k0_pay64
  generalize k0_pay63 (F := Ideal) q v w n = y
  idx_vars x
  pointwise

theorem pay136_apply (i : ℕ) (hi : i < 128) (v : Vec Ideal S256x128 .f32) (r : Fin 256) (j : Fin 128) :
    k0_pay136 (F := Ideal) (BitVec.ofNat 32 i) (iota .tc S256x128 32 [1] iota_S256x128_d1_w32) v (ix2 r j) = if j.val = 0 then v (ix2 r ⟨i, hi⟩) else 0 := by
  pointwise [k0_pay136]
  refine (sel_lane _ 0 (by omega) (by omega) _ _).trans (if_congr Iff.rfl ?_ rfl)
  rw [← sum_lane (fun x : Fin 128 => v (ix2 r x)) i hi]
  apply Finset.sum_congr rfl
  intro x _
  exact sel_lane _ _ (by omega) (by omega) _ _

theorem pay38_apply (s : FVec Ideal S64x512 .f32) (h : Fin 64) (t : Fin 512) : k0_pay38 (F := Ideal) s (ix2 h t) = s (ix2 h t) := by
  pointwise [k0_pay38]

theorem pay45_apply (q : Vec Ideal S1x64x256 .bf16) (h : Fin 64) (r : Fin 256) :
    k0_pay45 (F := Ideal) q (ix2 h r) = q (ix3 0 h r) := by
  pointwise [k0_pay45]

theorem pay3_apply (v : Vec Ideal S256x128 .bf16) (p : Fin 2) (k : Fin 4) (d : Fin 32) (j : Fin 128) :
    k0_pay3 (F := Ideal) v (ix4 p k d j) = v (ix2 ⟨64 * k.val + 2 * d.val + p.val, by omega⟩ j) := by
  pointwise [k0_pay3]
  split
  · refine congrArg (fun a => v (ix2 a j)) (Fin.ext ?_); simp; omega
  · refine congrArg (fun a => v (ix2 a j)) (Fin.ext ?_); simp; omega

theorem drop_ix (a : Fin 2) (b : Fin 4) (c : Fin 32) (d : Fin 128) : reduces_S2x4x32x128_S4x128.drop (ix4 a b c d) = ix2 b d := by
  funext x
  refine Fin.ext ?_
  match x with
  | ⟨0, _⟩ => exact Shape.Reduces.drop_apply_val_of_eq reduces_S2x4x32x128_S4x128 _ ⟨0, by decide⟩ 1
  | ⟨1, _⟩ => exact Shape.Reduces.drop_apply_val_of_eq reduces_S2x4x32x128_S4x128 _ ⟨1, by decide⟩ 3

theorem ix4_surj (i : S2x4x32x128.Idx) : ∃ a b c d, i = ix4 a b c d :=
  ⟨i 0, i 1, i 2, i 3, by funext x; match x with | ⟨0, _⟩ => rfl | ⟨1, _⟩ => rfl | ⟨2, _⟩ => rfl | ⟨3, _⟩ => rfl⟩

theorem vinf (v : Vec Ideal S256x128 .bf16) (k : Fin 4) (j : Fin 128) :
    Finset.fold min (Ideal.ofBits FTy.f32 2139095040#32) (k0_pay3 (F := Ideal) v) {i | reduces_S2x4x32x128_S4x128.drop i = ix2 k j}
      = Finset.univ.inf fun d : Fin 64 => v (ix2 ⟨64 * k.val + d.val, by omega⟩ j) := by
  refine eq_of_forall_le_iff fun x => ?_
  rw [Finset.le_fold_min, Finset.le_inf_iff, ofBits_pinf]
  constructor
  · rintro ⟨-, h⟩ d -
    have := h (ix4 ⟨d.val % 2, by omega⟩ k ⟨d.val / 2, by omega⟩ j) (by simp only [Finset.mem_filter, Finset.mem_univ, true_and]; exact drop_ix _ _ _ _)
    rw [pay3_apply] at this
    convert this using 4
    simp; omega
  · intro h
    refine ⟨le_top, fun i hi => ?_⟩
    simp only [Finset.mem_filter, Finset.mem_univ, true_and] at hi
    obtain ⟨a, b, c, d, rfl⟩ := ix4_surj i
    rw [drop_ix] at hi
    have h1 : b = k := congrFun hi 0
    have h2 : d = j := congrFun hi 1
    subst h1 h2
    rw [pay3_apply]
    convert h ⟨2 * c.val + a.val, by omega⟩ (Finset.mem_univ _) using 4
    simp; omega

theorem vsup (v : Vec Ideal S256x128 .bf16) (k : Fin 4) (j : Fin 128) :
    Finset.fold max (Ideal.ofBits FTy.f32 4286578688#32) (k0_pay3 (F := Ideal) v) {i | reduces_S2x4x32x128_S4x128.drop i = ix2 k j}
      = Finset.univ.sup fun d : Fin 64 => v (ix2 ⟨64 * k.val + d.val, by omega⟩ j) := by
  refine eq_of_forall_ge_iff fun x => ?_
  rw [Finset.fold_max_le, Finset.sup_le_iff, ofBits_ninf]
  constructor
  · rintro ⟨-, h⟩ d -
    have := h (ix4 ⟨d.val % 2, by omega⟩ k ⟨d.val / 2, by omega⟩ j) (by simp only [Finset.mem_filter, Finset.mem_univ, true_and]; exact drop_ix _ _ _ _)
    rw [pay3_apply] at this
    convert this using 4
    simp; omega
  · intro h
    refine ⟨bot_le, fun i hi => ?_⟩
    simp only [Finset.mem_filter, Finset.mem_univ, true_and] at hi
    obtain ⟨a, b, c, d, rfl⟩ := ix4_surj i
    rw [drop_ix] at hi
    have h1 : b = k := congrFun hi 0
    have h2 : d = j := congrFun hi 1
    subst h1 h2
    rw [pay3_apply]
    convert h ⟨2 * c.val + a.val, by omega⟩ (Finset.mem_univ _) using 4
    simp; omega

theorem pay4_apply (v : Vec Ideal S256x128 .bf16) (k : Fin 4) (j : Fin 128) :
    k0_pay4 (F := Ideal) v (ix4 0 k 0 j) = Finset.univ.inf fun d : Fin 64 => v (ix2 ⟨64 * k.val + d.val, by omega⟩ j) := by
  unfold k0_pay4
  rw [← vinf v k j]
  generalize k0_pay3 (F := Ideal) v = w
  pointwise

theorem pay5_apply (v : Vec Ideal S256x128 .bf16) (k : Fin 4) (j : Fin 128) :
    k0_pay5 (F := Ideal) v (ix4 0 k 0 j) = qstep (k0_pay4 (F := Ideal) v (ix4 0 k 0 j)) (Finset.univ.sup fun d : Fin 64 => v (ix2 ⟨64 * k.val + d.val, by omega⟩ j)) := by
  unfold k0_pay5
  rw [← vsup v k j]
  generalize k0_pay4 (F := Ideal) v = lo
  generalize k0_pay3 (F := Ideal) v = w
  pointwise
  rfl

theorem pay6_apply (v : Vec Ideal S256x128 .bf16) (p : Fin 2) (k : Fin 4) (d : Fin 32) (j : Fin 128) :
    k0_pay6 (F := Ideal) v (ix4 p k d j) = qcode (v (ix2 ⟨64 * k.val + 2 * d.val + p.val, by omega⟩ j)) (k0_pay4 (F := Ideal) v (ix4 0 k 0 j)) (k0_pay5 (F := Ideal) v (ix4 0 k 0 j)) := by
  unfold k0_pay6
  rw [← pay3_apply v p k d j]
  generalize k0_pay5 (F := Ideal) v = sc
  generalize k0_pay4 (F := Ideal) v = lo
  generalize k0_pay3 (F := Ideal) v = w
  pointwise
  rfl

theorem pay7_apply (v : Vec Ideal S256x128 .bf16) (r : Fin 256) (j : Fin 128) :
    k0_pay7 (F := Ideal) v (ix2 r j) = k0_pay6 v (ix4 ⟨r.val / 128, by omega⟩ ⟨r.val / 32 % 4, by omega⟩ ⟨r.val % 32, by omega⟩ j) * k0_pay5 v (ix4 0 ⟨r.val / 32 % 4, by omega⟩ 0 j) +
      k0_pay4 v (ix4 0 ⟨r.val / 32 % 4, by omega⟩ 0 j) := by
  unfold k0_pay7
  generalize k0_pay6 (F := Ideal) v = cd
  generalize k0_pay5 (F := Ideal) v = sc
  generalize k0_pay4 (F := Ideal) v = lo
  pointwise

theorem pay52_apply (v : Vec Ideal S1x4x64x128 .bf16) (r : Fin 256) (j : Fin 128) :
    k0_pay52 (F := Ideal) v (ix2 r j) = v (ix4 0 ⟨r.val % 128 / 32, by omega⟩ ⟨2 * (r.val % 32) + r.val / 128, by omega⟩ j) := by
  pointwise [k0_pay52]
  exact plane_ix _ r j

end Cert.KernelIdeal.Val
-- ==== Proof.TripK.lean ====
/- One trip of the key loop: the scores of its 512 tokens. -/
module

public import proofs.«01_k».proof.Proof.PayV
public import proofs.«01_k».proof.Proof.Gen.KernelIdeal.Loops

@[expose] public section

set_option maxRecDepth 16384
set_option maxHeartbeats 2000000

noncomputable section

namespace Cert.KernelIdeal.Val

open Idealize.ShloMosaic Idealize.ShloMosaic.TcCoe
open Cert.KernelIdeal Cert.KernelIdeal.Gen

/-- A past key's plane row: the code by its group's step and least value. -/
def kd (x4 : S1x4x32x32768.Idx → BitVec 8) (S Z : Fin 1024 → Fin 256 → EReal) (n : Fin 32768) (r : Fin 256) : EReal :=
  nibv (r.val / 128) (x4 (ix4 0 ⟨r.val % 128 / 32, by omega⟩ ⟨r.val % 32, by omega⟩ n)) * S ⟨n.val / 32, by omega⟩ r + Z ⟨n.val / 32, by omega⟩ r

/-- The score of a past token for a head. -/
def scr (x4 : S1x4x32x32768.Idx → BitVec 8) (S Z : Fin 1024 → Fin 256 → EReal) (q : FVec Ideal S64x256 .bf16) (h : Fin 64) (n : Fin 32768) : EReal :=
  ∑ r : Fin 256, q (ix2 h r) * kd x4 S Z n r

/-- The scores of one trip's tokens. -/
def trW (x4 : S1x4x32x32768.Idx → BitVec 8) (S Z : Fin 1024 → Fin 256 → EReal) (q : FVec Ideal S64x256 .bf16) (k : ℕ) (hk : k < 64) : FVec Ideal S64x512 .f32 :=
  fun y => scr x4 S Z q ⟨(y 0).val, (y 0).isLt⟩ ⟨512 * k + (y 1).val, by have : (y 1).val < 512 := (y 1).isLt; omega⟩

theorem ix_surj {a b : ℕ} (y : (⟨2, ![a, b]⟩ : Shape).Idx) : ∃ (h : Fin a) (t : Fin b), y = ix2 h t :=
  ⟨y 0, y 1, by funext x; match x with | ⟨0, _⟩ => rfl | ⟨1, _⟩ => rfl⟩

theorem rd_pair (m : Memref sig .tc .vmem S1024x2x256 .bf16) (X : BufTy.Contents (Elt Ideal) m.view.ty) (S : Fin 1024 → Fin 256 → EReal)
    (h : ∀ g p r, m.view.read (Elt Ideal) X (ix3 g p r) = S g r) (off : Fin S1024x2x256.rank → ℕ) (inb : ∀ a, off a + S1x2x256.size a ≤ S1024x2x256.size a)
    (g : Fin 1024) (ho : off = ![g.val, 0, 0]) (p : Fin 2) (r : Fin 256) :
    View.readAt (Elt Ideal) m.view (Rect.unit (s := S1024x2x256) off S1x2x256.size inb).toLoadRect X (ix3 0 p r) = S g r := by
  subst ho
  rw [← h g p r]
  refine congrArg (m.view.read (Elt Ideal) X) (funext fun b => ?_)
  match b with
  | ⟨0, _⟩ => exact Fin.ext (by show g.val + 1 * 0 = g.val; omega)
  | ⟨1, _⟩ => exact Fin.ext (by show 0 + 1 * p.val = p.val; omega)
  | ⟨2, _⟩ => exact Fin.ext (by show 0 + 1 * r.val = r.val; omega)

theorem rd_codes (m : Memref sig .tc .vmem S1x4x32x32768 .i8) (X : BufTy.Contents (Elt Ideal) m.view.ty) (x4 : S1x4x32x32768.Idx → BitVec 8)
    (h : m.view.read (Elt Ideal) X = x4) (off : Fin S1x4x32x32768.rank → ℕ) (inb : ∀ a, off a + S1x4x32x512.size a ≤ S1x4x32x32768.size a)
    (k : ℕ) (hk : k < 64) (ho : off = ![0, 0, 0, 512 * k]) (u : Fin 4) (d : Fin 32) (t : Fin 512) :
    View.readAt (Elt Ideal) m.view (Rect.unit (s := S1x4x32x32768) off S1x4x32x512.size inb).toLoadRect X (ix4 0 u d t) = x4 (ix4 0 u d ⟨512 * k + t.val, by omega⟩) := by
  subst ho
  rw [← h]
  refine congrArg (m.view.read (Elt Ideal) X) (funext fun b => ?_)
  match b with
  | ⟨0, _⟩ => exact Fin.ext (by show 0 + 1 * 0 = 0; omega)
  | ⟨1, _⟩ => exact Fin.ext (by show 0 + 1 * u.val = u.val; omega)
  | ⟨2, _⟩ => exact Fin.ext (by show 0 + 1 * d.val = d.val; omega)
  | ⟨3, _⟩ => exact Fin.ext (by show 512 * k + 1 * t.val = 512 * k + t.val; omega)

theorem grp_kd (x4 : S1x4x32x32768.Idx → BitVec 8) (S Z : Fin 1024 → Fin 256 → EReal) (k : ℕ) (hk : k < 64)
    (v : Vec Ideal S1x4x32x512 .i8) (hv : ∀ u d t, v (ix4 0 u d t) = x4 (ix4 0 u d ⟨512 * k + t.val, by omega⟩))
    (j : ℕ) (hj : j < 16) (s z : Vec Ideal S1x2x256 .bf16)
    (hs : ∀ p r, s (ix3 0 p r) = S ⟨16 * k + j, by omega⟩ r) (hz : ∀ p r, z (ix3 0 p r) = Z ⟨16 * k + j, by omega⟩ r)
    (a : Fin 32) (r : Fin 256) (e : ℕ) (he : e = 32 * j + a.val) :
    k0_pay10 (F := Ideal) v (ix2 ⟨e, by omega⟩ r) * psel s a.val r + psel z a.val r
      = kd x4 S Z ⟨512 * k + (32 * j + a.val), by omega⟩ r := by
  subst he
  rw [pay10_apply, hv]
  have e1 : psel s a.val r = S ⟨16 * k + j, by omega⟩ r := by unfold psel; split <;> exact hs _ _
  have e2 : psel z a.val r = Z ⟨16 * k + j, by omega⟩ r := by unfold psel; split <;> exact hz _ _
  rw [e1, e2]
  unfold kd
  have e3 : (⟨(512 * k + (32 * j + a.val)) / 32, by omega⟩ : Fin 1024) = ⟨16 * k + j, by omega⟩ := Fin.ext (by show (512 * k + (32 * j + a.val)) / 32 = 16 * k + j; omega)
  simp only [e3]

theorem trip_scores (arg4 : Memref sig .tc .vmem S1x4x32x32768 .i8) (arg20 arg21 : Memref sig .tc .vmem S1024x2x256 .bf16) (v1 : FVec Ideal S64x256 .bf16) (X_arg4 : BufTy.Contents (Elt Ideal) arg4.view.ty) (X_arg20 : BufTy.Contents (Elt Ideal) arg20.view.ty) (X_arg21 : BufTy.Contents (Elt Ideal) arg21.view.ty) (k : Fin k0_t1_loop.trips)
    (x4 : S1x4x32x32768.Idx → BitVec 8) (S Z : Fin 1024 → Fin 256 → EReal) (hk : k.val < 64)
    (h4 : arg4.view.read (Elt Ideal) X_arg4 = x4)
    (h20 : ∀ g p r, arg20.view.read (Elt Ideal) X_arg20 (ix3 g p r) = S g r)
    (h21 : ∀ g p r, arg21.view.read (Elt Ideal) X_arg21 (ix3 g p r) = Z g r) :
    trip_k0_t1.sl.v804 (F := Ideal) arg4 arg20 arg21 v1 X_arg4 X_arg20 X_arg21 k = trW x4 S Z v1 k.val hk := by
  have hv : ∀ u d t, _ := fun u d t => rd_codes arg4 X_arg4 x4 h4 _ (k0_off1_inb k) k.val hk (k0_off1_eq k) u d t
  funext y
  obtain ⟨h, t, rfl⟩ := ix_surj y
  unfold trip_k0_t1.sl.v804
  rw [pay37_apply]
  show _ = scr x4 S Z v1 h ⟨512 * k.val + t.val, by omega⟩
  unfold scr
  apply Finset.sum_congr rfl
  intro r _
  congr 1
  have key : ∀ (j : Fin 16) (a : Fin 32), (![trip_k0_t1.sl.r_1 arg4 arg20 arg21 X_arg4 X_arg20 X_arg21 k, trip_k0_t1.sl.r_4 arg4 arg20 arg21 X_arg4 X_arg20 X_arg21 k, trip_k0_t1.sl.r_5 arg4 arg20 arg21 X_arg4 X_arg20 X_arg21 k, trip_k0_t1.sl.r_8 arg4 arg20 arg21 X_arg4 X_arg20 X_arg21 k, trip_k0_t1.sl.r_9 arg4 arg20 arg21 X_arg4 X_arg20 X_arg21 k, trip_k0_t1.sl.r_10 arg4 arg20 arg21 X_arg4 X_arg20 X_arg21 k, trip_k0_t1.sl.r_12 arg4 arg20 arg21 X_arg4 X_arg20 X_arg21 k, trip_k0_t1.sl.r_13 arg4 arg20 arg21 X_arg4 X_arg20 X_arg21 k, trip_k0_t1.sl.r_14 arg4 arg20 arg21 X_arg4 X_arg20 X_arg21 k, trip_k0_t1.sl.r_15 arg4 arg20 arg21 X_arg4 X_arg20 X_arg21 k, trip_k0_t1.sl.r_16 arg4 arg20 arg21 X_arg4 X_arg20 X_arg21 k, trip_k0_t1.sl.r_20 arg4 arg20 arg21 X_arg4 X_arg20 X_arg21 k, trip_k0_t1.sl.r_21 arg4 arg20 arg21 X_arg4 X_arg20 X_arg21 k, trip_k0_t1.sl.r_22 arg4 arg20 arg21 X_arg4 X_arg20 X_arg21 k, trip_k0_t1.sl.v789 arg4 arg20 arg21 X_arg4 X_arg20 X_arg21 k, trip_k0_t1.sl.v802 arg4 arg20 arg21 X_arg4 X_arg20 X_arg21 k] j : FVec Ideal S32x256 .bf16) (ix2 a r) = kd x4 S Z ⟨512 * k.val + (32 * j.val + a.val), by omega⟩ r := by
    intro j a
    fin_cases j
    · refine (grp0 _ _ _ a r).trans ?_
      exact grp_kd x4 S Z k.val hk _ hv 0 (by omega) _ _ (fun p r => rd_pair arg20 X_arg20 S h20 _ _ ⟨16 * k.val + 0, by omega⟩ (k0_off2_eq k 0) p r) (fun p r => rd_pair arg21 X_arg21 Z h21 _ _ ⟨16 * k.val + 0, by omega⟩ (k0_off2_eq k 0) p r) a r _ (by omega)
    · refine (grp1 _ _ _ a r).trans ?_
      exact grp_kd x4 S Z k.val hk _ hv 1 (by omega) _ _ (fun p r => rd_pair arg20 X_arg20 S h20 _ _ ⟨16 * k.val + 1, by omega⟩ (k0_off2_eq k 1) p r) (fun p r => rd_pair arg21 X_arg21 Z h21 _ _ ⟨16 * k.val + 1, by omega⟩ (k0_off2_eq k 1) p r) a r _ rfl
    · refine (grp2 _ _ _ a r).trans ?_
      exact grp_kd x4 S Z k.val hk _ hv 2 (by omega) _ _ (fun p r => rd_pair arg20 X_arg20 S h20 _ _ ⟨16 * k.val + 2, by omega⟩ (k0_off2_eq k 2) p r) (fun p r => rd_pair arg21 X_arg21 Z h21 _ _ ⟨16 * k.val + 2, by omega⟩ (k0_off2_eq k 2) p r) a r _ rfl
    · refine (grp3 _ _ _ a r).trans ?_
      exact grp_kd x4 S Z k.val hk _ hv 3 (by omega) _ _ (fun p r => rd_pair arg20 X_arg20 S h20 _ _ ⟨16 * k.val + 3, by omega⟩ (k0_off2_eq k 3) p r) (fun p r => rd_pair arg21 X_arg21 Z h21 _ _ ⟨16 * k.val + 3, by omega⟩ (k0_off2_eq k 3) p r) a r _ rfl
    · refine (grp4 _ _ _ a r).trans ?_
      exact grp_kd x4 S Z k.val hk _ hv 4 (by omega) _ _ (fun p r => rd_pair arg20 X_arg20 S h20 _ _ ⟨16 * k.val + 4, by omega⟩ (k0_off2_eq k 4) p r) (fun p r => rd_pair arg21 X_arg21 Z h21 _ _ ⟨16 * k.val + 4, by omega⟩ (k0_off2_eq k 4) p r) a r _ rfl
    · refine (grp5 _ _ _ a r).trans ?_
      exact grp_kd x4 S Z k.val hk _ hv 5 (by omega) _ _ (fun p r => rd_pair arg20 X_arg20 S h20 _ _ ⟨16 * k.val + 5, by omega⟩ (k0_off2_eq k 5) p r) (fun p r => rd_pair arg21 X_arg21 Z h21 _ _ ⟨16 * k.val + 5, by omega⟩ (k0_off2_eq k 5) p r) a r _ rfl
    · refine (grp6 _ _ _ a r).trans ?_
      exact grp_kd x4 S Z k.val hk _ hv 6 (by omega) _ _ (fun p r => rd_pair arg20 X_arg20 S h20 _ _ ⟨16 * k.val + 6, by omega⟩ (k0_off2_eq k 6) p r) (fun p r => rd_pair arg21 X_arg21 Z h21 _ _ ⟨16 * k.val + 6, by omega⟩ (k0_off2_eq k 6) p r) a r _ rfl
    · refine (grp7 _ _ _ a r).trans ?_
      exact grp_kd x4 S Z k.val hk _ hv 7 (by omega) _ _ (fun p r => rd_pair arg20 X_arg20 S h20 _ _ ⟨16 * k.val + 7, by omega⟩ (k0_off2_eq k 7) p r) (fun p r => rd_pair arg21 X_arg21 Z h21 _ _ ⟨16 * k.val + 7, by omega⟩ (k0_off2_eq k 7) p r) a r _ rfl
    · refine (grp8 _ _ _ a r).trans ?_
      exact grp_kd x4 S Z k.val hk _ hv 8 (by omega) _ _ (fun p r => rd_pair arg20 X_arg20 S h20 _ _ ⟨16 * k.val + 8, by omega⟩ (k0_off2_eq k 8) p r) (fun p r => rd_pair arg21 X_arg21 Z h21 _ _ ⟨16 * k.val + 8, by omega⟩ (k0_off2_eq k 8) p r) a r _ rfl
    · refine (grp9 _ _ _ a r).trans ?_
      exact grp_kd x4 S Z k.val hk _ hv 9 (by omega) _ _ (fun p r => rd_pair arg20 X_arg20 S h20 _ _ ⟨16 * k.val + 9, by omega⟩ (k0_off2_eq k 9) p r) (fun p r => rd_pair arg21 X_arg21 Z h21 _ _ ⟨16 * k.val + 9, by omega⟩ (k0_off2_eq k 9) p r) a r _ rfl
    · refine (grp10 _ _ _ a r).trans ?_
      exact grp_kd x4 S Z k.val hk _ hv 10 (by omega) _ _ (fun p r => rd_pair arg20 X_arg20 S h20 _ _ ⟨16 * k.val + 10, by omega⟩ (k0_off2_eq k 10) p r) (fun p r => rd_pair arg21 X_arg21 Z h21 _ _ ⟨16 * k.val + 10, by omega⟩ (k0_off2_eq k 10) p r) a r _ rfl
    · refine (grp11 _ _ _ a r).trans ?_
      exact grp_kd x4 S Z k.val hk _ hv 11 (by omega) _ _ (fun p r => rd_pair arg20 X_arg20 S h20 _ _ ⟨16 * k.val + 11, by omega⟩ (k0_off2_eq k 11) p r) (fun p r => rd_pair arg21 X_arg21 Z h21 _ _ ⟨16 * k.val + 11, by omega⟩ (k0_off2_eq k 11) p r) a r _ rfl
    · refine (grp12 _ _ _ a r).trans ?_
      exact grp_kd x4 S Z k.val hk _ hv 12 (by omega) _ _ (fun p r => rd_pair arg20 X_arg20 S h20 _ _ ⟨16 * k.val + 12, by omega⟩ (k0_off2_eq k 12) p r) (fun p r => rd_pair arg21 X_arg21 Z h21 _ _ ⟨16 * k.val + 12, by omega⟩ (k0_off2_eq k 12) p r) a r _ rfl
    · refine (grp13 _ _ _ a r).trans ?_
      exact grp_kd x4 S Z k.val hk _ hv 13 (by omega) _ _ (fun p r => rd_pair arg20 X_arg20 S h20 _ _ ⟨16 * k.val + 13, by omega⟩ (k0_off2_eq k 13) p r) (fun p r => rd_pair arg21 X_arg21 Z h21 _ _ ⟨16 * k.val + 13, by omega⟩ (k0_off2_eq k 13) p r) a r _ rfl
    · refine (grp14 _ _ _ a r).trans ?_
      exact grp_kd x4 S Z k.val hk _ hv 14 (by omega) _ _ (fun p r => rd_pair arg20 X_arg20 S h20 _ _ ⟨16 * k.val + 14, by omega⟩ (k0_off2_eq k 14) p r) (fun p r => rd_pair arg21 X_arg21 Z h21 _ _ ⟨16 * k.val + 14, by omega⟩ (k0_off2_eq k 14) p r) a r _ rfl
    · refine (grp15 _ _ _ a r).trans ?_
      exact grp_kd x4 S Z k.val hk _ hv 15 (by omega) _ _ (fun p r => rd_pair arg20 X_arg20 S h20 _ _ ⟨16 * k.val + 15, by omega⟩ (k0_off2_eq k 15) p r) (fun p r => rd_pair arg21 X_arg21 Z h21 _ _ ⟨16 * k.val + 15, by omega⟩ (k0_off2_eq k 15) p r) a r _ rfl
  refine (key _ _).trans ?_
  congr 2
  show 512 * k.val + (32 * (t.val / 32) + t.val % 32) = 512 * k.val + t.val
  omega

theorem tripK_val (𝒱 : Variants) (c : Dev nD) (bd : Option 𝒱.V) (i : grid0.Coords) (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x2x256 .bf16) (harg20 : arg20.IsWhole) (arg21 : Memref sig .tc .vmem S1024x2x256 .bf16) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg0 : BitVec 32) (v1 : FVec Ideal S64x256 .bf16) (v2 : IVec S256x128 32) (v106 : FVec Ideal S64x256 .f32) (v393 : FVec Ideal S128x128 .f32) (v394_lo : FVec Ideal S128x128 .bf16) (X_arg4 : BufTy.Contents (Elt Ideal) arg4.view.ty) (X_arg20 : BufTy.Contents (Elt Ideal) arg20.view.ty) (X_arg21 : BufTy.Contents (Elt Ideal) arg21.view.ty) (k : Fin k0_t1_loop.trips)  (acc : FVec Ideal S64x128 .f32)
    (x4 : S1x4x32x32768.Idx → BitVec 8) (S Z : Fin 1024 → Fin 256 → EReal) (hk : k.val < 64)
    (h4 : arg4.view.read (Elt Ideal) X_arg4 = x4)
    (h20 : ∀ g p r, arg20.view.read (Elt Ideal) X_arg20 (ix3 g p r) = S g r)
    (h21 : ∀ g p r, arg21.view.read (Elt Ideal) X_arg21 (ix3 g p r) = Z g r) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 k acc = k0_pay39 acc (trW x4 S Z v1 k.val hk)
    ∧ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 k acc = [⟨Rect.unit (s := S64x33024) (k0_off3 k) S64x512.size (k0_off3_inb k), k0_pay38 (trW x4 S Z v1 k.val hk)⟩] := by
  unfold tripR_k0_t1 tripL_k0_t1 trip_k0_t1
  dsimp only
  rw [trip_scores arg4 arg20 arg21 v1 X_arg4 X_arg20 X_arg21 k x4 S Z hk h4 h20 h21]
  exact ⟨rfl, rfl⟩

end Cert.KernelIdeal.Val
-- ==== Proof.Walk.lean ====
/- The two loops' states in closed form. -/
module

public import proofs.«01_k».proof.Proof.TripK

@[expose] public section

set_option maxRecDepth 16384
set_option maxHeartbeats 2000000

noncomputable section

namespace Cert.KernelIdeal.Val

open Idealize.ShloMosaic Idealize.ShloMosaic.TcCoe
open Cert.KernelIdeal Cert.KernelIdeal.Gen

/-- A place in the past, from any number. -/
abbrev past (n : ℕ) : Fin 32768 := ⟨n % 32768, Nat.mod_lt _ (by decide)⟩

theorem past_eq (n : ℕ) (h : n < 32768) : (⟨n, h⟩ : Fin 32768) = past n := Fin.ext (Nat.mod_eq_of_lt h).symm

/-- A past value's plane row. -/
def vd (x7 : S1x4x32x32768.Idx → BitVec 8) (vs vz : S1x4x32768.Idx → EReal) (n : ℕ) (r : Fin 256) : EReal :=
  nibv (r.val / 128) (x7 (ix4 0 ⟨r.val % 128 / 32, by omega⟩ ⟨r.val % 32, by omega⟩ (past n))) * vs (ix3 0 ⟨r.val % 128 / 32, by omega⟩ (past n))
    + vz (ix3 0 ⟨r.val % 128 / 32, by omega⟩ (past n))

theorem trips1 : k0_t1_loop.trips = 64 := by decide +kernel
theorem trips2 : k0_t2_loop.trips = 64 := by decide +kernel

theorem rd_row (m : Memref sig .tc .vmem S1x4x32768 .f32) (X : BufTy.Contents (Elt Ideal) m.view.ty) (x : S1x4x32768.Idx → EReal)
    (h : m.view.read (Elt Ideal) X = x) (off : Fin S1x4x32768.rank → ℕ) (inb : ∀ a, off a + S1x4x512.size a ≤ S1x4x32768.size a)
    (k : ℕ) (hk : k < 64) (ho : off = ![0, 0, 512 * k]) (u : Fin 4) (t : Fin 512) :
    View.readAt (Elt Ideal) m.view (Rect.unit (s := S1x4x32768) off S1x4x512.size inb).toLoadRect X (ix3 0 u t) = x (ix3 0 u (past (512 * k + t.val))) := by
  subst ho
  rw [← h, ← past_eq _ (show 512 * k + t.val < 32768 by omega)]
  refine congrArg (m.view.read (Elt Ideal) X) (funext fun b => ?_)
  match b with
  | ⟨0, _⟩ => exact Fin.ext (by show 0 + 1 * 0 = 0; omega)
  | ⟨1, _⟩ => exact Fin.ext (by show 0 + 1 * u.val = u.val; omega)
  | ⟨2, _⟩ => exact Fin.ext (by show 512 * k + 1 * t.val = 512 * k + t.val; omega)

theorem rd_scores (m : Memref sig .tc .vmem S64x33024 .f32) (X : BufTy.Contents (Elt Ideal) m.view.ty) (sN : Fin 64 → ℕ → EReal)
    (h19 : ∀ (h : Fin 64) (n : Fin 33024), n.val < 32768 → m.view.read (Elt Ideal) X (ix2 h n) = sN h n.val)
    (off : Fin S64x33024.rank → ℕ) (inb : ∀ a, off a + S64x512.size a ≤ S64x33024.size a)
    (k : ℕ) (hk : k < 64) (ho : off = ![0, 512 * k]) (h : Fin 64) (t : Fin 512) :
    View.readAt (Elt Ideal) m.view (Rect.unit (s := S64x33024) off S64x512.size inb).toLoadRect X (ix2 h t) = sN h (512 * k + t.val) := by
  subst ho
  rw [← h19 h ⟨512 * k + t.val, by omega⟩ (by show 512 * k + t.val < 32768; omega)]
  refine congrArg (m.view.read (Elt Ideal) X) (funext fun b => ?_)
  match b with
  | ⟨0, _⟩ => exact Fin.ext (by show 0 + 1 * h.val = h.val; omega)
  | ⟨1, _⟩ => exact Fin.ext (by show 512 * k + 1 * t.val = 512 * k + t.val; omega)

theorem mem_piece (off : Fin S64x33024.rank → ℕ) (inb : ∀ a, off a + S64x512.size a ≤ S64x33024.size a)
    (k : ℕ) (ho : off = ![0, 512 * k]) (h : Fin 64) (n : Fin 33024) (h1 : 512 * k ≤ n.val) (h2 : n.val < 512 * k + 512) :
    (ix2 h n : S64x33024.Idx) ∈ (Rect.unit (s := S64x33024) off S64x512.size inb).set := by
  subst ho
  rw [Rect.mem_set_unit]
  intro a
  match a with
  | ⟨0, _⟩ => exact ⟨Nat.zero_le _, by show h.val < 0 + 64; omega⟩
  | ⟨1, _⟩ => exact ⟨h1, h2⟩

/-- The score at any number. -/
def scrN (x4 : S1x4x32x32768.Idx → BitVec 8) (S Z : Fin 1024 → Fin 256 → EReal) (q : FVec Ideal S64x256 .bf16) (h : Fin 64) (n : ℕ) : EReal :=
  scr x4 S Z q h (past n)

theorem trW_apply (x4 : S1x4x32x32768.Idx → BitVec 8) (S Z : Fin 1024 → Fin 256 → EReal) (q : FVec Ideal S64x256 .bf16) (k : ℕ) (hk : k < 64)
    (h : Fin 64) (t : Fin 512) : trW x4 S Z q k hk (ix2 h t) = scrN x4 S Z q h (512 * k + t.val) := by
  exact congrArg (scr x4 S Z q h) (past_eq (512 * k + t.val) (by omega))

theorem stK (𝒱 : Variants) (c : Dev nD) (bd : Option 𝒱.V) (i : grid0.Coords) (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x2x256 .bf16) (harg20 : arg20.IsWhole) (arg21 : Memref sig .tc .vmem S1024x2x256 .bf16) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg0 : BitVec 32) (v1 : FVec Ideal S64x256 .bf16) (v2 : IVec S256x128 32) (v106 : FVec Ideal S64x256 .f32) (v393 : FVec Ideal S128x128 .f32) (v394_lo : FVec Ideal S128x128 .bf16) (X_arg4 : BufTy.Contents (Elt Ideal) arg4.view.ty) (X_arg20 : BufTy.Contents (Elt Ideal) arg20.view.ty) (X_arg21 : BufTy.Contents (Elt Ideal) arg21.view.ty) (init : FVec Ideal S64x128 .f32)
    (x4 : S1x4x32x32768.Idx → BitVec 8) (S Z : Fin 1024 → Fin 256 → EReal)
    (h4 : arg4.view.read (Elt Ideal) X_arg4 = x4)
    (h20 : ∀ g p r, arg20.view.read (Elt Ideal) X_arg20 (ix3 g p r) = S g r)
    (h21 : ∀ g p r, arg21.view.read (Elt Ideal) X_arg21 (ix3 g p r) = Z g r)
    (n : ℕ) (hn : n ≤ 64) :
    (∀ (h : Fin 64) (j : Fin 128) (x : EReal), (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 init n).1 (ix2 h j) ≤ x ↔
        init (ix2 h j) ≤ x ∧ ∀ k < n, ∀ e < 4, scrN x4 S Z v1 h (512 * k + (128 * e + j.val)) ≤ x)
    ∧ (∀ G : S64x33024.Idx → EReal, (∀ (h : Fin 64) (m : Fin 33024), m.val < 32768 → G (ix2 h m) = scrN x4 S Z v1 h m.val) →
        ∀ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 init n).2, ∀ x, p.2 x = G (p.1.emb x))
    ∧ (∀ (h : Fin 64) (m : Fin 33024), m.val < 512 * n → ∃ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 init n).2, (ix2 h m : S64x33024.Idx) ∈ p.1.set) := by
  induction n with
  | zero =>
    refine ⟨fun h j x => ?_, fun G _ p hp => ?_, fun h m hm => ?_⟩
    · show init (ix2 h j) ≤ x ↔ _
      simp
    · exact absurd hp List.not_mem_nil
    · omega
  | succ n ih =>
    obtain ⟨i1, i2, i3⟩ := ih (by omega)
    have hk : n < k0_t1_loop.trips := by rw [trips1]; omega
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 init ⟨n, hk⟩
    have tv := tripK_val 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 ⟨n, hk⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 init n).1 x4 S Z (by show n < 64; omega) h4 h20 h21
    rw [tv.1, tv.2] at e
    rw [e]
    refine ⟨fun h j x => ?_, fun G hG p hp x => ?_, fun h m hm => ?_⟩
    · show (k0_pay39 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 init n).1 (trW x4 S Z v1 n (by omega)) (ix2 h j) : EReal) ≤ x ↔ _
      rw [pay39_apply]
      simp only [max_le_iff, trW_apply, i1 h j x]
      constructor
      · rintro ⟨⟨⟨⟨⟨h0, h1⟩, c0⟩, c1⟩, c2⟩, c3⟩
        refine ⟨h0, fun k hk w hw => ?_⟩
        by_cases hkn : k = n
        · subst hkn
          rcases (by omega : w = 0 ∨ w = 1 ∨ w = 2 ∨ w = 3) with rfl | rfl | rfl | rfl
          · simpa using c0
          · simpa using c1
          · simpa using c2
          · simpa using c3
        · exact h1 k (by omega) w hw
      · rintro ⟨h0, h1⟩
        refine ⟨⟨⟨⟨⟨h0, fun k hk e he => h1 k (by omega) e he⟩, ?_⟩, ?_⟩, ?_⟩, ?_⟩
        · simpa using h1 n (by omega) 0 (by omega)
        · simpa using h1 n (by omega) 1 (by omega)
        · simpa using h1 n (by omega) 2 (by omega)
        · simpa using h1 n (by omega) 3 (by omega)
    · rcases List.mem_append.mp hp with hp | hp
      · obtain rfl := List.mem_singleton.mp hp
        obtain ⟨h, t, rfl⟩ := ix_surj (a := 64) (b := 512) x
        show k0_pay38 (F := Ideal) (trW x4 S Z v1 n (by omega)) (ix2 h t) = _
        rw [pay38_apply, trW_apply]
        have hlt : 512 * n + t.val < 33024 := by omega
        rw [← hG h ⟨512 * n + t.val, hlt⟩ (by show 512 * n + t.val < 32768; omega)]
        refine congrArg G (funext fun b => ?_)
        have ho := k0_off3_eq ⟨n, hk⟩
        match b with
        | ⟨0, _⟩ => exact Fin.ext (by show h.val = (k0_off3 ⟨n, hk⟩) 0 + 1 * h.val; rw [ho]; show h.val = 0 + 1 * h.val; omega)
        | ⟨1, _⟩ => exact Fin.ext (by show 512 * n + t.val = (k0_off3 ⟨n, hk⟩) 1 + 1 * t.val; rw [ho]; show 512 * n + t.val = 512 * n + 1 * t.val; omega)
      · exact i2 G hG p hp x
    · by_cases hmn : m.val < 512 * n
      · obtain ⟨p, hp, hp'⟩ := i3 h m hmn
        exact ⟨p, List.mem_append_right _ hp, hp'⟩
      · exact ⟨_, List.mem_append_left _ (List.mem_singleton_self _), mem_piece _ (k0_off3_inb ⟨n, hk⟩) n (k0_off3_eq ⟨n, hk⟩) h m (by omega) (by omega)⟩

theorem tripV_val (𝒱 : Variants) (c : Dev nD) (bd : Option 𝒱.V) (i : grid0.Coords) (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x2x256 .bf16) (harg20 : arg20.IsWhole) (arg21 : Memref sig .tc .vmem S1024x2x256 .bf16) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (v106 : FVec Ideal S64x256 .f32) (v404 : FVec Ideal S64x1 .f32) (v423 : FVec Ideal S256x128 .bf16) (v429 : FVec Ideal S256x128 .f32) (X_arg7 : BufTy.Contents (Elt Ideal) arg7.view.ty) (X_arg8 : BufTy.Contents (Elt Ideal) arg8.view.ty) (X_arg9 : BufTy.Contents (Elt Ideal) arg9.view.ty) (X_arg19 : BufTy.Contents (Elt Ideal) arg19.view.ty) (k : Fin k0_t2_loop.trips) (acc : FVec Ideal S64x128 .f32 × FVec Ideal S64x256 .f32)
    (x7 : S1x4x32x32768.Idx → BitVec 8) (vs vz : S1x4x32768.Idx → EReal) (sN : Fin 64 → ℕ → EReal)
    (h7 : arg7.view.read (Elt Ideal) X_arg7 = x7)
    (h8 : arg8.view.read (Elt Ideal) X_arg8 = vs)
    (h9 : arg9.view.read (Elt Ideal) X_arg9 = vz)
    (h19 : ∀ (h : Fin 64) (n : Fin 33024), n.val < 32768 → arg19.view.read (Elt Ideal) X_arg19 (ix2 h n) = sN h n.val)
    (hk : k.val < 64) :
    (∀ (h : Fin 64) (j : Fin 128), (tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 v404 v423 v429 X_arg7 X_arg8 X_arg9 X_arg19 k acc).1 (ix2 h j) = acc.1 (ix2 h j) +
      (prob (sN h (512 * k.val + j.val)) (v404 (ix2 h 0)) + prob (sN h (512 * k.val + (128 + j.val))) (v404 (ix2 h 0))
        + prob (sN h (512 * k.val + (256 + j.val))) (v404 (ix2 h 0)) + prob (sN h (512 * k.val + (384 + j.val))) (v404 (ix2 h 0))))
    ∧ (∀ (h : Fin 64) (r : Fin 256), (tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 v404 v423 v429 X_arg7 X_arg8 X_arg9 X_arg19 k acc).2 (ix2 h r) = acc.2 (ix2 h r) +
      ∑ t ∈ Finset.range 512, prob (sN h (512 * k.val + t)) (v404 (ix2 h 0)) * vd x7 vs vz (512 * k.val + t) r) := by
  have e : tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 v404 v423 v429 X_arg7 X_arg8 X_arg9 X_arg19 k acc = (k0_pay142 v404 acc.1 (View.readAt (Elt Ideal) arg19.view (Rect.unit (s := S64x33024) (k0_off6 k) S64x512.size (k0_off6_inb k)).toLoadRect X_arg19),
      k0_pay141 v404 acc.2 (k0_pay41 (View.readAt (Elt Ideal) arg7.view (Rect.unit (s := S1x4x32x32768) (k0_off4 k) S1x4x32x512.size (k0_off4_inb k)).toLoadRect X_arg7))
        (k0_pay42 (View.readAt (Elt Ideal) arg7.view (Rect.unit (s := S1x4x32x32768) (k0_off4 k) S1x4x32x512.size (k0_off4_inb k)).toLoadRect X_arg7))
        (k0_pay43 (View.readAt (Elt Ideal) arg9.view (Rect.unit (s := S1x4x32768) (k0_off5 k) S1x4x512.size (k0_off5_inb k)).toLoadRect X_arg9))
        (k0_pay44 (View.readAt (Elt Ideal) arg8.view (Rect.unit (s := S1x4x32768) (k0_off5 k) S1x4x512.size (k0_off5_inb k)).toLoadRect X_arg8))
        (View.readAt (Elt Ideal) arg19.view (Rect.unit (s := S64x33024) (k0_off6 k) S64x512.size (k0_off6_inb k)).toLoadRect X_arg19)) := by
    unfold tripR_k0_t2 trip_k0_t2
    rfl
  rw [e]
  clear e
  have r19 := fun h t => rd_scores arg19 X_arg19 sN h19 _ (k0_off6_inb k) k.val hk (k0_off6_eq k) h t
  have r7 := fun u d t => rd_codes arg7 X_arg7 x7 h7 _ (k0_off4_inb k) k.val hk (k0_off4_eq k) u d t
  have r8 := fun u t => rd_row arg8 X_arg8 vs h8 _ (k0_off5_inb k) k.val hk (k0_off5_eq k) u t
  have r9 := fun u t => rd_row arg9 X_arg9 vz h9 _ (k0_off5_inb k) k.val hk (k0_off5_eq k) u t
  refine ⟨fun h j => ?_, fun h r => ?_⟩
  · show k0_pay142 _ _ _ (ix2 h j) = _
    rw [pay142_apply, r19, r19, r19, r19]
  · show k0_pay141 _ _ _ _ _ _ _ (ix2 h r) = _
    rw [pay141_apply, Finset.sum_range]
    refine congrArg _ (Finset.sum_congr rfl fun t _ => ?_)
    rw [r19, pay41_apply, pay42_apply, pay43_apply, pay44_apply, r7, r8, r9]
    refine congrArg _ ?_
    unfold vd
    have e4 : (⟨r.val % 128 % 32, by omega⟩ : Fin 32) = ⟨r.val % 32, by omega⟩ := Fin.ext (by show r.val % 128 % 32 = r.val % 32; omega)
    rw [← past_eq (512 * k.val + t.val) (by omega)]
    simp only [e4]
    by_cases hr : r.val / 128 = 0
    · rw [if_pos hr, hr]
    · rw [if_neg hr, show r.val / 128 = 1 by omega]

theorem stV (𝒱 : Variants) (c : Dev nD) (bd : Option 𝒱.V) (i : grid0.Coords) (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x2x256 .bf16) (harg20 : arg20.IsWhole) (arg21 : Memref sig .tc .vmem S1024x2x256 .bf16) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (v106 : FVec Ideal S64x256 .f32) (v404 : FVec Ideal S64x1 .f32) (v423 : FVec Ideal S256x128 .bf16) (v429 : FVec Ideal S256x128 .f32) (X_arg7 : BufTy.Contents (Elt Ideal) arg7.view.ty) (X_arg8 : BufTy.Contents (Elt Ideal) arg8.view.ty) (X_arg9 : BufTy.Contents (Elt Ideal) arg9.view.ty) (X_arg19 : BufTy.Contents (Elt Ideal) arg19.view.ty) (init : FVec Ideal S64x128 .f32 × FVec Ideal S64x256 .f32)
    (x7 : S1x4x32x32768.Idx → BitVec 8) (vs vz : S1x4x32768.Idx → EReal) (sN : Fin 64 → ℕ → EReal)
    (h7 : arg7.view.read (Elt Ideal) X_arg7 = x7)
    (h8 : arg8.view.read (Elt Ideal) X_arg8 = vs)
    (h9 : arg9.view.read (Elt Ideal) X_arg9 = vz)
    (h19 : ∀ (h : Fin 64) (n : Fin 33024), n.val < 32768 → arg19.view.read (Elt Ideal) X_arg19 (ix2 h n) = sN h n.val)
    (n : ℕ) (hn : n ≤ 64) :
    (∀ (h : Fin 64) (j : Fin 128), (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 v404 v423 v429 X_arg7 X_arg8 X_arg9 X_arg19 init n).1 (ix2 h j) = init.1 (ix2 h j) +
      ∑ k ∈ Finset.range n, (prob (sN h (512 * k + j.val)) (v404 (ix2 h 0)) + prob (sN h (512 * k + (128 + j.val))) (v404 (ix2 h 0))
        + prob (sN h (512 * k + (256 + j.val))) (v404 (ix2 h 0)) + prob (sN h (512 * k + (384 + j.val))) (v404 (ix2 h 0))))
    ∧ (∀ (h : Fin 64) (r : Fin 256), (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 v404 v423 v429 X_arg7 X_arg8 X_arg9 X_arg19 init n).2 (ix2 h r) = init.2 (ix2 h r) +
      ∑ k ∈ Finset.range n, ∑ t ∈ Finset.range 512, prob (sN h (512 * k + t)) (v404 (ix2 h 0)) * vd x7 vs vz (512 * k + t) r) := by
  induction n with
  | zero =>
    refine ⟨fun h j => ?_, fun h r => ?_⟩
    · show init.1 (ix2 h j) = _
      simp
    · show init.2 (ix2 h r) = _
      simp
  | succ n ih =>
    obtain ⟨i1, i2⟩ := ih (by omega)
    have hk : n < k0_t2_loop.trips := by rw [trips2]; omega
    have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 v404 v423 v429 X_arg7 X_arg8 X_arg9 X_arg19 init ⟨n, hk⟩
    have tv := tripV_val 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 v404 v423 v429 X_arg7 X_arg8 X_arg9 X_arg19 ⟨n, hk⟩ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 v404 v423 v429 X_arg7 X_arg8 X_arg9 X_arg19 init n) x7 vs vz sN h7 h8 h9 h19 (by show n < 64; omega)
    rw [e]
    refine ⟨fun h j => ?_, fun h r => ?_⟩
    · refine (tv.1 h j).trans ?_
      rw [i1 h j, Finset.sum_range_succ, add_assoc]
    · refine (tv.2 h r).trans ?_
      rw [i2 h r, Finset.sum_range_succ _ n, add_assoc]

end Cert.KernelIdeal.Val
-- ==== Proof.Fold.lean ====
/- One point's whole attention in closed form. -/
module

public import proofs.«01_k».proof.Proof.Walk

@[expose] public section

set_option maxRecDepth 16384
set_option maxHeartbeats 2000000

noncomputable section

namespace Cert.KernelIdeal.Val

open Idealize.ShloMosaic Idealize.ShloMosaic.TcCoe
open Cert.KernelIdeal Cert.KernelIdeal.Gen

/-- A sequence of the past, the tail and the new token. -/
def allOf (p : ℕ → EReal) (t : Fin 128 → EReal) (n : EReal) (m : ℕ) : EReal :=
  if m < 32768 then p m else if h : m - 32768 < 128 then t ⟨m - 32768, h⟩ else n

theorem sum_blocks (f : ℕ → EReal) (w : ℕ) : ∀ K : ℕ, ∑ k ∈ Finset.range K, ∑ t ∈ Finset.range w, f (w * k + t) = ∑ n ∈ Finset.range (w * K), f n
  | 0 => by simp
  | K + 1 => by rw [Finset.sum_range_succ, sum_blocks f w K, Nat.mul_succ, Finset.sum_range_add]

theorem sum_lanes (f : ℕ → EReal) (K : ℕ) :
    ∑ j : Fin 128, ∑ k ∈ Finset.range K, (f (512 * k + j.val) + f (512 * k + (128 + j.val)) + f (512 * k + (256 + j.val)) + f (512 * k + (384 + j.val)))
      = ∑ n ∈ Finset.range (512 * K), f n := by
  rw [Finset.sum_comm, ← sum_blocks]
  refine Finset.sum_congr rfl fun k _ => ?_
  rw [show (512 : ℕ) = 128 + 128 + 128 + 128 from rfl, Finset.sum_range_add, Finset.sum_range_add, Finset.sum_range_add]
  simp only [Finset.sum_add_distrib, Finset.sum_range, Nat.reduceAdd, add_assoc]

theorem sum_all (p : ℕ → EReal) (t : Fin 128 → EReal) (n : EReal) (g : ℕ → EReal → EReal) :
    ∑ m ∈ Finset.range 32897, g m (allOf p t n m) = ∑ m ∈ Finset.range 32768, g m (p m) + ∑ j : Fin 128, g (32768 + j.val) (t j) + g 32896 n := by
  rw [show (32897 : ℕ) = 32768 + 128 + 1 from rfl, Finset.sum_range_add, Finset.sum_range_add]
  refine congrArg₂ _ (congrArg₂ _ (Finset.sum_congr rfl fun m hm => ?_) ?_) ?_
  · rw [allOf, if_pos (Finset.mem_range.mp hm)]
  · rw [Finset.sum_range]
    refine Finset.sum_congr rfl fun j _ => congrArg _ ?_
    unfold allOf
    rw [if_neg (by omega), dif_pos (show 32768 + j.val - 32768 < 128 by omega)]
    exact congrArg t (Fin.ext (by show 32768 + j.val - 32768 = j.val; omega))
  · simp [allOf]

theorem all_le (p : ℕ → EReal) (t : Fin 128 → EReal) (n x : EReal) :
    (∀ m < 32897, allOf p t n m ≤ x) ↔ (∀ m < 32768, p m ≤ x) ∧ (∀ j, t j ≤ x) ∧ n ≤ x := by
  constructor
  · intro h
    refine ⟨fun m hm => ?_, fun j => ?_, ?_⟩
    · have := h m (by omega)
      rwa [allOf, if_pos hm] at this
    · have := h (32768 + j.val) (by omega)
      rw [allOf, if_neg (by omega), dif_pos (show 32768 + j.val - 32768 < 128 by omega)] at this
      rwa [show (⟨32768 + j.val - 32768, by omega⟩ : Fin 128) = j from Fin.ext (by show 32768 + j.val - 32768 = j.val; omega)] at this
    · have := h 32896 (by omega)
      simpa [allOf] using this
  · rintro ⟨h1, h2, h3⟩ m hm
    unfold allOf
    split_ifs with a b
    · exact h1 m a
    · exact h2 _
    · exact h3

theorem ceighth : Ideal.ofBits FTy.f32 1040187392#32 = (((1 : ℝ) / 8 : ℝ) : EReal) := by
  simp [Ideal.ofBits, Ideal.ieee]
  rw [← EReal.coe_mul]
  exact congrArg _ (by norm_num)

theorem cpos : (0 : EReal) < Ideal.ofBits FTy.f32 1040187392#32 := by
  rw [ceighth]; exact EReal.coe_pos.mpr (by norm_num)

theorem prob_bot (m : EReal) : prob ⊥ m = 0 := by
  unfold prob
  rw [EReal.bot_sub, EReal.bot_mul_of_pos cpos]
  rfl

/-- A head's row of the planes that holds its dimension `d`. -/
abbrev rowOf (h d : Fin 64) : Fin 256 := ⟨d.val % 2 * 128 + h.val / 16 * 32 + d.val / 2, by omega⟩

theorem row_nat (h d : ℕ) (hh : h < 64) (hd : d < 64) :
    (d % 2 * 128 + h / 16 * 32 + d / 2) % 128 / 32 = h / 16 ∧ 2 * ((d % 2 * 128 + h / 16 * 32 + d / 2) % 32) + (d % 2 * 128 + h / 16 * 32 + d / 2) / 128 = d := by
  have ha : h / 16 < 4 := by omega
  generalize h / 16 = a at ha
  rcases (by omega : d % 2 = 0 ∨ d % 2 = 1) with e | e <;> rw [e] <;> interval_cases a <;> omega

theorem row_uniq (h d r : ℕ) (hh : h < 64) (hd : d < 64) (hr : r < 256) (h1 : r % 128 / 32 = h / 16) (h2 : 2 * (r % 32) + r / 128 = d) :
    r = d % 2 * 128 + h / 16 * 32 + d / 2 := by
  rw [← h1]
  have e : r = 128 * (r / 128) + 32 * (r % 128 / 32) + r % 32 := by omega
  rcases (by omega : r / 128 = 0 ∨ r / 128 = 1) with q | q <;> rw [q] at e h2 <;> omega

theorem sum_own (f : Fin 256 → EReal) (h d : Fin 64) :
    ∑ r : Fin 256, (if r.val % 128 / 32 = h.val / 16 then f r else 0) * (if 2 * (r.val % 32) + r.val / 128 = d.val then 1 else 0) = f (rowOf h d) := by
  rw [Finset.sum_eq_single (rowOf h d)]
  · rw [if_pos (show (d.val % 2 * 128 + h.val / 16 * 32 + d.val / 2) % 128 / 32 = h.val / 16 from (row_nat _ _ h.isLt d.isLt).1),
      if_pos (show 2 * ((d.val % 2 * 128 + h.val / 16 * 32 + d.val / 2) % 32) + (d.val % 2 * 128 + h.val / 16 * 32 + d.val / 2) / 128 = d.val from (row_nat _ _ h.isLt d.isLt).2), mul_one]
  · intro r _ hr
    by_cases h1 : r.val % 128 / 32 = h.val / 16
    · exact (congrArg₂ (· * ·) rfl (if_neg (fun h2 => hr (Fin.ext (row_uniq _ _ _ h.isLt d.isLt r.isLt h1 h2))))).trans (mul_zero _)
    · rw [if_neg h1, zero_mul]
  · intro hn; exact absurd (Finset.mem_univ _) hn

/-- A head's greatest score. -/
def topOf (s : ℕ → EReal) : EReal := (Finset.range 32897).sup s

/-- The softmax-weighted mean of the values. -/
def attn (s v : ℕ → EReal) : EReal :=
  Ideal.div (∑ n ∈ Finset.range 32897, prob (s n) (topOf s) * v n) (∑ n ∈ Finset.range 32897, prob (s n) (topOf s))

theorem y_of (𝒱 : Variants) (c : Dev nD) (bd : Option 𝒱.V) (i : grid0.Coords) (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x2x256 .bf16) (harg20 : arg20.IsWhole) (arg21 : Memref sig .tc .vmem S1024x2x256 .bf16) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg0 : BitVec 32) (v1 : FVec Ideal S64x256 .bf16) (v2 : IVec S256x128 32) (v106 : FVec Ideal S64x256 .f32) (v393 : FVec Ideal S128x128 .f32) (v394_lo : FVec Ideal S128x128 .bf16) (X_arg4 : BufTy.Contents (Elt Ideal) arg4.view.ty) (X_arg20 : BufTy.Contents (Elt Ideal) arg20.view.ty) (X_arg21 : BufTy.Contents (Elt Ideal) arg21.view.ty) (v423 : FVec Ideal S256x128 .bf16) (v429 : FVec Ideal S256x128 .f32)
    (X_arg7 : BufTy.Contents (Elt Ideal) arg7.view.ty) (X_arg8 : BufTy.Contents (Elt Ideal) arg8.view.ty) (X_arg9 : BufTy.Contents (Elt Ideal) arg9.view.ty)
    (f19 : BufTy.Contents (Elt Ideal) arg19.view.ty) (p64 : FVec Ideal S64x256 .f32)
    (x4 : S1x4x32x32768.Idx → BitVec 8) (S Z : Fin 1024 → Fin 256 → EReal)
    (h4 : arg4.view.read (Elt Ideal) X_arg4 = x4)
    (h20 : ∀ g p r, arg20.view.read (Elt Ideal) X_arg20 (ix3 g p r) = S g r)
    (h21 : ∀ g p r, arg21.view.read (Elt Ideal) X_arg21 (ix3 g p r) = Z g r)
    (sT : Fin 64 → Fin 128 → EReal) (sN : Fin 64 → EReal) (vT : Fin 256 → Fin 128 → EReal) (vN : Fin 256 → EReal)
    (hs : ∀ (h : Fin 64) (j : Fin 256), v106 (ix2 h j) = if h' : j.val < 128 then sT h ⟨j.val, h'⟩ else if j.val = 128 then sN h else ⊥)
    (hp : p64 = v106)
    (hvt : ∀ r j, v423 (ix2 r j) = vT r j) (hvn : ∀ (r : Fin 256) (j : Fin 128), v429 (ix2 r j) = if j.val = 0 then vN r else 0)
    (x7 : S1x4x32x32768.Idx → BitVec 8) (vs vz : S1x4x32768.Idx → EReal)
    (h7 : arg7.view.read (Elt Ideal) X_arg7 = x7)
    (h8 : arg8.view.read (Elt Ideal) X_arg8 = vs)
    (h9 : arg9.view.read (Elt Ideal) X_arg9 = vz) (h d : Fin 64) :
    k0_pay1 (F := Ideal) (k0_pay148 (k0_pay143 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1) v423 v429 X_arg7 X_arg8 X_arg9 (arg19.view.writes (Elt Ideal) f19 ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).2 ++ [⟨Rect.unit (s := S64x33024) ![0, 32768] S64x256.size inb_S64x33024_S64x256_0_32768, p64⟩])) (k0_pay138 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1), k0_pay139 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1) v423 v429) (Scf.trips k0_t2_loop.lb k0_t2_loop.ub k0_t2_loop.st)).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1) v423 v429 X_arg7 X_arg8 X_arg9 (arg19.view.writes (Elt Ideal) f19 ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).2 ++ [⟨Rect.unit (s := S64x33024) ![0, 32768] S64x256.size inb_S64x33024_S64x256_0_32768, p64⟩])) (k0_pay138 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1), k0_pay139 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1) v423 v429) (Scf.trips k0_t2_loop.lb k0_t2_loop.ub k0_t2_loop.st)).2)
      (iota .tc S64x256 32 [0] iota_S64x256_d0_w32) k0_pay144 32#32 k0_pay145 k0_pay146 k0_pay147)
      (k0_pay149 (iota .tc S256x64 32 [0] iota_S256x64_d0_w32) (iota .tc S256x64 32 [1] iota_S256x64_d1_w32) 32#32 0#32)
      (constant S64x64 .f32 0x00000000#32) (ix3 0 h d)
    = attn (allOf (scrN x4 S Z v1 h) (sT h) (sN h)) (fun n => allOf (fun n => vd x7 vs vz n (rowOf h d)) (vT (rowOf h d)) (vN (rowOf h d)) n) := by
  have e1 : Scf.trips k0_t1_loop.lb k0_t1_loop.ub k0_t1_loop.st = 64 := trips1
  have e2 : Scf.trips k0_t2_loop.lb k0_t2_loop.ub k0_t2_loop.st = 64 := trips2
  rw [e1]
  try rw [e2]
  obtain ⟨k1, k2, k3⟩ := stK 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) x4 S Z h4 h20 h21 64 le_rfl
  have hs0 : ∀ (h : Fin 64) (j : Fin 128), v106 (ix2 h ⟨j.val, by omega⟩) = sT h j := fun h j => (hs h _).trans (dif_pos j.isLt)
  have hs1 : ∀ (h : Fin 64) (j : Fin 128), v106 (ix2 h ⟨128 + j.val, by omega⟩) = if j.val = 0 then sN h else ⊥ := fun h j =>
    (hs h _).trans ((dif_neg (show ¬ 128 + j.val < 128 by omega)).trans (if_congr (by show 128 + j.val = 128 ↔ _; omega) rfl rfl))
  generalize hst : st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) 64 = st at k1 k2 k3 ⊢
  have hM : ∀ h : Fin 64, k0_pay134 (F := Ideal) st.1 (ix2 h 0) = topOf (allOf (scrN x4 S Z v1 h) (sT h) (sN h)) := by
    intro h
    rw [pay134_apply]
    refine eq_of_forall_ge_iff fun x => ?_
    rw [Finset.sup_le_iff, topOf, Finset.sup_le_iff]
    simp only [Finset.mem_range, all_le, Finset.mem_univ, forall_true_left, k1, pay133_apply, hs0, hs1, max_le_iff]
    constructor
    · intro H
      refine ⟨fun m hm => ?_, fun j => (H j).1.1, ?_⟩
      · have := (H ⟨m % 128, by omega⟩).2 (m / 512) (by omega) (m % 512 / 128) (by omega)
        rwa [show 512 * (m / 512) + (128 * (m % 512 / 128) + m % 128) = m by omega] at this
      · have := (H 0).1.2
        simpa using this
    · rintro ⟨H1, H2, H3⟩ j
      refine ⟨⟨H2 j, ?_⟩, fun k hk e he => H1 _ (by omega)⟩
      split_ifs
      · exact H3
      · exact bot_le
  generalize hm : k0_pay134 (F := Ideal) st.1 = M at hM ⊢
  have h19 : ∀ (h : Fin 64) (n : Fin 33024), n.val < 32768 → arg19.view.read (Elt Ideal) (arg19.view.writes (Elt Ideal) f19 (st.2 ++ [⟨Rect.unit (s := S64x33024) ![0, 32768] S64x256.size inb_S64x33024_S64x256_0_32768, p64⟩])) (ix2 h n) = scrN x4 S Z v1 h n.val := by
    intro h n hn
    obtain ⟨G, hG, hG'⟩ : ∃ G : S64x33024.Idx → EReal, (∀ (h : Fin 64) (m : Fin 33024), m.val < 32768 → G (ix2 h m) = scrN x4 S Z v1 h m.val)
        ∧ ∀ y, G ((Rect.unit (s := S64x33024) ![0, 32768] S64x256.size inb_S64x33024_S64x256_0_32768).emb y) = p64 y := by
      refine ⟨fun y => if hy : (y 1).val < 32768 then scrN x4 S Z v1 ⟨(y 0).val, (y 0).isLt⟩ (y 1).val
        else p64 (ix2 ⟨(y 0).val, (y 0).isLt⟩ ⟨(y 1).val - 32768, by have : (y 1).val < 33024 := (y 1).isLt; omega⟩), fun h m hm => dif_pos hm, fun y => ?_⟩
      obtain ⟨a, b, rfl⟩ := ix_surj (a := 64) (b := 256) y
      refine (dif_neg (show ¬ 32768 + 1 * b.val < 32768 by omega)).trans (congrArg₂ (fun a b => p64 (ix2 a b)) (Fin.ext (by show 0 + 1 * a.val = a.val; omega)) (Fin.ext (by show 32768 + 1 * b.val - 32768 = b.val; omega)))
    refine (View.read_writes_apply_of_pieces arg19.view f19 G _ (fun p hp x => ?_) _ ?_).trans (hG h n hn)
    · rcases List.mem_append.mp hp with hp | hp
      · exact k2 G hG p hp x
      · obtain rfl := List.mem_singleton.mp hp
        exact (hG' x).symm
    · obtain ⟨p, hp, hp'⟩ := k3 h n (by omega)
      exact ⟨p, List.mem_append_left _ hp, hp'⟩
  generalize arg19.view.writes (Elt Ideal) f19 (st.2 ++ [⟨Rect.unit (s := S64x33024) ![0, 32768] S64x256.size inb_S64x33024_S64x256_0_32768, p64⟩]) = X19 at h19 ⊢
  obtain ⟨s1, s2⟩ := stV 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 M v423 v429 X_arg7 X_arg8 X_arg9 X19 (k0_pay138 v106 M, k0_pay139 v106 M v423 v429) x7 vs vz (scrN x4 S Z v1) h7 h8 h9 h19 64 le_rfl
  generalize st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 M v423 v429 X_arg7 X_arg8 X_arg9 X19 (k0_pay138 v106 M, k0_pay139 v106 M v423 v429) 64 = sv at s1 s2 ⊢
  rw [pay1_apply]
  refine (Finset.sum_congr rfl fun r _ => congrArg₂ (· * ·) (pay148_apply _ h r) (pay149_apply r d)).trans ?_
  rw [sum_own (fun r => k0_pay143 (F := Ideal) sv.1 sv.2 (ix2 h r)) h d, pay143_apply]
  unfold attn
  refine congrArg₂ Ideal.div ?_ ?_
  · rw [s2]
    refine Eq.trans ?_ (sum_all (scrN x4 S Z v1 h) (sT h) (sN h) (fun n s => prob s (topOf (allOf (scrN x4 S Z v1 h) (sT h) (sN h))) * allOf (fun n => vd x7 vs vz n (rowOf h d)) (vT (rowOf h d)) (vN (rowOf h d)) n)).symm
    show k0_pay139 (F := Ideal) v106 M v423 v429 (ix2 h (rowOf h d)) + _ = _
    rw [pay139_apply, hM, sum_blocks (fun n => prob (scrN x4 S Z v1 h n) (topOf (allOf (scrN x4 S Z v1 h) (sT h) (sN h))) * vd x7 vs vz n (rowOf h d)) 512 64]
    have t1 : ∑ j : Fin 128, prob (v106 (ix2 h ⟨128 + j.val, by omega⟩)) (topOf (allOf (scrN x4 S Z v1 h) (sT h) (sN h))) * v429 (ix2 (rowOf h d) j)
        = prob (sN h) (topOf (allOf (scrN x4 S Z v1 h) (sT h) (sN h))) * vN (rowOf h d) := by
      rw [Finset.sum_eq_single (0 : Fin 128)]
      · rw [hs1, hvn]; rfl
      · intro j _ hj
        rw [hvn, if_neg (fun h0 : j.val = 0 => hj (Fin.ext h0)), mul_zero]
      · intro hn; exact absurd (Finset.mem_univ _) hn
    rw [t1, add_comm, ← add_assoc]
    refine congrArg₂ _ (congrArg₂ _ (Finset.sum_congr rfl fun n hn => ?_) (Finset.sum_congr rfl fun j _ => ?_)) ?_
    · rw [allOf, if_pos (Finset.mem_range.mp hn)]
    · rw [hs0, hvt]
      refine congrArg _ ?_
      rw [allOf, if_neg (by omega), dif_pos (show 32768 + j.val - 32768 < 128 by omega)]
      exact congrArg (vT _) (Fin.ext (by show j.val = 32768 + j.val - 32768; omega))
    · simp [allOf]
  · simp only [s1]
    refine Eq.trans ?_ (sum_all (scrN x4 S Z v1 h) (sT h) (sN h) (fun n s => prob s (topOf (allOf (scrN x4 S Z v1 h) (sT h) (sN h))))).symm
    rw [Finset.sum_add_distrib, hM, sum_lanes (fun n => prob (scrN x4 S Z v1 h n) (topOf (allOf (scrN x4 S Z v1 h) (sT h) (sN h)))) 64]
    have t1 : ∑ j : Fin 128, k0_pay138 (F := Ideal) v106 M (ix2 h j) = ∑ j : Fin 128, prob (sT h j) (topOf (allOf (scrN x4 S Z v1 h) (sT h) (sN h))) + prob (sN h) (topOf (allOf (scrN x4 S Z v1 h) (sT h) (sN h))) := by
      simp only [pay138_apply, pay137_apply, hM, Finset.sum_add_distrib, hs0, hs1]
      refine congrArg _ ?_
      rw [Finset.sum_eq_single (0 : Fin 128)]
      · rfl
      · intro j _ hj
        rw [if_neg (fun h0 : j.val = 0 => hj (Fin.ext h0)), prob_bot]
      · intro hn; exact absurd (Finset.mem_univ _) hn
    refine (congrArg₂ (· + ·) t1 rfl).trans ?_
    rw [add_comm, ← add_assoc]

end Cert.KernelIdeal.Val
-- ==== Proof.Stage.lean ====
/- What one grid point leaves, from the contents of its windows. -/
module

public import proofs.«01_k».proof.Proof.Fold
public import Idealize.ShloMosaic.Lib.VecWindow
public import Idealize.ShloMosaic.Lib.WholeRead

@[expose] public section

set_option maxRecDepth 16384
set_option maxHeartbeats 2000000

noncomputable section

namespace Cert.KernelIdeal.Val

open Idealize.ShloMosaic Idealize.ShloMosaic.TcCoe
open Cert.KernelIdeal Cert.KernelIdeal.Gen

/-- A key step or zero by group and plane row. -/
def S5 (x5 : S1x4x64x1024.Idx → EReal) (g : Fin 1024) (r : Fin 256) : EReal :=
  x5 (ix4 0 ⟨r.val % 128 / 32, by omega⟩ ⟨2 * (r.val % 32) + r.val / 128, by omega⟩ g)

/-- A tail value by plane row. -/
def pl (x : S1x4x64x128.Idx → EReal) (r : Fin 256) (j : Fin 128) : EReal :=
  x (ix4 0 ⟨r.val % 128 / 32, by omega⟩ ⟨2 * (r.val % 32) + r.val / 128, by omega⟩ j)

/-- The new key's least value, of a point. -/
def kloV (i : grid0.Coords) (x2 : S256x128.Idx → EReal) (x10 : S1x4x64x128.Idx → EReal) : FVec Ideal S256x1 .f32 := k0_pay55 (F := Ideal) i x10 x2

/-- The codes of the new keys after a point. -/
def kcN (i : grid0.Coords) (x2 : S256x128.Idx → EReal) (x10 : S1x4x64x128.Idx → EReal) (k : S256x128.Idx → EReal) : S256x128.Idx → EReal :=
  k0_pay59 (F := Ideal) (BitVec.ofNat 32 (i 0).val) (iota .tc S256x128 32 [1] iota_S256x128_d1_w32) (k0_pay52 (F := Ideal) x10) (k0_pay53 (F := Ideal) i x2) k0_pay54 (kloV i x2 x10) k
/-- Their steps after a point. -/
def ksN (i : grid0.Coords) (x2 : S256x128.Idx → EReal) (x10 : S1x4x64x128.Idx → EReal) (k : S256x128.Idx → EReal) : S256x128.Idx → EReal :=
  k0_pay60 (F := Ideal) (BitVec.ofNat 32 (i 0).val) (iota .tc S256x128 32 [1] iota_S256x128_d1_w32) (k0_pay52 (F := Ideal) x10) (k0_pay53 (F := Ideal) i x2) k0_pay54 (kloV i x2 x10) k
/-- Their zeros after a point. -/
def kzN (i : grid0.Coords) (x2 : S256x128.Idx → EReal) (x10 : S1x4x64x128.Idx → EReal) (k : S256x128.Idx → EReal) : S256x128.Idx → EReal :=
  k0_pay62 (F := Ideal) (iota .tc S256x128 32 [1] iota_S256x128_d1_w32) (kloV i x2 x10) (k0_pay61 (BitVec.ofNat 32 (i 0).val)) k

/-- The new key, dequantised. -/
def kdq (i : grid0.Coords) (x2 : S256x128.Idx → EReal) (x10 : S1x4x64x128.Idx → EReal) (r : Fin 256) : EReal :=
  k0_pay58 (F := Ideal) (k0_pay52 (F := Ideal) x10) (k0_pay53 (F := Ideal) i x2) k0_pay54 (kloV i x2 x10) (ix2 r 0)

/-- The attention a point leaves. -/
def yW (i : grid0.Coords) (x1 : S1x64x256.Idx → EReal) (x2 : S256x128.Idx → EReal) (x4 : S1x4x32x32768.Idx → BitVec 8) (x5 x6 : S1x4x64x1024.Idx → EReal)
    (x7 : S1x4x32x32768.Idx → BitVec 8) (x8 x9 : S1x4x32768.Idx → EReal) (x10 x11 : S1x4x64x128.Idx → EReal) (k26 : S256x128.Idx → EReal) : S1x64x64.Idx → EReal := fun y =>
  attn (allOf (scrN x4 (S5 x5) (S5 x6) (k0_pay45 (F := Ideal) x1) ⟨(y 1).val, (y 1).isLt⟩) (fun j => ∑ r : Fin 256, x1 (ix3 0 ⟨(y 1).val, (y 1).isLt⟩ r) * pl x10 r j)
      (∑ r : Fin 256, x1 (ix3 0 ⟨(y 1).val, (y 1).isLt⟩ r) * kdq i x2 x10 r))
    (fun n => allOf (fun n => vd x7 x8 x9 n (rowOf ⟨(y 1).val, (y 1).isLt⟩ ⟨(y 2).val, (y 2).isLt⟩)) (pl x11 (rowOf ⟨(y 1).val, (y 1).isLt⟩ ⟨(y 2).val, (y 2).isLt⟩))
      (k26 (ix2 (rowOf ⟨(y 1).val, (y 1).isLt⟩ ⟨(y 2).val, (y 2).isLt⟩) ⟨(i 0).val, (i 0).isLt⟩)) n)

theorem pay70_apply (v : Vec Ideal S128x128 .f32) (a : Fin 128) (p : Fin 2) (b : Fin 128) : k0_pay70 (F := Ideal) v (ix3 a p b) = v (ix2 b a) := by
  unfold k0_pay70; pointwise
  split <;> rfl

theorem pay65_apply (v : Vec Ideal S1x4x64x128 .f32) (a : Fin 256) (b : Fin 128) :
    k0_pay65 (F := Ideal) v (ix2 a b) = v (ix4 0 ⟨a.val / 64, by omega⟩ ⟨a.val % 64, by omega⟩ b) := by
  unfold k0_pay65; pointwise

/-- A staged block's payload holds the steps of its groups and rows. -/
def stOk (S : Fin 1024 → Fin 256 → EReal) (n par : ℕ) (w : S128x2x128.Idx → EReal) : Prop :=
  ∀ (a : Fin 128) (p : Fin 2) (b : Fin 128) (h1 : 128 * n + a.val < 1024) (h2 : 128 * par + b.val < 256), w (ix3 a p b) = S ⟨128 * n + a.val, h1⟩ ⟨128 * par + b.val, h2⟩

/-- One staged piece: the step at a group of the block and a plane row of the parity. -/
theorem stage_read (m5 : Memref sig .tc .vmem S1x4x64x1024 .f32) (h5 : m5.IsWhole) (m22 : Memref sig .tc .vmem S256x128 .f32) (x5 : S1x4x64x1024.Idx → EReal)
    (n par : ℕ) (hn : n < 8) (hpar : par < 2) (inb1 : ∀ a, (![0, 0] : Fin 2 → ℕ) a + S256x128.size a ≤ S256x128.size a) (L : List (View.Piece (Elt Ideal) S256x128 .f32))
    (off : Fin S1x4x64x1024.rank → ℕ) (ho : off = ![0, 0, 0, 128 * n])
    (inb2 : ∀ a, off a + S1x4x64x128.size a ≤ S1x4x64x1024.size a)
    (inb3 : ∀ a, S128x128.size a = 0 ∨ (![par, 0] : Fin 2 → ℕ) a + (![2, 1] : Fin 2 → ℕ) a * (S128x128.size a - 1) < S256x128.size a) (a : Fin 128) (p : Fin 2) (b : Fin 128) :
    k0_pay70 (F := Ideal) (m22.view.readCov (⟨Rect.unit (s := S256x128) ![0, 0] S256x128.size inb1, k0_pay65 (F := Ideal) (View.readAt (Elt Ideal) m5.view (Rect.unit (s := S1x4x64x1024) off S1x4x64x128.size inb2).toLoadRect (h5.unread x5))⟩ :: L)
      (⟨![par, 0], S128x128.size, ![2, 1], inb3⟩ : LoadRect S256x128)) (ix3 a p b) = S5 x5 ⟨128 * n + a.val, by omega⟩ ⟨128 * par + b.val, by omega⟩ := by
  subst ho
  rw [pay70_apply]
  refine (congrFun (View.read_writes_full m22.view _ inb1 _ L) _).trans ?_
  have e : (⟨![par, 0], S128x128.size, ![2, 1], inb3⟩ : LoadRect S256x128).idx (ix2 b a) = (ix2 ⟨par + 2 * b.val, by omega⟩ a : S256x128.Idx) := by
    funext x
    match x with
    | ⟨0, _⟩ => rfl
    | ⟨1, _⟩ => exact Fin.ext (by show 0 + 1 * a.val = a.val; omega)
  rw [e, pay65_apply]
  refine (Memref.IsWhole.readAt_unread (Val := Elt Ideal) h5 x5 _ _).trans (congrArg x5 (funext fun x => ?_))
  match x with
  | ⟨0, _⟩ => rfl
  | ⟨1, _⟩ => exact Fin.ext (by show 0 + 1 * ((par + 2 * b.val) / 64) = (128 * par + b.val) % 128 / 32; rcases (by omega : par = 0 ∨ par = 1) with h | h <;> subst h <;> omega)
  | ⟨2, _⟩ => exact Fin.ext (by show 0 + 1 * ((par + 2 * b.val) % 64) = 2 * ((128 * par + b.val) % 32) + (128 * par + b.val) / 128; rcases (by omega : par = 0 ∨ par = 1) with h | h <;> subst h <;> omega)
  | ⟨3, _⟩ => exact Fin.ext (by show 128 * n + 1 * a.val = 128 * n + a.val; omega)

theorem stage_ok (m5 : Memref sig .tc .vmem S1x4x64x1024 .f32) (h5 : m5.IsWhole) (m22 : Memref sig .tc .vmem S256x128 .f32) (x5 : S1x4x64x1024.Idx → EReal)
    (n par : ℕ) (hn : n < 8) (hpar : par < 2) (inb1 : ∀ a, (![0, 0] : Fin 2 → ℕ) a + S256x128.size a ≤ S256x128.size a) (L : List (View.Piece (Elt Ideal) S256x128 .f32))
    (off : Fin S1x4x64x1024.rank → ℕ) (ho : off = ![0, 0, 0, 128 * n])
    (inb2 : ∀ a, off a + S1x4x64x128.size a ≤ S1x4x64x1024.size a)
    (inb3 : ∀ a, S128x128.size a = 0 ∨ (![par, 0] : Fin 2 → ℕ) a + (![2, 1] : Fin 2 → ℕ) a * (S128x128.size a - 1) < S256x128.size a) :
    stOk (S5 x5) n par (k0_pay70 (F := Ideal) (m22.view.readCov (⟨Rect.unit (s := S256x128) ![0, 0] S256x128.size inb1, k0_pay65 (F := Ideal) (View.readAt (Elt Ideal) m5.view (Rect.unit (s := S1x4x64x1024) off S1x4x64x128.size inb2).toLoadRect (h5.unread x5))⟩ :: L)
      (⟨![par, 0], S128x128.size, ![2, 1], inb3⟩ : LoadRect S256x128))) :=
  fun a p b _ _ => stage_read m5 h5 m22 x5 n par hn hpar inb1 L off ho inb2 inb3 a p b

theorem ix3_surj {a b c : ℕ} (y : (⟨3, ![a, b, c]⟩ : Shape).Idx) : ∃ i j k, y = ix3 i j k :=
  ⟨y 0, y 1, y 2, by funext x; match x with | ⟨0, _⟩ => rfl | ⟨1, _⟩ => rfl | ⟨2, _⟩ => rfl⟩

/-- A staged block's store. -/
def stp (n par : ℕ) (off : Fin 3 → ℕ) (inb : ∀ a, off a + S128x2x128.size a ≤ S1024x2x256.size a) (w : S128x2x128.Idx → EReal) : View.Piece (Elt Ideal) S1024x2x256 .bf16 :=
  ⟨Rect.unit (s := S1024x2x256) off S128x2x128.size inb, w⟩

theorem piece_eq (S : Fin 1024 → Fin 256 → EReal) (n par : ℕ) (hn : n < 8) (hpar : par < 2) (w : S128x2x128.Idx → EReal)
    (off : Fin 3 → ℕ) (inb : ∀ a, off a + S128x2x128.size a ≤ S1024x2x256.size a) (ho : off = ![128 * n, 0, 128 * par])
    (hw : stOk S n par w)
    (x : (stp n par off inb w).1.shape.Idx) : (stp n par off inb w).2 x = (fun y : S1024x2x256.Idx => S ⟨(y 0).val, (y 0).isLt⟩ ⟨(y 2).val, (y 2).isLt⟩) ((stp n par off inb w).1.emb x) := by
  subst ho
  obtain ⟨a, p, b, rfl⟩ := ix3_surj (a := 128) (b := 2) (c := 128) x
  refine (hw a p b (by omega) (by omega)).trans (congrArg₂ S (Fin.ext ?_) (Fin.ext ?_))
  · show 128 * n + a.val = 128 * n + 1 * a.val; omega
  · show 128 * par + b.val = 128 * par + 1 * b.val; omega

theorem piece_mem (n par : ℕ) (off : Fin 3 → ℕ) (inb : ∀ a, off a + S128x2x128.size a ≤ S1024x2x256.size a) (w : S128x2x128.Idx → EReal) (ho : off = ![128 * n, 0, 128 * par])
    (g : Fin 1024) (p : Fin 2) (r : Fin 256) (h1 : g.val / 128 = n) (h2 : r.val / 128 = par) :
    (ix3 g p r : S1024x2x256.Idx) ∈ (stp n par off inb w).1.set := by
  subst ho
  show _ ∈ (Rect.unit (s := S1024x2x256) ![128 * n, 0, 128 * par] S128x2x128.size inb).set
  rw [Rect.mem_set_unit]
  intro a
  match a with
  | ⟨0, _⟩ => exact ⟨by show 128 * n ≤ g.val; omega, by show g.val < 128 * n + 128; omega⟩
  | ⟨1, _⟩ => exact ⟨Nat.zero_le _, by show p.val < 0 + 2; omega⟩
  | ⟨2, _⟩ => exact ⟨by show 128 * par ≤ r.val; omega, by show r.val < 128 * par + 128; omega⟩

/-- The sixteen staged pieces. -/
def stL (w71 w70 w61 w60 w51 w50 w41 w40 w31 w30 w21 w20 w11 w10 w01 w00 : S128x2x128.Idx → EReal) : List (View.Piece (Elt Ideal) S1024x2x256 .bf16) := [stp 7 1 ![896, 0, 128] inb_S1024x2x256_S128x2x128_896_0_128 w71, stp 7 0 ![896, 0, 0] inb_S1024x2x256_S128x2x128_896_0_0 w70, stp 6 1 ![768, 0, 128] inb_S1024x2x256_S128x2x128_768_0_128 w61, stp 6 0 ![768, 0, 0] inb_S1024x2x256_S128x2x128_768_0_0 w60, stp 5 1 ![640, 0, 128] inb_S1024x2x256_S128x2x128_640_0_128 w51, stp 5 0 ![640, 0, 0] inb_S1024x2x256_S128x2x128_640_0_0 w50, stp 4 1 ![512, 0, 128] inb_S1024x2x256_S128x2x128_512_0_128 w41, stp 4 0 ![512, 0, 0] inb_S1024x2x256_S128x2x128_512_0_0 w40, stp 3 1 ![384, 0, 128] inb_S1024x2x256_S128x2x128_384_0_128 w31, stp 3 0 ![384, 0, 0] inb_S1024x2x256_S128x2x128_384_0_0 w30, stp 2 1 ![256, 0, 128] inb_S1024x2x256_S128x2x128_256_0_128 w21, stp 2 0 ![256, 0, 0] inb_S1024x2x256_S128x2x128_256_0_0 w20, stp 1 1 ![128, 0, 128] inb_S1024x2x256_S128x2x128_128_0_128 w11, stp 1 0 ![128, 0, 0] inb_S1024x2x256_S128x2x128_128_0_0 w10, stp 0 1 ![0, 0, 128] inb_S1024x2x256_S128x2x128_0_0_128 w01, stp 0 0 ![0, 0, 0] inb_S1024x2x256_S128x2x128_0_0_0 w00]

/-- The sixteen staged pieces together. -/
theorem stage16 (m : Memref sig .tc .vmem S1024x2x256 .bf16) (S : Fin 1024 → Fin 256 → EReal) (f : BufTy.Contents (Elt Ideal) m.view.ty)
    (w71 w70 w61 w60 w51 w50 w41 w40 w31 w30 w21 w20 w11 w10 w01 w00 : S128x2x128.Idx → EReal)
    (h71 : stOk S 7 1 w71)
    (h70 : stOk S 7 0 w70)
    (h61 : stOk S 6 1 w61)
    (h60 : stOk S 6 0 w60)
    (h51 : stOk S 5 1 w51)
    (h50 : stOk S 5 0 w50)
    (h41 : stOk S 4 1 w41)
    (h40 : stOk S 4 0 w40)
    (h31 : stOk S 3 1 w31)
    (h30 : stOk S 3 0 w30)
    (h21 : stOk S 2 1 w21)
    (h20 : stOk S 2 0 w20)
    (h11 : stOk S 1 1 w11)
    (h10 : stOk S 1 0 w10)
    (h01 : stOk S 0 1 w01)
    (h00 : stOk S 0 0 w00)
    (g : Fin 1024) (p : Fin 2) (r : Fin 256) :
    m.view.read (Elt Ideal) (m.view.writes (Elt Ideal) f (stL w71 w70 w61 w60 w51 w50 w41 w40 w31 w30 w21 w20 w11 w10 w01 w00)) (ix3 g p r) = S g r := by
  refine (View.read_writes_apply_of_pieces m.view f (fun y : S1024x2x256.Idx => S ⟨(y 0).val, (y 0).isLt⟩ ⟨(y 2).val, (y 2).isLt⟩) _ (List.forall_mem_cons.2 ⟨piece_eq S 7 1 (by omega) (by omega) w71 _ _ rfl h71, List.forall_mem_cons.2 ⟨piece_eq S 7 0 (by omega) (by omega) w70 _ _ rfl h70, List.forall_mem_cons.2 ⟨piece_eq S 6 1 (by omega) (by omega) w61 _ _ rfl h61, List.forall_mem_cons.2 ⟨piece_eq S 6 0 (by omega) (by omega) w60 _ _ rfl h60, List.forall_mem_cons.2 ⟨piece_eq S 5 1 (by omega) (by omega) w51 _ _ rfl h51, List.forall_mem_cons.2 ⟨piece_eq S 5 0 (by omega) (by omega) w50 _ _ rfl h50, List.forall_mem_cons.2 ⟨piece_eq S 4 1 (by omega) (by omega) w41 _ _ rfl h41, List.forall_mem_cons.2 ⟨piece_eq S 4 0 (by omega) (by omega) w40 _ _ rfl h40, List.forall_mem_cons.2 ⟨piece_eq S 3 1 (by omega) (by omega) w31 _ _ rfl h31, List.forall_mem_cons.2 ⟨piece_eq S 3 0 (by omega) (by omega) w30 _ _ rfl h30, List.forall_mem_cons.2 ⟨piece_eq S 2 1 (by omega) (by omega) w21 _ _ rfl h21, List.forall_mem_cons.2 ⟨piece_eq S 2 0 (by omega) (by omega) w20 _ _ rfl h20, List.forall_mem_cons.2 ⟨piece_eq S 1 1 (by omega) (by omega) w11 _ _ rfl h11, List.forall_mem_cons.2 ⟨piece_eq S 1 0 (by omega) (by omega) w10 _ _ rfl h10, List.forall_mem_cons.2 ⟨piece_eq S 0 1 (by omega) (by omega) w01 _ _ rfl h01, List.forall_mem_cons.2 ⟨piece_eq S 0 0 (by omega) (by omega) w00 _ _ rfl h00, fun _ h => absurd h List.not_mem_nil⟩⟩⟩⟩⟩⟩⟩⟩⟩⟩⟩⟩⟩⟩⟩⟩) (ix3 g p r) ?_).trans rfl
  rcases (by omega : g.val / 128 = 7 ∨ g.val / 128 = 6 ∨ g.val / 128 = 5 ∨ g.val / 128 = 4 ∨ g.val / 128 = 3 ∨ g.val / 128 = 2 ∨ g.val / 128 = 1 ∨ g.val / 128 = 0) with c | c | c | c | c | c | c | c <;> rcases (by omega : r.val / 128 = 1 ∨ r.val / 128 = 0) with e | e
  · exact ⟨_, .head _, piece_mem 7 1 _ _ _ rfl g p r c e⟩
  · exact ⟨_, .tail _ (.head _), piece_mem 7 0 _ _ _ rfl g p r c e⟩
  · exact ⟨_, .tail _ (.tail _ (.head _)), piece_mem 6 1 _ _ _ rfl g p r c e⟩
  · exact ⟨_, .tail _ (.tail _ (.tail _ (.head _))), piece_mem 6 0 _ _ _ rfl g p r c e⟩
  · exact ⟨_, .tail _ (.tail _ (.tail _ (.tail _ (.head _)))), piece_mem 5 1 _ _ _ rfl g p r c e⟩
  · exact ⟨_, .tail _ (.tail _ (.tail _ (.tail _ (.tail _ (.head _))))), piece_mem 5 0 _ _ _ rfl g p r c e⟩
  · exact ⟨_, .tail _ (.tail _ (.tail _ (.tail _ (.tail _ (.tail _ (.head _)))))), piece_mem 4 1 _ _ _ rfl g p r c e⟩
  · exact ⟨_, .tail _ (.tail _ (.tail _ (.tail _ (.tail _ (.tail _ (.tail _ (.head _))))))), piece_mem 4 0 _ _ _ rfl g p r c e⟩
  · exact ⟨_, .tail _ (.tail _ (.tail _ (.tail _ (.tail _ (.tail _ (.tail _ (.tail _ (.head _)))))))), piece_mem 3 1 _ _ _ rfl g p r c e⟩
  · exact ⟨_, .tail _ (.tail _ (.tail _ (.tail _ (.tail _ (.tail _ (.tail _ (.tail _ (.tail _ (.head _))))))))), piece_mem 3 0 _ _ _ rfl g p r c e⟩
  · exact ⟨_, .tail _ (.tail _ (.tail _ (.tail _ (.tail _ (.tail _ (.tail _ (.tail _ (.tail _ (.tail _ (.head _)))))))))), piece_mem 2 1 _ _ _ rfl g p r c e⟩
  · exact ⟨_, .tail _ (.tail _ (.tail _ (.tail _ (.tail _ (.tail _ (.tail _ (.tail _ (.tail _ (.tail _ (.tail _ (.head _))))))))))), piece_mem 2 0 _ _ _ rfl g p r c e⟩
  · exact ⟨_, .tail _ (.tail _ (.tail _ (.tail _ (.tail _ (.tail _ (.tail _ (.tail _ (.tail _ (.tail _ (.tail _ (.tail _ (.head _)))))))))))), piece_mem 1 1 _ _ _ rfl g p r c e⟩
  · exact ⟨_, .tail _ (.tail _ (.tail _ (.tail _ (.tail _ (.tail _ (.tail _ (.tail _ (.tail _ (.tail _ (.tail _ (.tail _ (.tail _ (.head _))))))))))))), piece_mem 1 0 _ _ _ rfl g p r c e⟩
  · exact ⟨_, .tail _ (.tail _ (.tail _ (.tail _ (.tail _ (.tail _ (.tail _ (.tail _ (.tail _ (.tail _ (.tail _ (.tail _ (.tail _ (.tail _ (.head _)))))))))))))), piece_mem 0 1 _ _ _ rfl g p r c e⟩
  · exact ⟨_, .tail _ (.tail _ (.tail _ (.tail _ (.tail _ (.tail _ (.tail _ (.tail _ (.tail _ (.tail _ (.tail _ (.tail _ (.tail _ (.tail _ (.tail _ (.head _))))))))))))))), piece_mem 0 0 _ _ _ rfl g p r c e⟩

end Cert.KernelIdeal.Val
-- ==== Proof.Body.lean ====
/- The attention one grid point leaves, from the contents of its windows. -/
module

public import proofs.«01_k».proof.Proof.Stage
public import Idealize.ShloMosaic.Lib.VecWindow
public import Idealize.ShloMosaic.Lib.WholeRead

@[expose] public section

set_option maxRecDepth 16384
set_option maxHeartbeats 2000000

noncomputable section

namespace Cert.KernelIdeal.Val

open Idealize.ShloMosaic Idealize.ShloMosaic.TcCoe
open Cert.KernelIdeal Cert.KernelIdeal.Gen

theorem y_body (𝒱 : Variants) (c : Dev nD) (bd : Option 𝒱.V) (i : grid0.Coords) (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x2x256 .bf16) (harg20 : arg20.IsWhole) (arg21 : Memref sig .tc .vmem S1024x2x256 .bf16) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg0 : BitVec 32) (v1 : FVec Ideal S64x256 .bf16) (v2 : IVec S256x128 32) (v106 : FVec Ideal S64x256 .f32) (v393 : FVec Ideal S128x128 .f32) (v394_lo : FVec Ideal S128x128 .bf16) (X_arg4 : BufTy.Contents (Elt Ideal) arg4.view.ty) (X_arg20 : BufTy.Contents (Elt Ideal) arg20.view.ty) (X_arg21 : BufTy.Contents (Elt Ideal) arg21.view.ty) (v423 : FVec Ideal S256x128 .bf16) (v429 : FVec Ideal S256x128 .f32)
    (X_arg7 : BufTy.Contents (Elt Ideal) arg7.view.ty) (X_arg8 : BufTy.Contents (Elt Ideal) arg8.view.ty) (X_arg9 : BufTy.Contents (Elt Ideal) arg9.view.ty)
    (f19 : BufTy.Contents (Elt Ideal) arg19.view.ty) (p64 : FVec Ideal S64x256 .f32)
    (x1 : S1x64x256.Idx → EReal) (x2 : S256x128.Idx → EReal) (x4 : S1x4x32x32768.Idx → BitVec 8) (x5 x6 : S1x4x64x1024.Idx → EReal)
    (x7 : S1x4x32x32768.Idx → BitVec 8) (x8 x9 : S1x4x32768.Idx → EReal) (x10 x11 : S1x4x64x128.Idx → EReal) (x26 : S256x128.Idx → EReal)
    (hv1 : v1 = k0_pay45 (F := Ideal) x1)
    (h106 : v106 = k0_pay63 (F := Ideal) (k0_pay45 (F := Ideal) x1) (iota .tc S256x128 32 [1] iota_S256x128_d1_w32) (k0_pay52 (F := Ideal) x10) (k0_pay58 (F := Ideal) (k0_pay52 (F := Ideal) x10) (k0_pay53 (F := Ideal) i x2) k0_pay54 (kloV i x2 x10)))
    (hp : p64 = v106)
    (hvt : v423 = k0_pay135 (F := Ideal) x11)
    (hvn : v429 = k0_pay136 (F := Ideal) (BitVec.ofNat 32 (i 0).val) (iota .tc S256x128 32 [1] iota_S256x128_d1_w32) x26)
    (h4 : arg4.view.read (Elt Ideal) X_arg4 = x4)
    (h20 : ∀ g p r, arg20.view.read (Elt Ideal) X_arg20 (ix3 g p r) = S5 x5 g r)
    (h21 : ∀ g p r, arg21.view.read (Elt Ideal) X_arg21 (ix3 g p r) = S5 x6 g r)
    (h7 : arg7.view.read (Elt Ideal) X_arg7 = x7)
    (h8 : arg8.view.read (Elt Ideal) X_arg8 = x8)
    (h9 : arg9.view.read (Elt Ideal) X_arg9 = x9) :
    k0_pay1 (F := Ideal) (k0_pay148 (k0_pay143 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1) v423 v429 X_arg7 X_arg8 X_arg9 (arg19.view.writes (Elt Ideal) f19 ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).2 ++ [⟨Rect.unit (s := S64x33024) ![0, 32768] S64x256.size inb_S64x33024_S64x256_0_32768, p64⟩])) (k0_pay138 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1), k0_pay139 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1) v423 v429) (Scf.trips k0_t2_loop.lb k0_t2_loop.ub k0_t2_loop.st)).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1) v423 v429 X_arg7 X_arg8 X_arg9 (arg19.view.writes (Elt Ideal) f19 ((st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).2 ++ [⟨Rect.unit (s := S64x33024) ![0, 32768] S64x256.size inb_S64x33024_S64x256_0_32768, p64⟩])) (k0_pay138 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1), k0_pay139 v106 (k0_pay134 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 v2 v106 v393 v394_lo X_arg4 X_arg20 X_arg21 (k0_pay133 v106) (Scf.trips k0_t1_loop.lb k0_t1_loop.ub k0_t1_loop.st)).1) v423 v429) (Scf.trips k0_t2_loop.lb k0_t2_loop.ub k0_t2_loop.st)).2)
      (iota .tc S64x256 32 [0] iota_S64x256_d0_w32) k0_pay144 32#32 k0_pay145 k0_pay146 k0_pay147)
      (k0_pay149 (iota .tc S256x64 32 [0] iota_S256x64_d0_w32) (iota .tc S256x64 32 [1] iota_S256x64_d1_w32) 32#32 0#32)
      (constant S64x64 .f32 0x00000000#32)
    = yW i x1 x2 x4 x5 x6 x7 x8 x9 x10 x11 x26 := by
  funext y
  obtain ⟨a, h, d, rfl⟩ := ix3_surj (a := 1) (b := 64) (c := 64) y
  obtain rfl : a = 0 := Subsingleton.elim _ _
  subst hv1
  have e10 : ∀ r j, k0_pay52 (F := Ideal) x10 (ix2 r j) = pl x10 r j := fun r j => pay52_apply x10 r j
  refine (y_of 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 _ v2 v106 v393 v394_lo X_arg4 X_arg20 X_arg21 v423 v429 X_arg7 X_arg8 X_arg9 f19 p64 x4 (S5 x5) (S5 x6) h4 h20 h21
    (fun h j => ∑ r : Fin 256, x1 (ix3 0 h r) * pl x10 r j) (fun h => ∑ r : Fin 256, x1 (ix3 0 h r) * kdq i x2 x10 r) (pl x11) (fun r => x26 (ix2 r ⟨(i 0).val, (i 0).isLt⟩))
    (fun h j => ?_) hp (fun r j => ?_) (fun r j => ?_) x7 x8 x9 h7 h8 h9 h d).trans rfl
  · rw [h106, pay63_apply]
    simp only [pay45_apply, e10]
    rfl
  · rw [hvt]; exact pay135_apply x11 r j
  · rw [hvn]; exact pay136_apply _ (i 0).isLt x26 r j

theorem rdw {s : Shape} {e : EltTy} (m : Memref sig .tc .vmem s e) (h : m.IsWhole) (x : s.Idx → Elt Ideal e) {off : Fin s.rank → ℕ} (inb : ∀ a, off a + s.size a ≤ s.size a) :
    View.readAt (Elt Ideal) m.view (Rect.unit off s.size inb).toLoadRect (h.unread x) = x :=
  (View.readAt_full (Val := Elt Ideal) m.view (h.unread x) inb).trans (h.read_unread x)

theorem kc_eq (i : grid0.Coords) {X2 x2 : S256x128.Idx → EReal} {X10 x10 : S1x4x64x128.Idx → EReal} {X k : S256x128.Idx → EReal} (h2 : X2 = x2) (h10 : X10 = x10) (h : X = k) :
    k0_pay59 (F := Ideal) (BitVec.ofNat 32 (i 0).val) (iota .tc S256x128 32 [1] iota_S256x128_d1_w32) (k0_pay52 (F := Ideal) X10) (k0_pay53 (F := Ideal) i X2) k0_pay54 (k0_pay55 (F := Ideal) i X10 X2) X = kcN i x2 x10 k := by
  subst h2 h10 h; rfl

theorem ks_eq (i : grid0.Coords) {X2 x2 : S256x128.Idx → EReal} {X10 x10 : S1x4x64x128.Idx → EReal} {X k : S256x128.Idx → EReal} (h2 : X2 = x2) (h10 : X10 = x10) (h : X = k) :
    k0_pay60 (F := Ideal) (BitVec.ofNat 32 (i 0).val) (iota .tc S256x128 32 [1] iota_S256x128_d1_w32) (k0_pay52 (F := Ideal) X10) (k0_pay53 (F := Ideal) i X2) k0_pay54 (k0_pay55 (F := Ideal) i X10 X2) X = ksN i x2 x10 k := by
  subst h2 h10 h; rfl

theorem kz_eq (i : grid0.Coords) {X2 x2 : S256x128.Idx → EReal} {X10 x10 : S1x4x64x128.Idx → EReal} {X k : S256x128.Idx → EReal} (h2 : X2 = x2) (h10 : X10 = x10) (h : X = k) :
    k0_pay62 (F := Ideal) (iota .tc S256x128 32 [1] iota_S256x128_d1_w32) (k0_pay55 (F := Ideal) i X10 X2) (k0_pay61 (BitVec.ofNat 32 (i 0).val)) X = kzN i x2 x10 k := by
  subst h2 h10 h; rfl

theorem s63_eq (i : grid0.Coords) {X1 x1 : S1x64x256.Idx → EReal} {X2 x2 : S256x128.Idx → EReal} {X10 x10 : S1x4x64x128.Idx → EReal} (h1 : X1 = x1) (h2 : X2 = x2) (h10 : X10 = x10) :
    k0_pay63 (F := Ideal) (k0_pay45 (F := Ideal) X1) (iota .tc S256x128 32 [1] iota_S256x128_d1_w32) (k0_pay52 (F := Ideal) X10) (k0_pay58 (F := Ideal) (k0_pay52 (F := Ideal) X10) (k0_pay53 (F := Ideal) i X2) k0_pay54 (k0_pay55 (F := Ideal) i X10 X2))
     = k0_pay63 (F := Ideal) (k0_pay45 (F := Ideal) x1) (iota .tc S256x128 32 [1] iota_S256x128_d1_w32) (k0_pay52 (F := Ideal) x10) (k0_pay58 (F := Ideal) (k0_pay52 (F := Ideal) x10) (k0_pay53 (F := Ideal) i x2) k0_pay54 (kloV i x2 x10)) := by
  subst h1 h2 h10; rfl

/-- Two planes, rows interleaved. -/
def interl (k : S256x128.Idx → EReal) : S256x128.Idx → EReal := fun y =>
  k (ix2 ⟨(y 0).val % 2 * 128 + (y 0).val / 2, by have : (y 0).val < 256 := (y 0).isLt; omega⟩ ⟨(y 1).val, (y 1).isLt⟩)

theorem interl_read (m : Memref sig .tc .vmem S256x128 .f32) (m' : Memref sig .tc .vmem S256x128 .f32) (f : BufTy.Contents (Elt Ideal) m.view.ty) (k w : S256x128.Idx → EReal) (hw : w = k)
    (inb : ∀ a, (![0, 0] : Fin 2 → ℕ) a + S256x128.size a ≤ S256x128.size a) (L : List (View.Piece (Elt Ideal) S256x128 .f32)) :
    m.view.read (Elt Ideal) (m.view.writes (Elt Ideal) f
      [⟨⟨(⟨![1, 0], S128x128.size, ![2, 1], inb_S256x128_S128x128_1_0_s_2_1⟩ : LoadRect S256x128), spos_2_1⟩, m'.view.readCov (⟨Rect.unit (s := S256x128) ![0, 0] S256x128.size inb, w⟩ :: L) (Rect.unit (s := S256x128) ![128, 0] S128x128.size inb_S256x128_S128x128_128_0).toLoadRect⟩,
       ⟨⟨(⟨![0, 0], S128x128.size, ![2, 1], inb_S256x128_S128x128_0_0_s_2_1⟩ : LoadRect S256x128), spos_2_1⟩, m'.view.readCov (⟨Rect.unit (s := S256x128) ![0, 0] S256x128.size inb, w⟩ :: L) (Rect.unit (s := S256x128) ![0, 0] S128x128.size inb_S256x128_S128x128_0_0).toLoadRect⟩]) = interl k := by
  subst hw
  funext y
  refine View.read_writes_apply_of_pieces m.view f (interl w) _ (List.forall_mem_cons.2 ⟨fun x => ?_, List.forall_mem_cons.2 ⟨fun x => ?_, fun _ h => absurd h List.not_mem_nil⟩⟩) y ?_
  · obtain ⟨a, b, rfl⟩ := ix_surj (a := 128) (b := 128) x
    refine (congrFun (View.read_writes_full m'.view _ inb w L) _).trans (congrArg w (funext fun x => ?_))
    match x with
    | ⟨0, _⟩ => exact Fin.ext (by show 128 + 1 * a.val = (1 + 2 * a.val) % 2 * 128 + (1 + 2 * a.val) / 2; omega)
    | ⟨1, _⟩ => rfl
  · obtain ⟨a, b, rfl⟩ := ix_surj (a := 128) (b := 128) x
    refine (congrFun (View.read_writes_full m'.view _ inb w L) _).trans (congrArg w (funext fun x => ?_))
    match x with
    | ⟨0, _⟩ => exact Fin.ext (by show 0 + 1 * a.val = (0 + 2 * a.val) % 2 * 128 + (0 + 2 * a.val) / 2; omega)
    | ⟨1, _⟩ => rfl
  · obtain ⟨a, b, rfl⟩ := ix_surj (a := 256) (b := 128) y
    rcases (by omega : a.val % 2 = 1 ∨ a.val % 2 = 0) with h | h
    · refine ⟨_, .head _, LoadRect.mem_set _ |>.mpr fun x => ?_⟩
      match x with
      | ⟨0, _⟩ => exact ⟨a.val / 2, by show a.val / 2 < 128; omega, by show a.val = 1 + 2 * (a.val / 2); omega⟩
      | ⟨1, _⟩ => exact ⟨b.val, b.isLt, by show b.val = 0 + 1 * b.val; omega⟩
    · refine ⟨_, .tail _ (.head _), LoadRect.mem_set _ |>.mpr fun x => ?_⟩
      match x with
      | ⟨0, _⟩ => exact ⟨a.val / 2, by show a.val / 2 < 128; omega, by show a.val = 0 + 2 * (a.val / 2); omega⟩
      | ⟨1, _⟩ => exact ⟨b.val, b.isLt, by show b.val = 0 + 1 * b.val; omega⟩

end Cert.KernelIdeal.Val
-- ==== Proof.BodyFirst.lean ====
/- The first grid points' body, by value. -/
module

public import proofs.«01_k».proof.Proof.FrameIdeal
public import proofs.«01_k».proof.Proof.Body

@[expose] public section

set_option maxRecDepth 16384
set_option maxHeartbeats 4000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Hand

local notation "𝕄" => MT nD τ sig Unit (Elt Ideal) ℕ (UR sig nD τ) ℕ

/-- A grid point of this case: what its windows and its scratch hold afterwards. -/
theorem body_first (c : Dev nD) (i : grid0.Coords) (h1 : k0_cond1 i = 1#1) (h2 : ¬ k0_cond2 i = 1#1)
    (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x2x256 .bf16) (harg20 : arg20.IsWhole) (arg21 : Memref sig .tc .vmem S1024x2x256 .bf16) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole)
    (x1 : S1x64x256.Idx → EReal) (x2 : S256x128.Idx → EReal) (x3 : S256x128.Idx → EReal) (x4 : S1x4x32x32768.Idx → BitVec 8) (x5 : S1x4x64x1024.Idx → EReal) (x6 : S1x4x64x1024.Idx → EReal) (x7 : S1x4x32x32768.Idx → BitVec 8) (x8 : S1x4x32768.Idx → EReal) (x9 : S1x4x32768.Idx → EReal) (x10 : S1x4x64x128.Idx → EReal) (x11 : S1x4x64x128.Idx → EReal) (x13 : S128x128.Idx → BitVec 8) (x14 : S256x128.Idx → EReal) (x15 : S256x128.Idx → EReal) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (yW i x1 x2 x4 x5 x6 x7 x8 x9 x10 x11 (k0_pay7 (F := Ideal) x3)) ∗ owns (c : Thread nD τ) arg13 fullShare x13 ∗ owns (c : Thread nD τ) arg14 fullShare x14 ∗ owns (c : Thread nD τ) arg15 fullShare x15 ∗ owns (c : Thread nD τ) arg16 fullShare (k0_pay46 (F := Ideal) (k0_pay8 x3) (k0_pay9 x3)) ∗ owns (c : Thread nD τ) arg17 fullShare (k0_pay47 (F := Ideal) (k0_pay5 x3)) ∗ owns (c : Thread nD τ) arg18 fullShare (k0_pay48 (F := Ideal) (k0_pay4 x3)) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare (kcN i x2 x10 (k0_pay49 (F := Ideal))) ∗ owns (c : Thread nD τ) arg24 fullShare (ksN i x2 x10 (k0_pay50 (F := Ideal))) ∗ owns (c : Thread nD τ) arg25 fullShare (kzN i x2 x10 (k0_pay51 (F := Ideal))) ∗ owns (c : Thread nD τ) arg26 fullShare (k0_pay7 (F := Ideal) x3)) -∗ K ⟨⟩))
      ⊢ wp frame (wpE (defs₀ (F := Ideal)) Variants.none c none) Set.univ (cc0__attn_kernel (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__attn_kernel_eq_skeleton]; unfold cc0__attn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg13.eq_unread hf13
  obtain rfl := harg14.eq_unread hf14
  obtain rfl := harg15.eq_unread hf15
  sl_exec (disch := first | sl_exact h1 | sl_exact h2)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    refine (View.read_writes_full arg12.view _ _ _ _).trans ?_
    exact y_body Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ x1 x2 x4 x5 x6 x7 x8 x9 x10 x11 _ (congrArg (k0_pay45 (F := Ideal)) (rdw arg1 harg1 x1 _)) (s63_eq i (rdw arg1 harg1 x1 _) (rdw arg2 harg2 x2 _) (rdw arg10 harg10 x10 _)) (pay64_eq _ _ _ _) (congrArg (k0_pay135 (F := Ideal)) (rdw arg11 harg11 x11 _)) (congrArg (k0_pay136 (F := Ideal) _ _) (((View.readCov_full arg26.view _ _ _ _)).trans (congrArg (k0_pay7 (F := Ideal)) (rdw arg3 harg3 x3 _)))) (harg4.read_unread _)
      (fun g p r => stage16 arg20 (S5 x5) _ _ _ _ _ _ _ _ _ _ _ _ _ _ _ _ _ (stage_ok arg5 harg5 arg22 x5 7 1 (by omega) (by omega) _ _ _ rfl _ _) (stage_ok arg5 harg5 arg22 x5 7 0 (by omega) (by omega) _ _ _ rfl _ _) (stage_ok arg5 harg5 arg22 x5 6 1 (by omega) (by omega) _ _ _ rfl _ _) (stage_ok arg5 harg5 arg22 x5 6 0 (by omega) (by omega) _ _ _ rfl _ _) (stage_ok arg5 harg5 arg22 x5 5 1 (by omega) (by omega) _ _ _ rfl _ _) (stage_ok arg5 harg5 arg22 x5 5 0 (by omega) (by omega) _ _ _ rfl _ _) (stage_ok arg5 harg5 arg22 x5 4 1 (by omega) (by omega) _ _ _ rfl _ _) (stage_ok arg5 harg5 arg22 x5 4 0 (by omega) (by omega) _ _ _ rfl _ _) (stage_ok arg5 harg5 arg22 x5 3 1 (by omega) (by omega) _ _ _ rfl _ _) (stage_ok arg5 harg5 arg22 x5 3 0 (by omega) (by omega) _ _ _ rfl _ _) (stage_ok arg5 harg5 arg22 x5 2 1 (by omega) (by omega) _ _ _ rfl _ _) (stage_ok arg5 harg5 arg22 x5 2 0 (by omega) (by omega) _ _ _ rfl _ _) (stage_ok arg5 harg5 arg22 x5 1 1 (by omega) (by omega) _ _ _ rfl _ _) (stage_ok arg5 harg5 arg22 x5 1 0 (by omega) (by omega) _ _ _ rfl _ _) (stage_ok arg5 harg5 arg22 x5 0 1 (by omega) (by omega) _ _ _ rfl _ _) (stage_ok arg5 harg5 arg22 x5 0 0 (by omega) (by omega) _ _ _ rfl _ _) g p r)
      (fun g p r => stage16 arg21 (S5 x6) _ _ _ _ _ _ _ _ _ _ _ _ _ _ _ _ _ (stage_ok arg6 harg6 arg22 x6 7 1 (by omega) (by omega) _ _ _ rfl _ _) (stage_ok arg6 harg6 arg22 x6 7 0 (by omega) (by omega) _ _ _ rfl _ _) (stage_ok arg6 harg6 arg22 x6 6 1 (by omega) (by omega) _ _ _ rfl _ _) (stage_ok arg6 harg6 arg22 x6 6 0 (by omega) (by omega) _ _ _ rfl _ _) (stage_ok arg6 harg6 arg22 x6 5 1 (by omega) (by omega) _ _ _ rfl _ _) (stage_ok arg6 harg6 arg22 x6 5 0 (by omega) (by omega) _ _ _ rfl _ _) (stage_ok arg6 harg6 arg22 x6 4 1 (by omega) (by omega) _ _ _ rfl _ _) (stage_ok arg6 harg6 arg22 x6 4 0 (by omega) (by omega) _ _ _ rfl _ _) (stage_ok arg6 harg6 arg22 x6 3 1 (by omega) (by omega) _ _ _ rfl _ _) (stage_ok arg6 harg6 arg22 x6 3 0 (by omega) (by omega) _ _ _ rfl _ _) (stage_ok arg6 harg6 arg22 x6 2 1 (by omega) (by omega) _ _ _ rfl _ _) (stage_ok arg6 harg6 arg22 x6 2 0 (by omega) (by omega) _ _ _ rfl _ _) (stage_ok arg6 harg6 arg22 x6 1 1 (by omega) (by omega) _ _ _ rfl _ _) (stage_ok arg6 harg6 arg22 x6 1 0 (by omega) (by omega) _ _ _ rfl _ _) (stage_ok arg6 harg6 arg22 x6 0 1 (by omega) (by omega) _ _ _ rfl _ _) (stage_ok arg6 harg6 arg22 x6 0 0 (by omega) (by omega) _ _ _ rfl _ _) g p r)
      (harg7.read_unread _) (harg8.read_unread _) (harg9.read_unread _)
  isplitl [H13]
  · iexists _; isplitr; swap; · iexact H13
    ipureintro
    exact harg13.read_unread _
  isplitl [H14]
  · iexists _; isplitr; swap; · iexact H14
    ipureintro
    exact harg14.read_unread _
  isplitl [H15]
  · iexists _; isplitr; swap; · iexact H15
    ipureintro
    exact harg15.read_unread _
  isplitl [H16]
  · iexists _; isplitr; swap; · iexact H16
    ipureintro
    refine (View.read_writes_full arg16.view _ _ _ _).trans ?_
    exact congrArg (fun x => k0_pay46 (F := Ideal) (k0_pay8 x) (k0_pay9 x)) (rdw arg3 harg3 x3 _)
  isplitl [H17]
  · iexists _; isplitr; swap; · iexact H17
    ipureintro
    refine (View.read_writes_full arg17.view _ _ _ _).trans ?_
    exact congrArg (fun x => k0_pay47 (F := Ideal) (k0_pay5 x)) (rdw arg3 harg3 x3 _)
  isplitl [H18]
  · iexists _; isplitr; swap; · iexact H18
    ipureintro
    refine (View.read_writes_full arg18.view _ _ _ _).trans ?_
    exact congrArg (fun x => k0_pay48 (F := Ideal) (k0_pay4 x)) (rdw arg3 harg3 x3 _)
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _; isplitr; swap; · iexact H23
    ipureintro
    refine (View.read_writes_full arg23.view _ _ _ _).trans ?_
    exact kc_eq i (rdw arg2 harg2 x2 _) (rdw arg10 harg10 x10 _) ((View.readCov_full arg23.view _ _ _ _))
  isplitl [H24]
  · iexists _; isplitr; swap; · iexact H24
    ipureintro
    refine (View.read_writes_full arg24.view _ _ _ _).trans ?_
    exact ks_eq i (rdw arg2 harg2 x2 _) (rdw arg10 harg10 x10 _) ((View.readCov_full arg24.view _ _ _ _))
  isplitl [H25]
  · iexists _; isplitr; swap; · iexact H25
    ipureintro
    refine (View.read_writes_full arg25.view _ _ _ _).trans ?_
    exact kz_eq i (rdw arg2 harg2 x2 _) (rdw arg10 harg10 x10 _) ((View.readCov_full arg25.view _ _ _ _))
  iexists _; isplitr; swap; · iexact H26
  ipureintro
  refine (View.read_writes_full arg26.view _ _ _ _).trans ?_
  exact congrArg (k0_pay7 (F := Ideal)) (rdw arg3 harg3 x3 _)

end Cert.KernelIdeal.Val
-- ==== Proof.BodyMid.lean ====
/- The middle grid points' body, by value. -/
module

public import proofs.«01_k».proof.Proof.FrameIdeal
public import proofs.«01_k».proof.Proof.Body

@[expose] public section

set_option maxRecDepth 16384
set_option maxHeartbeats 4000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Hand

local notation "𝕄" => MT nD τ sig Unit (Elt Ideal) ℕ (UR sig nD τ) ℕ

/-- A grid point of this case: what its windows and its scratch hold afterwards. -/
theorem body_mid (c : Dev nD) (i : grid0.Coords) (h1 : ¬ k0_cond1 i = 1#1) (h2 : ¬ k0_cond2 i = 1#1)
    (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x2x256 .bf16) (harg20 : arg20.IsWhole) (arg21 : Memref sig .tc .vmem S1024x2x256 .bf16) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole)
    (x1 : S1x64x256.Idx → EReal) (x2 : S256x128.Idx → EReal) (x3 : S256x128.Idx → EReal) (x4 : S1x4x32x32768.Idx → BitVec 8) (x5 : S1x4x64x1024.Idx → EReal) (x6 : S1x4x64x1024.Idx → EReal) (x7 : S1x4x32x32768.Idx → BitVec 8) (x8 : S1x4x32768.Idx → EReal) (x9 : S1x4x32768.Idx → EReal) (x10 : S1x4x64x128.Idx → EReal) (x11 : S1x4x64x128.Idx → EReal) (x13 : S128x128.Idx → BitVec 8) (x14 : S256x128.Idx → EReal) (x15 : S256x128.Idx → EReal) (x16 : S128x128.Idx → BitVec 8) (x17 : S4x128.Idx → EReal) (x18 : S4x128.Idx → EReal) (x23 : S256x128.Idx → EReal) (x24 : S256x128.Idx → EReal) (x25 : S256x128.Idx → EReal) (x26 : S256x128.Idx → EReal) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare x23 ∗ owns (c : Thread nD τ) arg24 fullShare x24 ∗ owns (c : Thread nD τ) arg25 fullShare x25 ∗ owns (c : Thread nD τ) arg26 fullShare x26
      ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (yW i x1 x2 x4 x5 x6 x7 x8 x9 x10 x11 x26) ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare (kcN i x2 x10 x23) ∗ owns (c : Thread nD τ) arg24 fullShare (ksN i x2 x10 x24) ∗ owns (c : Thread nD τ) arg25 fullShare (kzN i x2 x10 x25) ∗ owns (c : Thread nD τ) arg26 fullShare x26) -∗ K ⟨⟩))
      ⊢ wp frame (wpE (defs₀ (F := Ideal)) Variants.none c none) Set.univ (cc0__attn_kernel (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__attn_kernel_eq_skeleton]; unfold cc0__attn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, ⟨%f25, %hf25, H25⟩, ⟨%f26, %hf26, H26⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg23.eq_unread hf23
  obtain rfl := harg24.eq_unread hf24
  obtain rfl := harg25.eq_unread hf25
  obtain rfl := harg26.eq_unread hf26
  sl_exec (disch := first | sl_exact h1 | sl_exact h2)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    refine (View.read_writes_full arg12.view _ _ _ _).trans ?_
    exact y_body Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ x1 x2 x4 x5 x6 x7 x8 x9 x10 x11 _ (congrArg (k0_pay45 (F := Ideal)) (rdw arg1 harg1 x1 _)) (s63_eq i (rdw arg1 harg1 x1 _) (rdw arg2 harg2 x2 _) (rdw arg10 harg10 x10 _)) (pay64_eq _ _ _ _) (congrArg (k0_pay135 (F := Ideal)) (rdw arg11 harg11 x11 _)) (congrArg (k0_pay136 (F := Ideal) _ _) (rdw arg26 harg26 x26 _)) (harg4.read_unread _)
      (fun g p r => stage16 arg20 (S5 x5) _ _ _ _ _ _ _ _ _ _ _ _ _ _ _ _ _ (stage_ok arg5 harg5 arg22 x5 7 1 (by omega) (by omega) _ _ _ rfl _ _) (stage_ok arg5 harg5 arg22 x5 7 0 (by omega) (by omega) _ _ _ rfl _ _) (stage_ok arg5 harg5 arg22 x5 6 1 (by omega) (by omega) _ _ _ rfl _ _) (stage_ok arg5 harg5 arg22 x5 6 0 (by omega) (by omega) _ _ _ rfl _ _) (stage_ok arg5 harg5 arg22 x5 5 1 (by omega) (by omega) _ _ _ rfl _ _) (stage_ok arg5 harg5 arg22 x5 5 0 (by omega) (by omega) _ _ _ rfl _ _) (stage_ok arg5 harg5 arg22 x5 4 1 (by omega) (by omega) _ _ _ rfl _ _) (stage_ok arg5 harg5 arg22 x5 4 0 (by omega) (by omega) _ _ _ rfl _ _) (stage_ok arg5 harg5 arg22 x5 3 1 (by omega) (by omega) _ _ _ rfl _ _) (stage_ok arg5 harg5 arg22 x5 3 0 (by omega) (by omega) _ _ _ rfl _ _) (stage_ok arg5 harg5 arg22 x5 2 1 (by omega) (by omega) _ _ _ rfl _ _) (stage_ok arg5 harg5 arg22 x5 2 0 (by omega) (by omega) _ _ _ rfl _ _) (stage_ok arg5 harg5 arg22 x5 1 1 (by omega) (by omega) _ _ _ rfl _ _) (stage_ok arg5 harg5 arg22 x5 1 0 (by omega) (by omega) _ _ _ rfl _ _) (stage_ok arg5 harg5 arg22 x5 0 1 (by omega) (by omega) _ _ _ rfl _ _) (stage_ok arg5 harg5 arg22 x5 0 0 (by omega) (by omega) _ _ _ rfl _ _) g p r)
      (fun g p r => stage16 arg21 (S5 x6) _ _ _ _ _ _ _ _ _ _ _ _ _ _ _ _ _ (stage_ok arg6 harg6 arg22 x6 7 1 (by omega) (by omega) _ _ _ rfl _ _) (stage_ok arg6 harg6 arg22 x6 7 0 (by omega) (by omega) _ _ _ rfl _ _) (stage_ok arg6 harg6 arg22 x6 6 1 (by omega) (by omega) _ _ _ rfl _ _) (stage_ok arg6 harg6 arg22 x6 6 0 (by omega) (by omega) _ _ _ rfl _ _) (stage_ok arg6 harg6 arg22 x6 5 1 (by omega) (by omega) _ _ _ rfl _ _) (stage_ok arg6 harg6 arg22 x6 5 0 (by omega) (by omega) _ _ _ rfl _ _) (stage_ok arg6 harg6 arg22 x6 4 1 (by omega) (by omega) _ _ _ rfl _ _) (stage_ok arg6 harg6 arg22 x6 4 0 (by omega) (by omega) _ _ _ rfl _ _) (stage_ok arg6 harg6 arg22 x6 3 1 (by omega) (by omega) _ _ _ rfl _ _) (stage_ok arg6 harg6 arg22 x6 3 0 (by omega) (by omega) _ _ _ rfl _ _) (stage_ok arg6 harg6 arg22 x6 2 1 (by omega) (by omega) _ _ _ rfl _ _) (stage_ok arg6 harg6 arg22 x6 2 0 (by omega) (by omega) _ _ _ rfl _ _) (stage_ok arg6 harg6 arg22 x6 1 1 (by omega) (by omega) _ _ _ rfl _ _) (stage_ok arg6 harg6 arg22 x6 1 0 (by omega) (by omega) _ _ _ rfl _ _) (stage_ok arg6 harg6 arg22 x6 0 1 (by omega) (by omega) _ _ _ rfl _ _) (stage_ok arg6 harg6 arg22 x6 0 0 (by omega) (by omega) _ _ _ rfl _ _) g p r)
      (harg7.read_unread _) (harg8.read_unread _) (harg9.read_unread _)
  isplitl [H13]
  · iexists _; isplitr; swap; · iexact H13
    ipureintro
    exact harg13.read_unread _
  isplitl [H14]
  · iexists _; isplitr; swap; · iexact H14
    ipureintro
    exact harg14.read_unread _
  isplitl [H15]
  · iexists _; isplitr; swap; · iexact H15
    ipureintro
    exact harg15.read_unread _
  isplitl [H16]
  · iexists _; isplitr; swap; · iexact H16
    ipureintro
    exact harg16.read_unread _
  isplitl [H17]
  · iexists _; isplitr; swap; · iexact H17
    ipureintro
    exact harg17.read_unread _
  isplitl [H18]
  · iexists _; isplitr; swap; · iexact H18
    ipureintro
    exact harg18.read_unread _
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _; isplitr; swap; · iexact H23
    ipureintro
    refine (View.read_writes_full arg23.view _ _ _ _).trans ?_
    exact kc_eq i (rdw arg2 harg2 x2 _) (rdw arg10 harg10 x10 _) (rdw arg23 harg23 x23 _)
  isplitl [H24]
  · iexists _; isplitr; swap; · iexact H24
    ipureintro
    refine (View.read_writes_full arg24.view _ _ _ _).trans ?_
    exact ks_eq i (rdw arg2 harg2 x2 _) (rdw arg10 harg10 x10 _) (rdw arg24 harg24 x24 _)
  isplitl [H25]
  · iexists _; isplitr; swap; · iexact H25
    ipureintro
    refine (View.read_writes_full arg25.view _ _ _ _).trans ?_
    exact kz_eq i (rdw arg2 harg2 x2 _) (rdw arg10 harg10 x10 _) (rdw arg25 harg25 x25 _)
  iexists _; isplitr; swap; · iexact H26
  ipureintro
  exact harg26.read_unread _

end Cert.KernelIdeal.Val
-- ==== Proof.BodyLast.lean ====
/- The last grid points' body, by value. -/
module

public import proofs.«01_k».proof.Proof.FrameIdeal
public import proofs.«01_k».proof.Proof.Body

@[expose] public section

set_option maxRecDepth 16384
set_option maxHeartbeats 4000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Hand

local notation "𝕄" => MT nD τ sig Unit (Elt Ideal) ℕ (UR sig nD τ) ℕ

/-- A grid point of this case: what its windows and its scratch hold afterwards. -/
theorem body_last (c : Dev nD) (i : grid0.Coords) (h1 : ¬ k0_cond1 i = 1#1) (h2 : k0_cond2 i = 1#1)
    (arg1 : Memref sig .tc .vmem S1x64x256 .bf16) (harg1 : arg1.IsWhole) (arg2 : Memref sig .tc .vmem S256x128 .bf16) (harg2 : arg2.IsWhole) (arg3 : Memref sig .tc .vmem S256x128 .bf16) (harg3 : arg3.IsWhole) (arg4 : Memref sig .tc .vmem S1x4x32x32768 .i8) (harg4 : arg4.IsWhole) (arg5 : Memref sig .tc .vmem S1x4x64x1024 .f32) (harg5 : arg5.IsWhole) (arg6 : Memref sig .tc .vmem S1x4x64x1024 .f32) (harg6 : arg6.IsWhole) (arg7 : Memref sig .tc .vmem S1x4x32x32768 .i8) (harg7 : arg7.IsWhole) (arg8 : Memref sig .tc .vmem S1x4x32768 .f32) (harg8 : arg8.IsWhole) (arg9 : Memref sig .tc .vmem S1x4x32768 .f32) (harg9 : arg9.IsWhole) (arg10 : Memref sig .tc .vmem S1x4x64x128 .bf16) (harg10 : arg10.IsWhole) (arg11 : Memref sig .tc .vmem S1x4x64x128 .bf16) (harg11 : arg11.IsWhole) (arg12 : Memref sig .tc .vmem S1x64x64 .bf16) (harg12 : arg12.IsWhole) (arg13 : Memref sig .tc .vmem S128x128 .i8) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .i8) (harg16 : arg16.IsWhole) (arg17 : Memref sig .tc .vmem S4x128 .f32) (harg17 : arg17.IsWhole) (arg18 : Memref sig .tc .vmem S4x128 .f32) (harg18 : arg18.IsWhole) (arg19 : Memref sig .tc .vmem S64x33024 .f32) (harg19 : arg19.IsWhole) (arg20 : Memref sig .tc .vmem S1024x2x256 .bf16) (harg20 : arg20.IsWhole) (arg21 : Memref sig .tc .vmem S1024x2x256 .bf16) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole)
    (x1 : S1x64x256.Idx → EReal) (x2 : S256x128.Idx → EReal) (x3 : S256x128.Idx → EReal) (x4 : S1x4x32x32768.Idx → BitVec 8) (x5 : S1x4x64x1024.Idx → EReal) (x6 : S1x4x64x1024.Idx → EReal) (x7 : S1x4x32x32768.Idx → BitVec 8) (x8 : S1x4x32768.Idx → EReal) (x9 : S1x4x32768.Idx → EReal) (x10 : S1x4x64x128.Idx → EReal) (x11 : S1x4x64x128.Idx → EReal) (x16 : S128x128.Idx → BitVec 8) (x17 : S4x128.Idx → EReal) (x18 : S4x128.Idx → EReal) (x23 : S256x128.Idx → EReal) (x24 : S256x128.Idx → EReal) (x25 : S256x128.Idx → EReal) (x26 : S256x128.Idx → EReal) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare x23 ∗ owns (c : Thread nD τ) arg24 fullShare x24 ∗ owns (c : Thread nD τ) arg25 fullShare x25 ∗ owns (c : Thread nD τ) arg26 fullShare x26
      ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (yW i x1 x2 x4 x5 x6 x7 x8 x9 x10 x11 x26) ∗ owns (c : Thread nD τ) arg13 fullShare (k0_pay2 (F := Ideal) (kcN i x2 x10 x23)) ∗ owns (c : Thread nD τ) arg14 fullShare (interl (ksN i x2 x10 x24)) ∗ owns (c : Thread nD τ) arg15 fullShare (interl (kzN i x2 x10 x25)) ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare (kcN i x2 x10 x23) ∗ owns (c : Thread nD τ) arg24 fullShare (ksN i x2 x10 x24) ∗ owns (c : Thread nD τ) arg25 fullShare (kzN i x2 x10 x25) ∗ owns (c : Thread nD τ) arg26 fullShare x26) -∗ K ⟨⟩))
      ⊢ wp frame (wpE (defs₀ (F := Ideal)) Variants.none c none) Set.univ (cc0__attn_kernel (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__attn_kernel_eq_skeleton]; unfold cc0__attn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, ⟨%f25, %hf25, H25⟩, ⟨%f26, %hf26, H26⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg16.eq_unread hf16
  obtain rfl := harg17.eq_unread hf17
  obtain rfl := harg18.eq_unread hf18
  obtain rfl := harg23.eq_unread hf23
  obtain rfl := harg24.eq_unread hf24
  obtain rfl := harg25.eq_unread hf25
  obtain rfl := harg26.eq_unread hf26
  sl_exec (disch := first | sl_exact h1 | sl_exact h2)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  isplitl [H12]
  · iexists _; isplitr; swap; · iexact H12
    ipureintro
    refine (View.read_writes_full arg12.view _ _ _ _).trans ?_
    exact y_body Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ x1 x2 x4 x5 x6 x7 x8 x9 x10 x11 _ (congrArg (k0_pay45 (F := Ideal)) (rdw arg1 harg1 x1 _)) (s63_eq i (rdw arg1 harg1 x1 _) (rdw arg2 harg2 x2 _) (rdw arg10 harg10 x10 _)) (pay64_eq _ _ _ _) (congrArg (k0_pay135 (F := Ideal)) (rdw arg11 harg11 x11 _)) (congrArg (k0_pay136 (F := Ideal) _ _) (rdw arg26 harg26 x26 _)) (harg4.read_unread _)
      (fun g p r => stage16 arg20 (S5 x5) _ _ _ _ _ _ _ _ _ _ _ _ _ _ _ _ _ (stage_ok arg5 harg5 arg22 x5 7 1 (by omega) (by omega) _ _ _ rfl _ _) (stage_ok arg5 harg5 arg22 x5 7 0 (by omega) (by omega) _ _ _ rfl _ _) (stage_ok arg5 harg5 arg22 x5 6 1 (by omega) (by omega) _ _ _ rfl _ _) (stage_ok arg5 harg5 arg22 x5 6 0 (by omega) (by omega) _ _ _ rfl _ _) (stage_ok arg5 harg5 arg22 x5 5 1 (by omega) (by omega) _ _ _ rfl _ _) (stage_ok arg5 harg5 arg22 x5 5 0 (by omega) (by omega) _ _ _ rfl _ _) (stage_ok arg5 harg5 arg22 x5 4 1 (by omega) (by omega) _ _ _ rfl _ _) (stage_ok arg5 harg5 arg22 x5 4 0 (by omega) (by omega) _ _ _ rfl _ _) (stage_ok arg5 harg5 arg22 x5 3 1 (by omega) (by omega) _ _ _ rfl _ _) (stage_ok arg5 harg5 arg22 x5 3 0 (by omega) (by omega) _ _ _ rfl _ _) (stage_ok arg5 harg5 arg22 x5 2 1 (by omega) (by omega) _ _ _ rfl _ _) (stage_ok arg5 harg5 arg22 x5 2 0 (by omega) (by omega) _ _ _ rfl _ _) (stage_ok arg5 harg5 arg22 x5 1 1 (by omega) (by omega) _ _ _ rfl _ _) (stage_ok arg5 harg5 arg22 x5 1 0 (by omega) (by omega) _ _ _ rfl _ _) (stage_ok arg5 harg5 arg22 x5 0 1 (by omega) (by omega) _ _ _ rfl _ _) (stage_ok arg5 harg5 arg22 x5 0 0 (by omega) (by omega) _ _ _ rfl _ _) g p r)
      (fun g p r => stage16 arg21 (S5 x6) _ _ _ _ _ _ _ _ _ _ _ _ _ _ _ _ _ (stage_ok arg6 harg6 arg22 x6 7 1 (by omega) (by omega) _ _ _ rfl _ _) (stage_ok arg6 harg6 arg22 x6 7 0 (by omega) (by omega) _ _ _ rfl _ _) (stage_ok arg6 harg6 arg22 x6 6 1 (by omega) (by omega) _ _ _ rfl _ _) (stage_ok arg6 harg6 arg22 x6 6 0 (by omega) (by omega) _ _ _ rfl _ _) (stage_ok arg6 harg6 arg22 x6 5 1 (by omega) (by omega) _ _ _ rfl _ _) (stage_ok arg6 harg6 arg22 x6 5 0 (by omega) (by omega) _ _ _ rfl _ _) (stage_ok arg6 harg6 arg22 x6 4 1 (by omega) (by omega) _ _ _ rfl _ _) (stage_ok arg6 harg6 arg22 x6 4 0 (by omega) (by omega) _ _ _ rfl _ _) (stage_ok arg6 harg6 arg22 x6 3 1 (by omega) (by omega) _ _ _ rfl _ _) (stage_ok arg6 harg6 arg22 x6 3 0 (by omega) (by omega) _ _ _ rfl _ _) (stage_ok arg6 harg6 arg22 x6 2 1 (by omega) (by omega) _ _ _ rfl _ _) (stage_ok arg6 harg6 arg22 x6 2 0 (by omega) (by omega) _ _ _ rfl _ _) (stage_ok arg6 harg6 arg22 x6 1 1 (by omega) (by omega) _ _ _ rfl _ _) (stage_ok arg6 harg6 arg22 x6 1 0 (by omega) (by omega) _ _ _ rfl _ _) (stage_ok arg6 harg6 arg22 x6 0 1 (by omega) (by omega) _ _ _ rfl _ _) (stage_ok arg6 harg6 arg22 x6 0 0 (by omega) (by omega) _ _ _ rfl _ _) g p r)
      (harg7.read_unread _) (harg8.read_unread _) (harg9.read_unread _)
  isplitl [H13]
  · iexists _; isplitr; swap; · iexact H13
    ipureintro
    refine (View.read_writes_full arg13.view _ _ _ _).trans ?_
    exact congrArg (k0_pay2 (F := Ideal)) ((View.readCov_full arg23.view _ _ _ _).trans (kc_eq i (rdw arg2 harg2 x2 _) (rdw arg10 harg10 x10 _) (rdw arg23 harg23 x23 _)))
  isplitl [H14]
  · iexists _; isplitr; swap; · iexact H14
    ipureintro
    exact interl_read arg14 arg24 _ _ _ (ks_eq i (rdw arg2 harg2 x2 _) (rdw arg10 harg10 x10 _) (rdw arg24 harg24 x24 _)) _ _
  isplitl [H15]
  · iexists _; isplitr; swap; · iexact H15
    ipureintro
    exact interl_read arg15 arg25 _ _ _ (kz_eq i (rdw arg2 harg2 x2 _) (rdw arg10 harg10 x10 _) (rdw arg25 harg25 x25 _)) _ _
  isplitl [H16]
  · iexists _; isplitr; swap; · iexact H16
    ipureintro
    exact harg16.read_unread _
  isplitl [H17]
  · iexists _; isplitr; swap; · iexact H17
    ipureintro
    exact harg17.read_unread _
  isplitl [H18]
  · iexists _; isplitr; swap; · iexact H18
    ipureintro
    exact harg18.read_unread _
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _; isplitr; swap; · iexact H23
    ipureintro
    refine (View.read_writes_full arg23.view _ _ _ _).trans ?_
    exact kc_eq i (rdw arg2 harg2 x2 _) (rdw arg10 harg10 x10 _) (rdw arg23 harg23 x23 _)
  isplitl [H24]
  · iexists _; isplitr; swap; · iexact H24
    ipureintro
    refine (View.read_writes_full arg24.view _ _ _ _).trans ?_
    exact ks_eq i (rdw arg2 harg2 x2 _) (rdw arg10 harg10 x10 _) (rdw arg24 harg24 x24 _)
  isplitl [H25]
  · iexists _; isplitr; swap; · iexact H25
    ipureintro
    refine (View.read_writes_full arg25.view _ _ _ _).trans ?_
    exact kz_eq i (rdw arg2 harg2 x2 _) (rdw arg10 harg10 x10 _) (rdw arg25 harg25 x25 _)
  iexists _; isplitr; swap; · iexact H26
  ipureintro
  exact harg26.read_unread _

end Cert.KernelIdeal.Val
-- ==== Proof.KDat.lean ====
/- What the launch leaves in the attention's array: at every grid point the body's window holds the attention
   of that point's blocks, and the dequantised new values stay in scratch from the first point on. -/
module

public import proofs.«01_k».proof.Proof.FrameIdeal
public import proofs.«01_k».proof.Proof.BodyFirst
public import proofs.«01_k».proof.Proof.BodyMid
public import proofs.«01_k».proof.Proof.BodyLast
public import Idealize.ShloMosaic.Lib.Pipeline.ValueKit

@[expose] public section

set_option maxRecDepth 16384
set_option maxHeartbeats 1000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Hand

local notation "𝕄" => MT nD τ sig Unit (Elt Ideal) ℕ (UR sig nD τ) ℕ

variable (m : (ℓ : Loc nD τ sig) → Buf (Elt Ideal) ℓ) (ρ : Dev nD → PrngReg)

/-- The new values dequantised, one column per sequence. -/
def vdq0 (c : Dev nD) : S256x128.Idx → EReal := k0_pay7 (F := Ideal) (V m c main_v16)

theorem at2 : ∀ t : Fin cfg0.N, win0_2.index t 0 = 0 ∧ win0_2.index t 1 = 0 := by decide +kernel

/-- The second window's block is its whole array. -/
theorem iblk2 (c : Dev nD) (t : Fin cfg0.N) : (iblk m c 2 t : S256x128.Idx → EReal) = V m c main_v16 := by
  funext y
  obtain ⟨e0, e1⟩ := at2 t
  blk_ext [iblk] <;> simp only [e0, e1] <;> omega

theorem vdq0_blk (c : Dev nD) (t : Fin cfg0.N) : k0_pay7 (F := Ideal) (iblk m c 2 t) = vdq0 m c := by
  unfold vdq0; rw [← iblk2 m c t]

/-- The attention a point leaves, of its blocks. -/
def yV (c : Dev nD) (t : Fin cfg0.N) : S1x64x64.Idx → EReal :=
  yW (grid0.coords t) (iblk m c 0 t) (iblk m c 1 t) (iblk m c 3 t) (iblk m c 4 t) (iblk m c 5 t) (iblk m c 6 t) (iblk m c 7 t) (iblk m c 8 t) (iblk m c 9 t) (iblk m c 10 t) (vdq0 m c)

theorem yV_first (c : Dev nD) (t : Fin cfg0.N) : yV m c t
    = yW (grid0.coords t) (iblk m c 0 t) (iblk m c 1 t) (iblk m c 3 t) (iblk m c 4 t) (iblk m c 5 t) (iblk m c 6 t) (iblk m c 7 t) (iblk m c 8 t) (iblk m c 9 t) (iblk m c 10 t) (k0_pay7 (F := Ideal) (iblk m c 2 t)) := by
  rw [vdq0_blk m c t]; rfl

/-- The invariant between points: the dequantised new values in scratch once the first point has run. -/
def PhiS (c : Dev nD) (n : ℕ) : sProp 𝕄 :=
  if n = 0 then Pipeline.ΦA spec0 c else iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ owns (c : Thread nD τ) (Memref.whole cc0_scratch7) fullShare (vdq0 m c)) ∗ (∃ r, prngReg c r))

theorem PhiS_zero (c : Dev nD) : PhiS m c 0 = Pipeline.ΦA spec0 c := if_pos rfl
theorem PhiS_pos (c : Dev nD) (n : ℕ) (h : n ≠ 0) : PhiS m c n = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ owns (c : Thread nD τ) (Memref.whole cc0_scratch7) fullShare (vdq0 m c)) ∗ (∃ r, prngReg c r)) := if_neg h

/-- The windows of the launch nothing is said of here: the new entries' codes, steps and zeros. -/
def fgt (w : Fin cfg0.W) : Bool := Nat.ble 12 w.val

/-- The launch's proof data: every input's block in place, the attention's window at the point's attention. -/
def vdat (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => yV m c t
    | ⟨12, _⟩ => Dat.unnamed (cfg := cfg0) (12 : Fin cfg0.W) t
    | ⟨13, _⟩ => Dat.unnamed (cfg := cfg0) (13 : Fin cfg0.W) t
    | ⟨14, _⟩ => Dat.unnamed (cfg := cfg0) (14 : Fin cfg0.W) t
    | ⟨15, _⟩ => Dat.unnamed (cfg := cfg0) (15 : Fin cfg0.W) t
    | ⟨16, _⟩ => Dat.unnamed (cfg := cfg0) (16 : Fin cfg0.W) t
    | ⟨17, _⟩ => Dat.unnamed (cfg := cfg0) (17 : Fin cfg0.W) t
    | ⟨_ + 18, h⟩ => absurd h (by show ¬ _ < 18; omega)
  Φ t := PhiS m c t.val
  q _ := fullShare
  owed _ := 0

theorem vA_eq (c : Dev nD) (w : Fin cfg0.W) : (vdat m 0 c).A w = V m c (Pipeline.arrRef spec0 w) := by
  dsimp only [vdat]

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 127 := by decide +kernel

/-- The first point. -/
theorem sound_first (c : Dev nD) (t : Fin cfg0.N) (h1 : k0_cond1 (grid0.coords t) = 1#1) (h2 : ¬ k0_cond2 (grid0.coords t) = 1#1) :
    iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) ∗ (vdat m 0 c).owesAt () t.castSucc ∗ (∃ d : (cfg0.win 0).block.Idx → Elt Ideal (cfg0.win 0).elt, owns (c : Thread nD τ) (win0_0.stage (cfg0.slots t 0)) fullShare (iblk m c 0 t)) ∗ (∃ d : (cfg0.win 1).block.Idx → Elt Ideal (cfg0.win 1).elt, owns (c : Thread nD τ) (win0_1.stage (cfg0.slots t 1)) fullShare (iblk m c 1 t)) ∗ (∃ d : (cfg0.win 2).block.Idx → Elt Ideal (cfg0.win 2).elt, owns (c : Thread nD τ) (win0_2.stage (cfg0.slots t 2)) fullShare (iblk m c 2 t)) ∗ (∃ d : (cfg0.win 3).block.Idx → Elt Ideal (cfg0.win 3).elt, owns (c : Thread nD τ) (win0_3.stage (cfg0.slots t 3)) fullShare (iblk m c 3 t)) ∗ (∃ d : (cfg0.win 4).block.Idx → Elt Ideal (cfg0.win 4).elt, owns (c : Thread nD τ) (win0_4.stage (cfg0.slots t 4)) fullShare (iblk m c 4 t)) ∗ (∃ d : (cfg0.win 5).block.Idx → Elt Ideal (cfg0.win 5).elt, owns (c : Thread nD τ) (win0_5.stage (cfg0.slots t 5)) fullShare (iblk m c 5 t)) ∗ (∃ d : (cfg0.win 6).block.Idx → Elt Ideal (cfg0.win 6).elt, owns (c : Thread nD τ) (win0_6.stage (cfg0.slots t 6)) fullShare (iblk m c 6 t)) ∗ (∃ d : (cfg0.win 7).block.Idx → Elt Ideal (cfg0.win 7).elt, owns (c : Thread nD τ) (win0_7.stage (cfg0.slots t 7)) fullShare (iblk m c 7 t)) ∗ (∃ d : (cfg0.win 8).block.Idx → Elt Ideal (cfg0.win 8).elt, owns (c : Thread nD τ) (win0_8.stage (cfg0.slots t 8)) fullShare (iblk m c 8 t)) ∗ (∃ d : (cfg0.win 9).block.Idx → Elt Ideal (cfg0.win 9).elt, owns (c : Thread nD τ) (win0_9.stage (cfg0.slots t 9)) fullShare (iblk m c 9 t)) ∗ (∃ d : (cfg0.win 10).block.Idx → Elt Ideal (cfg0.win 10).elt, owns (c : Thread nD τ) (win0_10.stage (cfg0.slots t 10)) fullShare (iblk m c 10 t)) ∗ (∃ d, owns (c : Thread nD τ) (win0_11.stage (cfg0.slots t 11)) fullShare ((vdat m 0 c).before 11 t d)) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X))
      ⊢ wp frame (wpE (defs₀ (F := Ideal)) Variants.none c none) Set.univ (bodyAt0 (F := Ideal) t) (fun _ =>
    iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ owns (c : Thread nD τ) (Memref.whole cc0_scratch7) fullShare (vdq0 m c)) ∗ (∃ r, prngReg c r)) ∗ (vdat m 0 c).owesAt () t.succ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (yV m c t) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X))) := by
  iintro ⟨⟨⟨⟨%X19, H19⟩, ⟨%X20, H20⟩, ⟨%X21, H21⟩, ⟨%X22, H22⟩, ⟨%X23, H23⟩, ⟨%X24, H24⟩, ⟨%X25, H25⟩, ⟨%X26, H26⟩⟩, Hg⟩, HW, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩⟩
  iapply (body_first c (grid0.coords t) h1 h2 (x1 := iblk m c 0 t) (x2 := iblk m c 1 t) (x3 := iblk m c 2 t) (x4 := iblk m c 3 t) (x5 := iblk m c 4 t) (x6 := iblk m c 5 t) (x7 := iblk m c 6 t) (x8 := iblk m c 7 t) (x9 := iblk m c 8 t) (x10 := iblk m c 9 t) (x11 := iblk m c 10 t) (x13 := X13) (x14 := X14) (x15 := X15))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H1, H2, H3, H4, H5, H6, H7, H8, H9, H10, H11, H12, H13, H14, H15, H16, H17, H18, H19, H20, H21, H22, H23, H24, H25, H26⟩
  isplitl [H19 H20 H21 H22 H23 H24 H25 H26 Hg]
  · isplitr [Hg]
    · isplitl [H19]; · iexact H19
      isplitl [H20]; · iexact H20
      isplitl [H21]; · iexact H21
      isplitl [H22]; · iexact H22
      isplitl [H23]; · iexists _; iexact H23
      isplitl [H24]; · iexists _; iexact H24
      isplitl [H25]; · iexists _; iexact H25
      rw [← vdq0_blk m c t]; iexact H26
    iexact Hg
  isplitl [HW]; · iexact HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · rw [yV_first m c t]; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

/-- A point between. -/
theorem sound_mid (c : Dev nD) (t : Fin cfg0.N) (h1 : ¬ k0_cond1 (grid0.coords t) = 1#1) (h2 : ¬ k0_cond2 (grid0.coords t) = 1#1) :
    iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ owns (c : Thread nD τ) (Memref.whole cc0_scratch7) fullShare (vdq0 m c)) ∗ (∃ r, prngReg c r)) ∗ (vdat m 0 c).owesAt () t.castSucc ∗ (∃ d : (cfg0.win 0).block.Idx → Elt Ideal (cfg0.win 0).elt, owns (c : Thread nD τ) (win0_0.stage (cfg0.slots t 0)) fullShare (iblk m c 0 t)) ∗ (∃ d : (cfg0.win 1).block.Idx → Elt Ideal (cfg0.win 1).elt, owns (c : Thread nD τ) (win0_1.stage (cfg0.slots t 1)) fullShare (iblk m c 1 t)) ∗ (∃ d : (cfg0.win 2).block.Idx → Elt Ideal (cfg0.win 2).elt, owns (c : Thread nD τ) (win0_2.stage (cfg0.slots t 2)) fullShare (iblk m c 2 t)) ∗ (∃ d : (cfg0.win 3).block.Idx → Elt Ideal (cfg0.win 3).elt, owns (c : Thread nD τ) (win0_3.stage (cfg0.slots t 3)) fullShare (iblk m c 3 t)) ∗ (∃ d : (cfg0.win 4).block.Idx → Elt Ideal (cfg0.win 4).elt, owns (c : Thread nD τ) (win0_4.stage (cfg0.slots t 4)) fullShare (iblk m c 4 t)) ∗ (∃ d : (cfg0.win 5).block.Idx → Elt Ideal (cfg0.win 5).elt, owns (c : Thread nD τ) (win0_5.stage (cfg0.slots t 5)) fullShare (iblk m c 5 t)) ∗ (∃ d : (cfg0.win 6).block.Idx → Elt Ideal (cfg0.win 6).elt, owns (c : Thread nD τ) (win0_6.stage (cfg0.slots t 6)) fullShare (iblk m c 6 t)) ∗ (∃ d : (cfg0.win 7).block.Idx → Elt Ideal (cfg0.win 7).elt, owns (c : Thread nD τ) (win0_7.stage (cfg0.slots t 7)) fullShare (iblk m c 7 t)) ∗ (∃ d : (cfg0.win 8).block.Idx → Elt Ideal (cfg0.win 8).elt, owns (c : Thread nD τ) (win0_8.stage (cfg0.slots t 8)) fullShare (iblk m c 8 t)) ∗ (∃ d : (cfg0.win 9).block.Idx → Elt Ideal (cfg0.win 9).elt, owns (c : Thread nD τ) (win0_9.stage (cfg0.slots t 9)) fullShare (iblk m c 9 t)) ∗ (∃ d : (cfg0.win 10).block.Idx → Elt Ideal (cfg0.win 10).elt, owns (c : Thread nD τ) (win0_10.stage (cfg0.slots t 10)) fullShare (iblk m c 10 t)) ∗ (∃ d, owns (c : Thread nD τ) (win0_11.stage (cfg0.slots t 11)) fullShare ((vdat m 0 c).before 11 t d)) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X))
      ⊢ wp frame (wpE (defs₀ (F := Ideal)) Variants.none c none) Set.univ (bodyAt0 (F := Ideal) t) (fun _ =>
    iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ owns (c : Thread nD τ) (Memref.whole cc0_scratch7) fullShare (vdq0 m c)) ∗ (∃ r, prngReg c r)) ∗ (vdat m 0 c).owesAt () t.succ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (yV m c t) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X))) := by
  iintro ⟨⟨⟨⟨%X19, H19⟩, ⟨%X20, H20⟩, ⟨%X21, H21⟩, ⟨%X22, H22⟩, ⟨%X23, H23⟩, ⟨%X24, H24⟩, ⟨%X25, H25⟩, H26⟩, Hg⟩, HW, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩⟩
  iapply (body_mid c (grid0.coords t) h1 h2 (x1 := iblk m c 0 t) (x2 := iblk m c 1 t) (x3 := iblk m c 2 t) (x4 := iblk m c 3 t) (x5 := iblk m c 4 t) (x6 := iblk m c 5 t) (x7 := iblk m c 6 t) (x8 := iblk m c 7 t) (x9 := iblk m c 8 t) (x10 := iblk m c 9 t) (x11 := iblk m c 10 t) (x13 := X13) (x14 := X14) (x15 := X15) (x16 := X16) (x17 := X17) (x18 := X18) (x23 := X23) (x24 := X24) (x25 := X25) (x26 := vdq0 m c))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexact H23
  isplitl [H24]; · iexact H24
  isplitl [H25]; · iexact H25
  isplitl [H26]; · iexact H26
  iintro ⟨H1, H2, H3, H4, H5, H6, H7, H8, H9, H10, H11, H12, H13, H14, H15, H16, H17, H18, H19, H20, H21, H22, H23, H24, H25, H26⟩
  isplitl [H19 H20 H21 H22 H23 H24 H25 H26 Hg]
  · isplitr [Hg]
    · isplitl [H19]; · iexact H19
      isplitl [H20]; · iexact H20
      isplitl [H21]; · iexact H21
      isplitl [H22]; · iexact H22
      isplitl [H23]; · iexists _; iexact H23
      isplitl [H24]; · iexists _; iexact H24
      isplitl [H25]; · iexists _; iexact H25
      iexact H26
    iexact Hg
  isplitl [HW]; · iexact HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

/-- The last point. -/
theorem sound_last (c : Dev nD) (t : Fin cfg0.N) (h1 : ¬ k0_cond1 (grid0.coords t) = 1#1) (h2 : k0_cond2 (grid0.coords t) = 1#1) :
    iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ owns (c : Thread nD τ) (Memref.whole cc0_scratch7) fullShare (vdq0 m c)) ∗ (∃ r, prngReg c r)) ∗ (vdat m 0 c).owesAt () t.castSucc ∗ (∃ d : (cfg0.win 0).block.Idx → Elt Ideal (cfg0.win 0).elt, owns (c : Thread nD τ) (win0_0.stage (cfg0.slots t 0)) fullShare (iblk m c 0 t)) ∗ (∃ d : (cfg0.win 1).block.Idx → Elt Ideal (cfg0.win 1).elt, owns (c : Thread nD τ) (win0_1.stage (cfg0.slots t 1)) fullShare (iblk m c 1 t)) ∗ (∃ d : (cfg0.win 2).block.Idx → Elt Ideal (cfg0.win 2).elt, owns (c : Thread nD τ) (win0_2.stage (cfg0.slots t 2)) fullShare (iblk m c 2 t)) ∗ (∃ d : (cfg0.win 3).block.Idx → Elt Ideal (cfg0.win 3).elt, owns (c : Thread nD τ) (win0_3.stage (cfg0.slots t 3)) fullShare (iblk m c 3 t)) ∗ (∃ d : (cfg0.win 4).block.Idx → Elt Ideal (cfg0.win 4).elt, owns (c : Thread nD τ) (win0_4.stage (cfg0.slots t 4)) fullShare (iblk m c 4 t)) ∗ (∃ d : (cfg0.win 5).block.Idx → Elt Ideal (cfg0.win 5).elt, owns (c : Thread nD τ) (win0_5.stage (cfg0.slots t 5)) fullShare (iblk m c 5 t)) ∗ (∃ d : (cfg0.win 6).block.Idx → Elt Ideal (cfg0.win 6).elt, owns (c : Thread nD τ) (win0_6.stage (cfg0.slots t 6)) fullShare (iblk m c 6 t)) ∗ (∃ d : (cfg0.win 7).block.Idx → Elt Ideal (cfg0.win 7).elt, owns (c : Thread nD τ) (win0_7.stage (cfg0.slots t 7)) fullShare (iblk m c 7 t)) ∗ (∃ d : (cfg0.win 8).block.Idx → Elt Ideal (cfg0.win 8).elt, owns (c : Thread nD τ) (win0_8.stage (cfg0.slots t 8)) fullShare (iblk m c 8 t)) ∗ (∃ d : (cfg0.win 9).block.Idx → Elt Ideal (cfg0.win 9).elt, owns (c : Thread nD τ) (win0_9.stage (cfg0.slots t 9)) fullShare (iblk m c 9 t)) ∗ (∃ d : (cfg0.win 10).block.Idx → Elt Ideal (cfg0.win 10).elt, owns (c : Thread nD τ) (win0_10.stage (cfg0.slots t 10)) fullShare (iblk m c 10 t)) ∗ (∃ d, owns (c : Thread nD τ) (win0_11.stage (cfg0.slots t 11)) fullShare ((vdat m 0 c).before 11 t d)) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X))
      ⊢ wp frame (wpE (defs₀ (F := Ideal)) Variants.none c none) Set.univ (bodyAt0 (F := Ideal) t) (fun _ =>
    iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ owns (c : Thread nD τ) (Memref.whole cc0_scratch7) fullShare (vdq0 m c)) ∗ (∃ r, prngReg c r)) ∗ (vdat m 0 c).owesAt () t.succ ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (yV m c t) ∗ (∃ X, owns (c : Thread nD τ) (win0_12.stage (cfg0.slots t 12)) fullShare X) ∗ (∃ X, owns (c : Thread nD τ) (win0_13.stage (cfg0.slots t 13)) fullShare X) ∗ (∃ X, owns (c : Thread nD τ) (win0_14.stage (cfg0.slots t 14)) fullShare X) ∗ (∃ X, owns (c : Thread nD τ) (win0_15.stage (cfg0.slots t 15)) fullShare X) ∗ (∃ X, owns (c : Thread nD τ) (win0_16.stage (cfg0.slots t 16)) fullShare X) ∗ (∃ X, owns (c : Thread nD τ) (win0_17.stage (cfg0.slots t 17)) fullShare X))) := by
  iintro ⟨⟨⟨⟨%X19, H19⟩, ⟨%X20, H20⟩, ⟨%X21, H21⟩, ⟨%X22, H22⟩, ⟨%X23, H23⟩, ⟨%X24, H24⟩, ⟨%X25, H25⟩, H26⟩, Hg⟩, HW, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩⟩
  iapply (body_last c (grid0.coords t) h1 h2 (x1 := iblk m c 0 t) (x2 := iblk m c 1 t) (x3 := iblk m c 2 t) (x4 := iblk m c 3 t) (x5 := iblk m c 4 t) (x6 := iblk m c 5 t) (x7 := iblk m c 6 t) (x8 := iblk m c 7 t) (x9 := iblk m c 8 t) (x10 := iblk m c 9 t) (x11 := iblk m c 10 t) (x16 := X16) (x17 := X17) (x18 := X18) (x23 := X23) (x24 := X24) (x25 := X25) (x26 := vdq0 m c))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexact H23
  isplitl [H24]; · iexact H24
  isplitl [H25]; · iexact H25
  isplitl [H26]; · iexact H26
  iintro ⟨H1, H2, H3, H4, H5, H6, H7, H8, H9, H10, H11, H12, H13, H14, H15, H16, H17, H18, H19, H20, H21, H22, H23, H24, H25, H26⟩
  isplitl [H19 H20 H21 H22 H23 H24 H25 H26 Hg]
  · isplitr [Hg]
    · isplitl [H19]; · iexact H19
      isplitl [H20]; · iexact H20
      isplitl [H21]; · iexact H21
      isplitl [H22]; · iexact H22
      isplitl [H23]; · iexists _; iexact H23
      isplitl [H24]; · iexists _; iexact H24
      isplitl [H25]; · iexists _; iexact H25
      iexact H26
    iexact Hg
  isplitl [HW]; · iexact HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.KernelIdeal.Val

end
-- ==== Proof.KRun.lean ====
/- What the launch leaves in the attention's array: at every grid point the body's window holds the attention
   of that point's blocks, and the dequantised new values stay in scratch from the first point on. -/
module

public import proofs.«01_k».proof.Proof.KDat
public import proofs.«01_k».proof.Proof.BodyFirst
public import proofs.«01_k».proof.Proof.BodyMid
public import proofs.«01_k».proof.Proof.BodyLast
public import Idealize.ShloMosaic.Lib.Pipeline.ValueKit

@[expose] public section

set_option maxRecDepth 16384
set_option maxHeartbeats 1000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Hand

local notation "𝕄" => MT nD τ sig Unit (Elt Ideal) ℕ (UR sig nD τ) ℕ

variable (m : (ℓ : Loc nD τ sig) → Buf (Elt Ideal) ℓ) (ρ : Dev nD → PrngReg)

attribute [local irreducible] yV vdq0

/-- What each window holds after a point, one window at a time. -/
theorem after_0 (c : Dev nD) (t : Fin cfg0.N) : (vdat m 0 c).after 0 t = iblk m c 0 t := rfl
theorem after_1 (c : Dev nD) (t : Fin cfg0.N) : (vdat m 0 c).after 1 t = iblk m c 1 t := rfl
theorem after_2 (c : Dev nD) (t : Fin cfg0.N) : (vdat m 0 c).after 2 t = iblk m c 2 t := rfl
theorem after_3 (c : Dev nD) (t : Fin cfg0.N) : (vdat m 0 c).after 3 t = iblk m c 3 t := rfl
theorem after_4 (c : Dev nD) (t : Fin cfg0.N) : (vdat m 0 c).after 4 t = iblk m c 4 t := rfl
theorem after_5 (c : Dev nD) (t : Fin cfg0.N) : (vdat m 0 c).after 5 t = iblk m c 5 t := rfl
theorem after_6 (c : Dev nD) (t : Fin cfg0.N) : (vdat m 0 c).after 6 t = iblk m c 6 t := rfl
theorem after_7 (c : Dev nD) (t : Fin cfg0.N) : (vdat m 0 c).after 7 t = iblk m c 7 t := rfl
theorem after_8 (c : Dev nD) (t : Fin cfg0.N) : (vdat m 0 c).after 8 t = iblk m c 8 t := rfl
theorem after_9 (c : Dev nD) (t : Fin cfg0.N) : (vdat m 0 c).after 9 t = iblk m c 9 t := rfl
theorem after_10 (c : Dev nD) (t : Fin cfg0.N) : (vdat m 0 c).after 10 t = iblk m c 10 t := rfl
theorem after_11 (c : Dev nD) (t : Fin cfg0.N) : (vdat m 0 c).after 11 t = yV m c t := rfl
/-- The windows whose contents are not stated. -/
theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = false := rfl
theorem fgt_7 : fgt 7 = false := rfl
theorem fgt_8 : fgt 8 = false := rfl
theorem fgt_9 : fgt 9 = false := rfl
theorem fgt_10 : fgt 10 = false := rfl
theorem fgt_11 : fgt 11 = false := rfl
theorem fgt_12 : fgt 12 = true := rfl
theorem fgt_13 : fgt 13 = true := rfl
theorem fgt_14 : fgt 14 = true := rfl
theorem fgt_15 : fgt 15 = true := rfl
theorem fgt_16 : fgt 16 = true := rfl
theorem fgt_17 : fgt 17 = true := rfl
/-- No window is idle at any point. -/
theorem idle_0 (x) : idle0 0 x = false := rfl
theorem idle_1 (x) : idle0 1 x = false := rfl
theorem idle_2 (x) : idle0 2 x = false := rfl
theorem idle_3 (x) : idle0 3 x = false := rfl
theorem idle_4 (x) : idle0 4 x = false := rfl
theorem idle_5 (x) : idle0 5 x = false := rfl
theorem idle_6 (x) : idle0 6 x = false := rfl
theorem idle_7 (x) : idle0 7 x = false := rfl
theorem idle_8 (x) : idle0 8 x = false := rfl
theorem idle_9 (x) : idle0 9 x = false := rfl
theorem idle_10 (x) : idle0 10 x = false := rfl
theorem idle_11 (x) : idle0 11 x = false := rfl
/-- What each input window holds before a point. -/
theorem bef_0 (c : Dev nD) (t : Fin cfg0.N) (d) : (vdat m 0 c).before 0 t d = iblk m c 0 t := before0_0_of m (vdat m 0 c) rfl (after_0 m c) t d
theorem bef_1 (c : Dev nD) (t : Fin cfg0.N) (d) : (vdat m 0 c).before 1 t d = iblk m c 1 t := before0_1_of m (vdat m 0 c) rfl (after_1 m c) t d
theorem bef_2 (c : Dev nD) (t : Fin cfg0.N) (d) : (vdat m 0 c).before 2 t d = iblk m c 2 t := before0_2_of m (vdat m 0 c) rfl (after_2 m c) t d
theorem bef_3 (c : Dev nD) (t : Fin cfg0.N) (d) : (vdat m 0 c).before 3 t d = iblk m c 3 t := before0_3_of m (vdat m 0 c) rfl (after_3 m c) t d
theorem bef_4 (c : Dev nD) (t : Fin cfg0.N) (d) : (vdat m 0 c).before 4 t d = iblk m c 4 t := before0_4_of m (vdat m 0 c) rfl (after_4 m c) t d
theorem bef_5 (c : Dev nD) (t : Fin cfg0.N) (d) : (vdat m 0 c).before 5 t d = iblk m c 5 t := before0_5_of m (vdat m 0 c) rfl (after_5 m c) t d
theorem bef_6 (c : Dev nD) (t : Fin cfg0.N) (d) : (vdat m 0 c).before 6 t d = iblk m c 6 t := before0_6_of m (vdat m 0 c) rfl (after_6 m c) t d
theorem bef_7 (c : Dev nD) (t : Fin cfg0.N) (d) : (vdat m 0 c).before 7 t d = iblk m c 7 t := before0_7_of m (vdat m 0 c) rfl (after_7 m c) t d
theorem bef_8 (c : Dev nD) (t : Fin cfg0.N) (d) : (vdat m 0 c).before 8 t d = iblk m c 8 t := before0_8_of m (vdat m 0 c) rfl (after_8 m c) t d
theorem bef_9 (c : Dev nD) (t : Fin cfg0.N) (d) : (vdat m 0 c).before 9 t d = iblk m c 9 t := before0_9_of m (vdat m 0 c) rfl (after_9 m c) t d
theorem bef_10 (c : Dev nD) (t : Fin cfg0.N) (d) : (vdat m 0 c).before 10 t d = iblk m c 10 t := before0_10_of m (vdat m 0 c) rfl (after_10 m c) t d

set_option backward.isDefEq.respectTransparency.types false in
/-- The body keeps what is claimed of every point. -/
theorem vbody (c : Dev nD) : BodyObligation (vdat m 0 c) (defs₀ (F := Ideal)) Variants.none () Set.univ fgt := fun t => by
  have hs : (vdat m 0 c).Φ t.succ = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ owns (c : Thread nD τ) (Memref.whole cc0_scratch7) fullShare (vdq0 m c)) ∗ (∃ r, prngReg c r)) := PhiS_pos m c t.succ.val (Nat.succ_ne_zero _)
  have b (w : Fin cfg0.W) : (vdat m 0 c).Φ t.castSucc = PhiS m c t.val := rfl
  rw [bigSep_W0, bigSep_W0, defs₀_row, hs, b 0]
  simp only [bef_0, bef_1, bef_2, bef_3, bef_4, bef_5, bef_6, bef_7, bef_8, bef_9, bef_10]
  by_cases h1 : k0_cond1 (grid0.coords t) = 1#1
  · have e := (cond1_iff t).mp h1
    have h2 : ¬ k0_cond2 (grid0.coords t) = 1#1 := fun h => by have := (cond2_iff t).mp h; omega
    rw [e, PhiS_zero, PhiA_eq]
    simp only [after_0, after_1, after_2, after_3, after_4, after_5, after_6, after_7, after_8, after_9, after_10, after_11, fgt_0, fgt_1, fgt_2, fgt_3, fgt_4, fgt_5, fgt_6, fgt_7, fgt_8, fgt_9, fgt_10, fgt_11, fgt_12, fgt_13, fgt_14, fgt_15, fgt_16, fgt_17, idle_0, idle_1, idle_2, idle_3, idle_4, idle_5, idle_6, idle_7, idle_8, idle_9, idle_10, idle_11]
    exact triple_restated (sound_first m c t h1 h2) rfl .rfl fun _ => .rfl
  · have e : t.val ≠ 0 := fun h => h1 ((cond1_iff t).mpr h)
    rw [PhiS_pos m c _ e]
    simp only [after_0, after_1, after_2, after_3, after_4, after_5, after_6, after_7, after_8, after_9, after_10, after_11, fgt_0, fgt_1, fgt_2, fgt_3, fgt_4, fgt_5, fgt_6, fgt_7, fgt_8, fgt_9, fgt_10, fgt_11, fgt_12, fgt_13, fgt_14, fgt_15, fgt_16, fgt_17, idle_0, idle_1, idle_2, idle_3, idle_4, idle_5, idle_6, idle_7, idle_8, idle_9, idle_10, idle_11]
    by_cases h2 : k0_cond2 (grid0.coords t) = 1#1
    · exact triple_restated (sound_last m c t h1 h2) rfl .rfl fun _ => .rfl
    · exact triple_restated (sound_mid m c t h1 h2) rfl .rfl fun _ => .rfl

theorem hin0 (c : Dev nD) : Pipeline.ΦA spec0 c ⊢ PhiS m c 0 := by rw [PhiS_zero]
theorem hout0 (c : Dev nD) : PhiS m c 128 ⊢ Pipeline.ΦA spec0 c := by
  rw [PhiS_pos m c 128 (by decide), PhiA_eq]
  iintro ⟨⟨H0, H1, H2, H3, H4, H5, H6, H7⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  iexact Hg

set_option backward.isDefEq.respectTransparency.types false in
/-- The launch's run, every array it names at its contents. -/
theorem vrun : θ_run defs (onTc (τ := τ) (main (F := Ideal))) (s₀ m ρ)
    (Pipeline.RDat.FramePost cfg0 (fun c => (vdat m 0 c).toRForget fgt) (V m)) :=
  Pipeline.θ_run_frame_track_forget cfgs (vdat m) (0 : Fin 1) launch0 defs₀ Variants.none fgt m ρ main
    (hbody := fun c => (vbody m c).loose) (hshare := fun c => (vdat m 0 c).share_full fun _ => rfl)
    (howed := fun _ _ => rfl) (V := V m) (hmain := hmain m Variants.none) (hA := vA_eq m) (hin := hin0 m) (hout := hout0 m)

/-- The attention of every sequence, one grid point each. -/
def yAll (c : Dev nD) : S128x64x64.Idx → EReal := fun j =>
  yV m c ⟨(j 0).val, (j 0).isLt⟩ (ix3 0 ⟨(j 1).val, (j 1).isLt⟩ ⟨(j 2).val, (j 2).isLt⟩)

theorem at11 : ∀ t : Fin cfg0.N, win0_11.index t 0 = t.val ∧ win0_11.index t 1 = 0 ∧ win0_11.index t 2 = 0 := by decide +kernel

theorem y_arr (c : Dev nD) : (vdat m 0 c).arrAt 11 cfg0.N = yAll m c := by
  refine (vdat m 0 c).arrAt_eq_of_covers 11 _ (by decide +kernel) fun t hf y => ?_
  obtain ⟨e0, e1, e2⟩ := at11 t
  blk_simp
  obtain ⟨i, j, k, rfl⟩ := ix3_surj (a := 1) (b := 64) (c := 64) y
  have e : ((cfg0.win 11).blk t).view.emb (ix3 i j k) = (ix3 ⟨t.val, t.isLt⟩ j k : S128x64x64.Idx) := by
    blk_ext <;> simp only [e0, e1, e2] <;> omega
  have ei : i = 0 := Fin.ext (by omega)
  subst ei
  refine Eq.trans ?_ (congrArg (yAll m c) e).symm
  rfl

end Cert.KernelIdeal.Val

end
-- ==== Proof.KIn.lean ====
/- What the kernel's blocks hold at a grid point, in terms of the arguments. -/
module

public import proofs.«01_k».proof.Proof.FrameIdeal
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

/-- Argument 0 as launched. -/
abbrev ar0 (m : (ℓ : Loc nD τ sig) → Buf (Elt Ideal) ℓ) (c : Dev nD) : S128x1x4096.Idx → EReal := m (c, Proc.tc.devRef main_arg0)
/-- Argument 1 as launched. -/
abbrev ar1 (m : (ℓ : Loc nD τ sig) → Buf (Elt Ideal) ℓ) (c : Dev nD) : S128x1x4x64.Idx → EReal := m (c, Proc.tc.devRef main_arg1)
/-- Argument 2 as launched. -/
abbrev ar2 (m : (ℓ : Loc nD τ sig) → Buf (Elt Ideal) ℓ) (c : Dev nD) : S128x1x4x64.Idx → EReal := m (c, Proc.tc.devRef main_arg2)
/-- Argument 3 as launched. -/
abbrev ar3 (m : (ℓ : Loc nD τ sig) → Buf (Elt Ideal) ℓ) (c : Dev nD) : S128x32768x4x32.Idx → BitVec 8 := m (c, Proc.tc.devRef main_arg3)
/-- Argument 4 as launched. -/
abbrev ar4 (m : (ℓ : Loc nD τ sig) → Buf (Elt Ideal) ℓ) (c : Dev nD) : S128x1024x4x64.Idx → EReal := m (c, Proc.tc.devRef main_arg4)
/-- Argument 5 as launched. -/
abbrev ar5 (m : (ℓ : Loc nD τ sig) → Buf (Elt Ideal) ℓ) (c : Dev nD) : S128x1024x4x64.Idx → EReal := m (c, Proc.tc.devRef main_arg5)
/-- Argument 6 as launched. -/
abbrev ar6 (m : (ℓ : Loc nD τ sig) → Buf (Elt Ideal) ℓ) (c : Dev nD) : S128x32768x4x32.Idx → BitVec 8 := m (c, Proc.tc.devRef main_arg6)
/-- Argument 7 as launched. -/
abbrev ar7 (m : (ℓ : Loc nD τ sig) → Buf (Elt Ideal) ℓ) (c : Dev nD) : S128x32768x4.Idx → EReal := m (c, Proc.tc.devRef main_arg7)
/-- Argument 8 as launched. -/
abbrev ar8 (m : (ℓ : Loc nD τ sig) → Buf (Elt Ideal) ℓ) (c : Dev nD) : S128x32768x4.Idx → EReal := m (c, Proc.tc.devRef main_arg8)
/-- Argument 9 as launched. -/
abbrev ar9 (m : (ℓ : Loc nD τ sig) → Buf (Elt Ideal) ℓ) (c : Dev nD) : S128x128x4x64.Idx → EReal := m (c, Proc.tc.devRef main_arg9)
/-- Argument 10 as launched. -/
abbrev ar10 (m : (ℓ : Loc nD τ sig) → Buf (Elt Ideal) ℓ) (c : Dev nD) : S128x128x4x64.Idx → EReal := m (c, Proc.tc.devRef main_arg10)

variable (m : (ℓ : Loc nD τ sig) → Buf (Elt Ideal) ℓ) (c : Dev nD)

theorem eye_one : FloatOps.uitofp (F := Ideal) FTy.bf16 (1#1) = (1 : EReal) := by
  show (((1#1 : BitVec 1).toNat : ℝ) : EReal) = 1
  norm_num
theorem eye_zero : FloatOps.uitofp (F := Ideal) FTy.bf16 (0#1) = (0 : EReal) := by
  show (((0#1 : BitVec 1).toNat : ℝ) : EReal) = 0
  norm_num

/-- One where two small numbers agree, else zero. -/
theorem eye_apply (a b : ℕ) (ha : a < 4) (hb : b < 4) :
    FloatOps.uitofp (F := Ideal) FTy.bf16 (IntOp.cmpi CmpIPredicate.eq (IntOp.addi (BitVec.ofNat 32 a) 0#32) (BitVec.ofNat 32 b)) = if a = b then (1 : EReal) else 0 := by
  interval_cases a <;> interval_cases b <;> first | exact eye_one | exact eye_zero

theorem at0 : ∀ t : Fin cfg0.N, win0_0.index t 0 = t.val ∧ win0_0.index t 1 = 0 ∧ win0_0.index t 2 = 0 := by decide +kernel

/-- A sequence's queries, each placed on its own key head's rows. -/
theorem in0 (t : Fin cfg0.N) (h : Fin 64) (r : Fin 256) : (iblk m c 0 t : S1x64x256.Idx → EReal) (ix3 0 h r) = ar0 m c (ix3 ⟨t.val, t.isLt⟩ 0 ⟨h.val / 16 * 1024 + h.val % 16 * 64 + r.val % 32 * 2 + r.val / 128, by omega⟩)
      * (if h.val / 16 = r.val / 32 % 4 then 1 else 0) := by
  obtain ⟨e0, e1, e2⟩ := at0 t
  have e : (iblk m c 0 t : S1x64x256.Idx → EReal) (ix3 0 h r) = (V m c main_v12 : S128x64x256.Idx → EReal) (ix3 ⟨t.val, t.isLt⟩ h r) := by
    blk_ext [iblk] <;> simp only [e0, e1, e2] <;> omega
  rw [e]
  entry_read
  pointwise
  refine congrArg₂ (· * ·) rfl ?_
  exact eye_apply _ _ (by omega) (by omega)

theorem at3 : ∀ t : Fin cfg0.N, win0_3.index t 0 = t.val ∧ win0_3.index t 1 = 0 ∧ win0_3.index t 2 = 0 ∧ win0_3.index t 3 = 0 := by decide +kernel

/-- The block of argument 3 at a grid point. -/
theorem in3 (t : Fin cfg0.N) (a : Fin 4) (d : Fin 32) (n : Fin 32768) : (iblk m c 3 t : S1x4x32x32768.Idx → BitVec 8) (ix4 0 a d n) = ar3 m c (ix4 ⟨t.val, t.isLt⟩ n a d) := by
  obtain ⟨e0, e1, e2, e3⟩ := at3 t
  have e : (iblk m c 3 t : S1x4x32x32768.Idx → BitVec 8) (ix4 0 a d n) = (V m c main_v17 : S128x4x32x32768.Idx → BitVec 8) (ix4 ⟨t.val, t.isLt⟩ a d n) := by
    blk_ext [iblk] <;> simp only [e0, e1, e2, e3] <;> omega
  rw [e]
  entry_read
  pointwise

theorem at4 : ∀ t : Fin cfg0.N, win0_4.index t 0 = t.val ∧ win0_4.index t 1 = 0 ∧ win0_4.index t 2 = 0 ∧ win0_4.index t 3 = 0 := by decide +kernel

/-- The block of argument 4 at a grid point. -/
theorem in4 (t : Fin cfg0.N) (a : Fin 4) (d : Fin 64) (n : Fin 1024) : (iblk m c 4 t : S1x4x64x1024.Idx → EReal) (ix4 0 a d n) = ar4 m c (ix4 ⟨t.val, t.isLt⟩ n a d) := by
  obtain ⟨e0, e1, e2, e3⟩ := at4 t
  have e : (iblk m c 4 t : S1x4x64x1024.Idx → EReal) (ix4 0 a d n) = (V m c main_v18 : S128x4x64x1024.Idx → EReal) (ix4 ⟨t.val, t.isLt⟩ a d n) := by
    blk_ext [iblk] <;> simp only [e0, e1, e2, e3] <;> omega
  rw [e]
  entry_read
  pointwise

theorem at5 : ∀ t : Fin cfg0.N, win0_5.index t 0 = t.val ∧ win0_5.index t 1 = 0 ∧ win0_5.index t 2 = 0 ∧ win0_5.index t 3 = 0 := by decide +kernel

/-- The block of argument 5 at a grid point. -/
theorem in5 (t : Fin cfg0.N) (a : Fin 4) (d : Fin 64) (n : Fin 1024) : (iblk m c 5 t : S1x4x64x1024.Idx → EReal) (ix4 0 a d n) = ar5 m c (ix4 ⟨t.val, t.isLt⟩ n a d) := by
  obtain ⟨e0, e1, e2, e3⟩ := at5 t
  have e : (iblk m c 5 t : S1x4x64x1024.Idx → EReal) (ix4 0 a d n) = (V m c main_v19 : S128x4x64x1024.Idx → EReal) (ix4 ⟨t.val, t.isLt⟩ a d n) := by
    blk_ext [iblk] <;> simp only [e0, e1, e2, e3] <;> omega
  rw [e]
  entry_read
  pointwise

theorem at6 : ∀ t : Fin cfg0.N, win0_6.index t 0 = t.val ∧ win0_6.index t 1 = 0 ∧ win0_6.index t 2 = 0 ∧ win0_6.index t 3 = 0 := by decide +kernel

/-- The block of argument 6 at a grid point. -/
theorem in6 (t : Fin cfg0.N) (a : Fin 4) (d : Fin 32) (n : Fin 32768) : (iblk m c 6 t : S1x4x32x32768.Idx → BitVec 8) (ix4 0 a d n) = ar6 m c (ix4 ⟨t.val, t.isLt⟩ n a d) := by
  obtain ⟨e0, e1, e2, e3⟩ := at6 t
  have e : (iblk m c 6 t : S1x4x32x32768.Idx → BitVec 8) (ix4 0 a d n) = (V m c main_v20 : S128x4x32x32768.Idx → BitVec 8) (ix4 ⟨t.val, t.isLt⟩ a d n) := by
    blk_ext [iblk] <;> simp only [e0, e1, e2, e3] <;> omega
  rw [e]
  entry_read
  pointwise

theorem at7 : ∀ t : Fin cfg0.N, win0_7.index t 0 = t.val ∧ win0_7.index t 1 = 0 ∧ win0_7.index t 2 = 0 := by decide +kernel

/-- The block of argument 7 at a grid point. -/
theorem in7 (t : Fin cfg0.N) (a : Fin 4) (n : Fin 32768) : (iblk m c 7 t : S1x4x32768.Idx → EReal) (ix3 0 a n) = ar7 m c (ix3 ⟨t.val, t.isLt⟩ n a) := by
  obtain ⟨e0, e1, e2⟩ := at7 t
  have e : (iblk m c 7 t : S1x4x32768.Idx → EReal) (ix3 0 a n) = (V m c main_v21 : S128x4x32768.Idx → EReal) (ix3 ⟨t.val, t.isLt⟩ a n) := by
    blk_ext [iblk] <;> simp only [e0, e1, e2] <;> omega
  rw [e]
  entry_read
  pointwise

theorem at8 : ∀ t : Fin cfg0.N, win0_8.index t 0 = t.val ∧ win0_8.index t 1 = 0 ∧ win0_8.index t 2 = 0 := by decide +kernel

/-- The block of argument 8 at a grid point. -/
theorem in8 (t : Fin cfg0.N) (a : Fin 4) (n : Fin 32768) : (iblk m c 8 t : S1x4x32768.Idx → EReal) (ix3 0 a n) = ar8 m c (ix3 ⟨t.val, t.isLt⟩ n a) := by
  obtain ⟨e0, e1, e2⟩ := at8 t
  have e : (iblk m c 8 t : S1x4x32768.Idx → EReal) (ix3 0 a n) = (V m c main_v22 : S128x4x32768.Idx → EReal) (ix3 ⟨t.val, t.isLt⟩ a n) := by
    blk_ext [iblk] <;> simp only [e0, e1, e2] <;> omega
  rw [e]
  entry_read
  pointwise

theorem at9 : ∀ t : Fin cfg0.N, win0_9.index t 0 = t.val ∧ win0_9.index t 1 = 0 ∧ win0_9.index t 2 = 0 ∧ win0_9.index t 3 = 0 := by decide +kernel

/-- The block of argument 9 at a grid point. -/
theorem in9 (t : Fin cfg0.N) (a : Fin 4) (d : Fin 64) (n : Fin 128) : (iblk m c 9 t : S1x4x64x128.Idx → EReal) (ix4 0 a d n) = ar9 m c (ix4 ⟨t.val, t.isLt⟩ n a d) := by
  obtain ⟨e0, e1, e2, e3⟩ := at9 t
  have e : (iblk m c 9 t : S1x4x64x128.Idx → EReal) (ix4 0 a d n) = (V m c main_v23 : S128x4x64x128.Idx → EReal) (ix4 ⟨t.val, t.isLt⟩ a d n) := by
    blk_ext [iblk] <;> simp only [e0, e1, e2, e3] <;> omega
  rw [e]
  entry_read
  pointwise

theorem at10 : ∀ t : Fin cfg0.N, win0_10.index t 0 = t.val ∧ win0_10.index t 1 = 0 ∧ win0_10.index t 2 = 0 ∧ win0_10.index t 3 = 0 := by decide +kernel

/-- The block of argument 10 at a grid point. -/
theorem in10 (t : Fin cfg0.N) (a : Fin 4) (d : Fin 64) (n : Fin 128) : (iblk m c 10 t : S1x4x64x128.Idx → EReal) (ix4 0 a d n) = ar10 m c (ix4 ⟨t.val, t.isLt⟩ n a d) := by
  obtain ⟨e0, e1, e2, e3⟩ := at10 t
  have e : (iblk m c 10 t : S1x4x64x128.Idx → EReal) (ix4 0 a d n) = (V m c main_v24 : S128x4x64x128.Idx → EReal) (ix4 ⟨t.val, t.isLt⟩ a d n) := by
    blk_ext [iblk] <;> simp only [e0, e1, e2, e3] <;> omega
  rw [e]
  entry_read
  pointwise

/-- The block of argument 1, the same at every grid point. -/
theorem new1 (a : Fin 256) (b : Fin 128) : (V m c main_v14 : S256x128.Idx → EReal) (ix2 a b) = ar1 m c (ix4 b 0 ⟨a.val / 64, by omega⟩ ⟨a.val % 64, by omega⟩) := by
  entry_read
  pointwise

/-- The block of argument 2, the same at every grid point. -/
theorem new2 (a : Fin 256) (b : Fin 128) : (V m c main_v16 : S256x128.Idx → EReal) (ix2 a b) = ar2 m c (ix4 b 0 ⟨a.val / 64, by omega⟩ ⟨a.val % 64, by omega⟩) := by
  entry_read
  pointwise

theorem at1 : ∀ t : Fin cfg0.N, win0_1.index t 0 = 0 ∧ win0_1.index t 1 = 0 := by decide +kernel
theorem in1 (t : Fin cfg0.N) (a : Fin 256) (b : Fin 128) : (iblk m c 1 t : S256x128.Idx → EReal) (ix2 a b) = ar1 m c (ix4 b 0 ⟨a.val / 64, by omega⟩ ⟨a.val % 64, by omega⟩) := by
  obtain ⟨e0, e1⟩ := at1 t
  have e : (iblk m c 1 t : S256x128.Idx → EReal) (ix2 a b) = (V m c main_v14 : S256x128.Idx → EReal) (ix2 a b) := by
    blk_ext [iblk] <;> simp only [e0, e1] <;> omega
  rw [e, new1]

end Cert.KernelIdeal.Val

end
-- ==== Proof.Spec.lean ====
/- The attention of one sequence over its quantised cache, in plain terms of the arguments: what the kernel's
   launch and the reference are both shown to compute. -/
module

public import proofs.«01_k».proof.Proof.Stage

@[expose] public section

set_option maxRecDepth 16384

noncomputable section

namespace Cert.KernelIdeal.Val

open Idealize.ShloMosaic Idealize.ShloMosaic.TcCoe
open Cert.KernelIdeal Cert.KernelIdeal.Gen

/-- A quantised entry read back: its code times the step, plus the zero. -/
def requant (v lo hi : EReal) : EReal := qcode v lo (qstep lo hi) * qstep lo hi + lo

section
variable (a0 : S128x1x4096.Idx → EReal) (a1 a2 : S128x1x4x64.Idx → EReal) (a3 : S128x32768x4x32.Idx → BitVec 8) (a4 a5 : S128x1024x4x64.Idx → EReal)
  (a6 : S128x32768x4x32.Idx → BitVec 8) (a7 a8 : S128x32768x4.Idx → EReal) (a9 a10 : S128x128x4x64.Idx → EReal)

/-- The new key, quantised with the range of its channel's last 31 tail entries and itself, read back. -/
def knewS (b : Fin 128) (k : Fin 4) (d : Fin 64) : EReal :=
  requant (a1 (ix4 b 0 k d)) (wlo (fun x => a9 (ix4 b x k d)) (a1 (ix4 b 0 k d))) (whi (fun x => a9 (ix4 b x k d)) (a1 (ix4 b 0 k d)))

/-- The new value, quantised with the range of its head, read back. -/
def vnewS (b : Fin 128) (k : Fin 4) (d : Fin 64) : EReal :=
  requant (a2 (ix4 b 0 k d)) (Finset.univ.inf fun e : Fin 64 => a2 (ix4 b 0 k e)) (Finset.univ.sup fun e : Fin 64 => a2 (ix4 b 0 k e))

/-- The keys of a channel by position: the quantised cache, the tail, the new key. -/
def keyS (b : Fin 128) (k : Fin 4) (d : Fin 64) : ℕ → EReal :=
  allOf (fun n => nibv (d.val % 2) (a3 (ix4 b (past n) k ⟨d.val / 2, by omega⟩)) * a4 (ix4 b ⟨(past n).val / 32, by omega⟩ k d) + a5 (ix4 b ⟨(past n).val / 32, by omega⟩ k d))
    (fun j => a9 (ix4 b j k d)) (knewS a1 a9 b k d)

/-- The values of a channel by position: the quantised cache, the tail, the new value. -/
def valS (b : Fin 128) (k : Fin 4) (d : Fin 64) : ℕ → EReal :=
  allOf (fun n => nibv (d.val % 2) (a6 (ix4 b (past n) k ⟨d.val / 2, by omega⟩)) * a7 (ix3 b (past n) k) + a8 (ix3 b (past n) k))
    (fun j => a10 (ix4 b j k d)) (vnewS a2 b k d)

/-- A head's score at a position, before its scale. -/
def scoreS (b : Fin 128) (h : Fin 64) (n : ℕ) : EReal :=
  ∑ d : Fin 64, a0 (ix3 b 0 ⟨h.val * 64 + d.val, by omega⟩) * keyS a1 a3 a4 a5 a9 b ⟨h.val / 16, by omega⟩ d n

/-- The attention of a head at a channel. -/
def attnS (b : Fin 128) (h d : Fin 64) : EReal :=
  attn (scoreS a0 a1 a3 a4 a5 a9 b h) (valS a2 a6 a7 a8 a10 b ⟨h.val / 16, by omega⟩ d)
end

/-- A head's queries lie on its own key head's rows, so a sum over all rows is one over the head's channels. -/
theorem row_sum (h : Fin 64) (g F : Fin 256 → EReal) :
    ∑ r : Fin 256, (g r * (if h.val / 16 = r.val / 32 % 4 then 1 else 0)) * F r = ∑ d : Fin 64, g (rowOf h d) * F (rowOf h d) := by
  symm
  refine Finset.sum_of_injOn (rowOf h) ?_ (fun _ _ => Finset.mem_univ _) ?_ ?_
  · intro d _ d' _ e
    have e' : d.val % 2 * 128 + h.val / 16 * 32 + d.val / 2 = d'.val % 2 * 128 + h.val / 16 * 32 + d'.val / 2 := congrArg Fin.val e
    exact Fin.ext (by omega)
  · intro r _ hr
    by_cases e : h.val / 16 = r.val / 32 % 4
    · exact absurd ⟨⟨2 * (r.val % 32) + r.val / 128, by omega⟩, Finset.mem_coe.mpr (Finset.mem_univ _), Fin.ext (by
        have hr := r.isLt
        have e1 : (2 * (r.val % 32) + r.val / 128) % 2 = r.val / 128 := by omega
        have e2 : (2 * (r.val % 32) + r.val / 128) / 2 = r.val % 32 := by omega
        show (2 * (r.val % 32) + r.val / 128) % 2 * 128 + h.val / 16 * 32 + (2 * (r.val % 32) + r.val / 128) / 2 = r.val
        rw [e1, e2, e]
        omega)⟩ hr
    · rw [if_neg e, mul_zero, zero_mul]
  · intro d _
    have e : h.val / 16 = (rowOf h d).val / 32 % 4 := by
      have e1 : (d.val % 2 * 128 + h.val / 16 * 32 + d.val / 2) / 32 = d.val % 2 * 4 + h.val / 16 := by omega
      show h.val / 16 = (d.val % 2 * 128 + h.val / 16 * 32 + d.val / 2) / 32 % 4
      rw [e1]
      omega
    show _ = (g (rowOf h d) * (if h.val / 16 = (rowOf h d).val / 32 % 4 then 1 else 0)) * F (rowOf h d)
    rw [if_pos e, mul_one]

/-- The scale is a positive real. -/
theorem sub_scale (x y : EReal) : (x - y) * Ideal.ofBits FTy.f32 1040187392#32 = x * Ideal.ofBits FTy.f32 1040187392#32 - y * Ideal.ofBits FTy.f32 1040187392#32 := by
  rw [ceighth]
  have hp : (0 : ℝ) < 1 / 8 := by norm_num
  induction x using EReal.rec <;> induction y using EReal.rec
  case coe.coe a b =>
    rw [← EReal.coe_sub, ← EReal.coe_mul, ← EReal.coe_mul, ← EReal.coe_mul, ← EReal.coe_sub]
    congr 1
    ring
  case top.coe a =>
    rw [EReal.top_sub_coe, EReal.top_mul_coe_of_pos hp, ← EReal.coe_mul, EReal.top_sub_coe]
  case coe.top a =>
    rw [EReal.top_mul_coe_of_pos hp, ← EReal.coe_mul]
    simp only [sub_eq_add_neg, EReal.neg_top, EReal.add_bot, EReal.bot_mul_coe_of_pos hp]
  case coe.bot a =>
    rw [EReal.bot_mul_coe_of_pos hp, ← EReal.coe_mul]
    simp only [sub_eq_add_neg, EReal.neg_bot, EReal.coe_add_top, EReal.top_mul_coe_of_pos hp]
  all_goals simp only [sub_eq_add_neg, EReal.neg_top, EReal.neg_bot, EReal.bot_add, EReal.add_bot, EReal.top_add_top, EReal.top_mul_coe_of_pos hp, EReal.bot_mul_coe_of_pos hp]

/-- The greatest scaled score is the greatest score scaled. -/
theorem top_scale (s : ℕ → EReal) : (Finset.range 32897).sup (fun n => s n * Ideal.ofBits FTy.f32 1040187392#32) = topOf s * Ideal.ofBits FTy.f32 1040187392#32 := by
  have hp : (0 : ℝ) < 1 / 8 := by norm_num
  refine (Finset.comp_sup_eq_sup_comp_of_is_total (fun x => x * Ideal.ofBits FTy.f32 1040187392#32) ?_ ?_).symm
  · intro x y h
    exact mul_le_mul_of_nonneg_right h cpos.le
  · show (⊥ : EReal) * _ = ⊥
    rw [ceighth, EReal.bot_mul_coe_of_pos hp]

end Cert.KernelIdeal.Val

end
-- ==== Proof.KEq.lean ====
/- The attention a grid point leaves is the attention of its sequence. -/
module

public import proofs.«01_k».proof.Proof.KIn
public import proofs.«01_k».proof.Proof.Spec

@[expose] public section

set_option maxRecDepth 16384

noncomputable section

namespace Cert.KernelIdeal.Val

open Idealize.ShloMosaic Idealize.ShloMosaic.TcCoe
open Cert.KernelIdeal Cert.KernelIdeal.Gen

/-- The row of a head's channel: its key head, its byte and its half, read off. -/
theorem row_parts (h d : ℕ) (hh : h < 64) (hd : d < 64) :
    (d % 2 * 128 + h / 16 * 32 + d / 2) % 128 = h / 16 * 32 + d / 2 ∧ (h / 16 * 32 + d / 2) / 32 = h / 16 ∧ (d % 2 * 128 + h / 16 * 32 + d / 2) % 32 = d / 2
      ∧ (d % 2 * 128 + h / 16 * 32 + d / 2) / 128 = d % 2 ∧ (d % 2 * 128 + h / 16 * 32 + d / 2) / 32 % 4 = h / 16 ∧ 2 * (d / 2) + d % 2 = d := by
  refine ⟨by omega, by omega, by omega, by omega, ?_, by omega⟩
  have e : (d % 2 * 128 + h / 16 * 32 + d / 2) / 32 = d % 2 * 4 + h / 16 := by omega
  rw [e]
  omega

variable (m : (ℓ : Loc nD τ sig) → Buf (Elt Ideal) ℓ) (c : Dev nD) (t : Fin cfg0.N) (h d : Fin 64)

/-- Block 0 at a point. -/
abbrev bk0 : S1x64x256.Idx → EReal := iblk m c 0 t
/-- Block 1 at a point. -/
abbrev bk1 : S256x128.Idx → EReal := iblk m c 1 t
/-- Block 3 at a point. -/
abbrev bk3 : S1x4x32x32768.Idx → BitVec 8 := iblk m c 3 t
/-- Block 4 at a point. -/
abbrev bk4 : S1x4x64x1024.Idx → EReal := iblk m c 4 t
/-- Block 5 at a point. -/
abbrev bk5 : S1x4x64x1024.Idx → EReal := iblk m c 5 t
/-- Block 6 at a point. -/
abbrev bk6 : S1x4x32x32768.Idx → BitVec 8 := iblk m c 6 t
/-- Block 7 at a point. -/
abbrev bk7 : S1x4x32768.Idx → EReal := iblk m c 7 t
/-- Block 8 at a point. -/
abbrev bk8 : S1x4x32768.Idx → EReal := iblk m c 8 t
/-- Block 9 at a point. -/
abbrev bk9 : S1x4x64x128.Idx → EReal := iblk m c 9 t
/-- Block 10 at a point. -/
abbrev bk10 : S1x4x64x128.Idx → EReal := iblk m c 10 t
/-- The new values of all sequences. -/
abbrev nv : S256x128.Idx → EReal := V m c main_v16

theorem S5_row4 (g : Fin 1024) : S5 (bk4 m c t) g (rowOf h d) = ar4 m c (ix4 ⟨t.val, t.isLt⟩ g ⟨h.val / 16, by omega⟩ d) := by
  unfold S5
  simp only [row_parts _ _ h.isLt d.isLt]
  exact in4 m c t _ _ _

theorem S5_row5 (g : Fin 1024) : S5 (bk5 m c t) g (rowOf h d) = ar5 m c (ix4 ⟨t.val, t.isLt⟩ g ⟨h.val / 16, by omega⟩ d) := by
  unfold S5
  simp only [row_parts _ _ h.isLt d.isLt]
  exact in5 m c t _ _ _

/-- A past key. -/
theorem kd_row (n : Fin 32768) : kd (bk3 m c t) (S5 (bk4 m c t)) (S5 (bk5 m c t)) n (rowOf h d)
    = nibv (d.val % 2) (ar3 m c (ix4 ⟨t.val, t.isLt⟩ n ⟨h.val / 16, by omega⟩ ⟨d.val / 2, by omega⟩)) * ar4 m c (ix4 ⟨t.val, t.isLt⟩ ⟨n.val / 32, by omega⟩ ⟨h.val / 16, by omega⟩ d)
      + ar5 m c (ix4 ⟨t.val, t.isLt⟩ ⟨n.val / 32, by omega⟩ ⟨h.val / 16, by omega⟩ d) := by
  unfold kd
  rw [S5_row4, S5_row5]
  simp only [row_parts _ _ h.isLt d.isLt]
  exact congrArg₂ (· + ·) (congrArg₂ (· * ·) (congrArg (nibv _) (in3 m c t _ _ _)) rfl) rfl

/-- A past value. -/
theorem vd_row (n : ℕ) : vd (bk6 m c t) (bk7 m c t) (bk8 m c t) n (rowOf h d)
    = nibv (d.val % 2) (ar6 m c (ix4 ⟨t.val, t.isLt⟩ (past n) ⟨h.val / 16, by omega⟩ ⟨d.val / 2, by omega⟩)) * ar7 m c (ix3 ⟨t.val, t.isLt⟩ (past n) ⟨h.val / 16, by omega⟩)
      + ar8 m c (ix3 ⟨t.val, t.isLt⟩ (past n) ⟨h.val / 16, by omega⟩) := by
  unfold vd
  simp only [row_parts _ _ h.isLt d.isLt]
  exact congrArg₂ (· + ·) (congrArg₂ (· * ·) (congrArg (nibv _) (in6 m c t _ _ _)) (in7 m c t _ _)) (in8 m c t _ _)

/-- A tail key. -/
theorem pl_row9 (j : Fin 128) : pl (bk9 m c t) (rowOf h d) j = ar9 m c (ix4 ⟨t.val, t.isLt⟩ j ⟨h.val / 16, by omega⟩ d) := by
  unfold pl
  simp only [row_parts _ _ h.isLt d.isLt]
  exact in9 m c t _ _ _

/-- A tail value. -/
theorem pl_row10 (j : Fin 128) : pl (bk10 m c t) (rowOf h d) j = ar10 m c (ix4 ⟨t.val, t.isLt⟩ j ⟨h.val / 16, by omega⟩ d) := by
  unfold pl
  simp only [row_parts _ _ h.isLt d.isLt]
  exact in10 m c t _ _ _

theorem coord_val : ∀ t : Fin cfg0.N, (grid0.coords t 0).val = t.val := by decide +kernel

theorem new_row (h d : ℕ) (hh : h < 64) (hd : d < 64) : (2 * (h / 16 * 32 + d / 2) + d % 2) / 64 = h / 16 ∧ (2 * (h / 16 * 32 + d / 2) + d % 2) % 64 = d := by
  have e : 2 * (h / 16 * 32 + d / 2) + d % 2 = h / 16 * 64 + d := by omega
  rw [e]
  omega

theorem pay53_row : k0_pay53 (F := Ideal) (grid0.coords t) (bk1 m c t) (ix2 (rowOf h d) 0) = ar1 m c (ix4 ⟨t.val, t.isLt⟩ 0 ⟨h.val / 16, by omega⟩ d) := by
  rw [pay53_apply]
  refine (in1 m c t _ _).trans ?_
  simp only [coord_val, row_parts _ _ h.isLt d.isLt, new_row _ _ h.isLt d.isLt]

theorem pay52_row (j : Fin 128) : k0_pay52 (F := Ideal) (bk9 m c t) (ix2 (rowOf h d) j) = ar9 m c (ix4 ⟨t.val, t.isLt⟩ j ⟨h.val / 16, by omega⟩ d) := by
  rw [pay52_apply]
  exact pl_row9 m c t h d j

/-- The new key. -/
theorem kdq_row : kdq (grid0.coords t) (bk1 m c t) (bk9 m c t) (rowOf h d) = knewS (ar1 m c) (ar9 m c) ⟨t.val, t.isLt⟩ ⟨h.val / 16, by omega⟩ d := by
  unfold kdq kloV
  rw [pay58_apply, pay55_apply]
  simp only [pay52_row, pay53_row]
  rfl

/-- The new value. -/
theorem vdq_row : k0_pay7 (F := Ideal) (nv m c) (ix2 (rowOf h d) ⟨t.val, t.isLt⟩) = vnewS (ar2 m c) ⟨t.val, t.isLt⟩ ⟨h.val / 16, by omega⟩ d := by
  rw [pay7_apply, pay6_apply, pay5_apply, pay4_apply]
  simp only [row_parts _ _ h.isLt d.isLt]
  have e (x : Fin 64) : nv m c (ix2 ⟨64 * (h.val / 16) + x.val, by omega⟩ ⟨t.val, t.isLt⟩) = ar2 m c (ix4 ⟨t.val, t.isLt⟩ 0 ⟨h.val / 16, by omega⟩ x) := by
    refine (new2 m c _ _).trans ?_
    have e1 : (64 * (h.val / 16) + x.val) / 64 = h.val / 16 := by omega
    have e2 : (64 * (h.val / 16) + x.val) % 64 = x.val := by omega
    simp only [e1, e2]
  have e3 : 64 * (h.val / 16) + 2 * (d.val / 2) + d.val % 2 = 64 * (h.val / 16) + d.val := by omega
  simp only [e3]
  unfold vnewS requant
  rw [e d, Finset.inf_congr rfl fun x _ => e x, Finset.sup_congr rfl fun x _ => e x]

/-- The query of a head's channel. -/
theorem q_sum (F : Fin 256 → EReal) : ∑ r : Fin 256, bk0 m c t (ix3 0 h r) * F r
    = ∑ d : Fin 64, ar0 m c (ix3 ⟨t.val, t.isLt⟩ 0 ⟨h.val * 64 + d.val, by omega⟩) * F (rowOf h d) := by
  rw [Finset.sum_congr rfl fun r _ => congrArg (· * F r) (in0 m c t h r)]
  refine (row_sum h (fun r => ar0 m c (ix3 ⟨t.val, t.isLt⟩ 0 ⟨h.val / 16 * 1024 + h.val % 16 * 64 + r.val % 32 * 2 + r.val / 128, by omega⟩)) F).trans ?_
  refine Finset.sum_congr rfl fun d _ => ?_
  have e : h.val / 16 * 1024 + h.val % 16 * 64 + d.val / 2 * 2 + d.val % 2 = h.val * 64 + d.val := by omega
  simp only [row_parts _ _ h.isLt d.isLt, e]

/-- A head's scores at a point. -/
theorem score_row : allOf (scrN (bk3 m c t) (S5 (bk4 m c t)) (S5 (bk5 m c t)) (k0_pay45 (F := Ideal) (bk0 m c t)) h)
      (fun j => ∑ r : Fin 256, bk0 m c t (ix3 0 h r) * pl (bk9 m c t) r j)
      (∑ r : Fin 256, bk0 m c t (ix3 0 h r) * kdq (grid0.coords t) (bk1 m c t) (bk9 m c t) r)
    = scoreS (ar0 m c) (ar1 m c) (ar3 m c) (ar4 m c) (ar5 m c) (ar9 m c) ⟨t.val, t.isLt⟩ h := by
  funext n
  unfold scoreS keyS allOf
  split
  · unfold scrN scr
    simp only [pay45_apply]
    refine (q_sum m c t h _).trans ?_
    simp only [kd_row]
  · split
    · refine (q_sum m c t h _).trans ?_
      simp only [pl_row9]
    · refine (q_sum m c t h _).trans ?_
      simp only [kdq_row]

/-- The attention a point leaves is its sequence's. -/
theorem point_attn : yW (grid0.coords t) (bk0 m c t) (bk1 m c t) (bk3 m c t) (bk4 m c t) (bk5 m c t) (bk6 m c t) (bk7 m c t) (bk8 m c t)
      (bk9 m c t) (bk10 m c t) (k0_pay7 (F := Ideal) (nv m c)) (ix3 0 h d)
    = attnS (ar0 m c) (ar1 m c) (ar2 m c) (ar3 m c) (ar4 m c) (ar5 m c) (ar6 m c) (ar7 m c) (ar8 m c) (ar9 m c) (ar10 m c) ⟨t.val, t.isLt⟩ h d := by
  unfold yW attnS
  refine congrArg₂ attn (score_row m c t h) ?_
  unfold valS
  have e1 : (fun n => vd (bk6 m c t) (bk7 m c t) (bk8 m c t) n (rowOf h d)) = _ := funext (vd_row m c t h d)
  have e2 : pl (bk10 m c t) (rowOf h d) = _ := funext (pl_row10 m c t h d)
  have e3 := vdq_row m c t h d
  have e4 : (⟨(grid0.coords t 0).val, (grid0.coords t 0).isLt⟩ : Fin 128) = ⟨t.val, t.isLt⟩ := Fin.ext (coord_val t)
  rw [← e1, ← e2, ← e3, ← e4]
  rfl

end Cert.KernelIdeal.Val

end
-- ==== Proof.RefCode.lean ====
/- A quantiser's code is one of sixteen whole numbers, so packing two codes into a byte and reading them back loses
   nothing. -/
module

public import proofs.«01_k».proof.Proof.Spec

@[expose] public section

set_option maxRecDepth 16384

noncomputable section

namespace Cert.KernelIdeal.Val

open Idealize.ShloMosaic Idealize.ShloMosaic.TcCoe
open Cert.KernelIdeal Cert.KernelIdeal.Gen

/-- Fifteen, as its pattern. -/
theorem fifteen : Ideal.ofBits FTy.f32 1097859072#32 = ((15 : ℝ) : EReal) := by
  simp [Ideal.ofBits, Ideal.ieee]
  rw [← EReal.coe_mul]
  norm_num

/-- A code is a whole number from 0 to 15. -/
theorem qcode_nat (v lo sc : EReal) : ∃ n : Fin 16, qcode v lo sc = ((n.val : ℝ) : EReal) := by
  unfold qcode
  rw [fifteen]
  have h : ∀ x : EReal, ∃ n : Fin 16, min ((15 : ℝ) : EReal) (max 0 (Ideal.liftRound Ideal.roundHalfEven x)) = ((n.val : ℝ) : EReal) := by
    intro x
    induction x using EReal.rec with
    | bot => exact ⟨0, by rw [Ideal.liftRound_bot, max_eq_left bot_le]; norm_num⟩
    | top => exact ⟨15, by rw [Ideal.liftRound_top, max_eq_right le_top, min_eq_left le_top]; norm_num⟩
    | coe r =>
      rw [Ideal.liftRound_coe]
      generalize Ideal.roundHalfEven r = z
      refine ⟨⟨(min 15 (max 0 z)).toNat, by omega⟩, ?_⟩
      have e : (((min 15 (max 0 z)).toNat : ℕ) : ℝ) = ((min 15 (max 0 z) : ℤ) : ℝ) := by
        rw [← Int.cast_natCast, Int.toNat_of_nonneg (by omega)]
      show _ = ((((min 15 (max 0 z)).toNat : ℕ) : ℝ) : EReal)
      rw [e, Int.cast_min, Int.cast_max, EReal.coe_strictMono.monotone.map_min, EReal.coe_strictMono.monotone.map_max]
      norm_num
  exact h _

/-- A code as a machine integer. -/
theorem code_int (n : Fin 16) : FloatOps.fptosi (F := Ideal) (φ := .f32) 32 (((n.val : ℝ) : EReal)) = BitVec.ofNat 32 n.val := by
  show Ideal.fptosi 32 _ = _
  unfold Ideal.fptosi
  rw [show ((n.val : ℝ) : EReal) = (((n.val : ℤ) : ℝ) : EReal) by norm_num]
  rw [Ideal.toIntClamped_coe]
  rw [Int.floor_intCast, Int.ceil_intCast, ite_self]
  revert n; decide +kernel

/-- Two codes packed in a byte: the low nibble is the first. -/
theorem pack_lo : ∀ a b : Fin 16, IntOp.andi (BitVec.setWidth 32 (BitVec.setWidth 8 (IntOp.ori (BitVec.ofNat 32 a.val) (IntOp.shli ArithUnit.host (BitVec.ofNat 32 b.val) 4#32)))) 15#32 = BitVec.ofNat 32 a.val := by
  have h : ∀ a b : Fin 16, (BitVec.setWidth 32 (BitVec.setWidth 8 (BitVec.ofNat 32 a.val ||| BitVec.ofNat 32 b.val <<< 4#32))) &&& 15#32 = BitVec.ofNat 32 a.val := by decide +kernel
  exact h

/-- Two codes packed in a byte: the high nibble is the second. -/
theorem pack_hi : ∀ a b : Fin 16, IntOp.shrui ArithUnit.host (BitVec.setWidth 32 (BitVec.setWidth 8 (IntOp.ori (BitVec.ofNat 32 a.val) (IntOp.shli ArithUnit.host (BitVec.ofNat 32 b.val) 4#32)))) 4#32 = BitVec.ofNat 32 b.val := by
  have h : ∀ a b : Fin 16, (BitVec.setWidth 32 (BitVec.setWidth 8 (BitVec.ofNat 32 a.val ||| BitVec.ofNat 32 b.val <<< 4#32))) >>> 4#32 = BitVec.ofNat 32 b.val := by decide +kernel
  exact h

theorem code_float (n : Fin 16) : FloatOps.sitofp (F := Ideal) FTy.f32 (BitVec.ofNat 32 n.val) = ((n.val : ℝ) : EReal) := by
  show (((BitVec.ofNat 32 n.val).toInt : ℝ) : EReal) = _
  have : ∀ n : Fin 16, (BitVec.ofNat 32 n.val).toInt = (n.val : ℤ) := by decide +kernel
  rw [this]
  norm_num

/-- Packing two codes and reading one back gives that code. -/
theorem pack_read (p : ℕ) (x y : EReal) (hx : ∃ n : Fin 16, x = ((n.val : ℝ) : EReal)) (hy : ∃ n : Fin 16, y = ((n.val : ℝ) : EReal)) (w : BitVec 32)
    (hw : w = BitVec.setWidth 32 (BitVec.setWidth 8 (IntOp.ori (FloatOps.fptosi (F := Ideal) (φ := .f32) 32 x) (IntOp.shli ArithUnit.host (FloatOps.fptosi (F := Ideal) (φ := .f32) 32 y) 4#32)))) :
    FloatOps.sitofp (F := Ideal) FTy.f32 (if p < 1 then IntOp.andi w 15#32 else IntOp.shrui ArithUnit.host w 4#32) = if p < 1 then x else y := by
  obtain ⟨a, rfl⟩ := hx
  obtain ⟨b, rfl⟩ := hy
  rw [hw, code_int, code_int]
  split
  · rw [pack_lo, code_float]
  · rw [pack_hi, code_float]

/-- A stored byte's nibble, read at 32 bits. -/
theorem nib_read (p : ℕ) (hp : p < 2) (b : BitVec 8) : FloatOps.sitofp (F := Ideal) FTy.f32 (if p < 1 then IntOp.andi (BitVec.setWidth 32 b) 15#32 else IntOp.shrui ArithUnit.host (BitVec.setWidth 32 b) 4#32) = nibv p b := by
  have h0 : ∀ b : BitVec 8, (BitVec.setWidth 32 b &&& 15#32).toInt = (b &&& 15#8).toInt := by decide +kernel
  have h1 : ∀ b : BitVec 8, (BitVec.setWidth 32 b >>> 4#32).toInt = (b >>> 4).toInt := by decide +kernel
  unfold nibv
  rcases (by omega : p = 0 ∨ p = 1) with rfl | rfl
  · show (((BitVec.setWidth 32 b &&& 15#32).toInt : ℝ) : EReal) = (((b &&& 15#8).toInt : ℝ) : EReal)
    rw [h0]
  · show (((BitVec.setWidth 32 b >>> 4#32).toInt : ℝ) : EReal) = (((b >>> 4).toInt : ℝ) : EReal)
    rw [h1]

end Cert.KernelIdeal.Val

end
-- ==== Proof.RefQ.lean ====
/- The reference's quantiser of the new key and the new value, read at an index. -/
module

public import proofs.«01_k».proof.Proof.Gen.ReferenceIdeal.Run
public import proofs.«01_k».proof.Proof.RefCode
public import Idealize.ShloMosaic.Lib.Pointwise

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.ReferenceIdeal.Value
open Cert.KernelIdeal.Val (qcode qstep wlo whi requant knewS vnewS nibv pack_read qcode_nat nib_read ofBits_pinf ofBits_ninf allOf past attn topOf prob keyS valS scoreS attnS)

variable (V0 : Valuation τ sig (Elt Ideal))

/-- Argument 0. -/
abbrev r0 : S128x1x4096.Idx → EReal := V0 (Proc.devRef .tc main_arg0)
/-- Argument 1. -/
abbrev r1 : S128x1x4x64.Idx → EReal := V0 (Proc.devRef .tc main_arg1)
/-- Argument 2. -/
abbrev r2 : S128x1x4x64.Idx → EReal := V0 (Proc.devRef .tc main_arg2)
/-- Argument 3. -/
abbrev r3 : S128x32768x4x32.Idx → BitVec 8 := V0 (Proc.devRef .tc main_arg3)
/-- Argument 4. -/
abbrev r4 : S128x1024x4x64.Idx → EReal := V0 (Proc.devRef .tc main_arg4)
/-- Argument 5. -/
abbrev r5 : S128x1024x4x64.Idx → EReal := V0 (Proc.devRef .tc main_arg5)
/-- Argument 6. -/
abbrev r6 : S128x32768x4x32.Idx → BitVec 8 := V0 (Proc.devRef .tc main_arg6)
/-- Argument 7. -/
abbrev r7 : S128x32768x4.Idx → EReal := V0 (Proc.devRef .tc main_arg7)
/-- Argument 8. -/
abbrev r8 : S128x32768x4.Idx → EReal := V0 (Proc.devRef .tc main_arg8)
/-- Argument 9. -/
abbrev r9 : S128x128x4x64.Idx → EReal := V0 (Proc.devRef .tc main_arg9)
/-- Argument 10. -/
abbrev r10 : S128x128x4x64.Idx → EReal := V0 (Proc.devRef .tc main_arg10)

theorem ix4_surj {a b c d : ℕ} (y : (⟨4, ![a, b, c, d]⟩ : Shape).Idx) : ∃ i j k l, y = ix4 i j k l :=
  ⟨y 0, y 1, y 2, y 3, by funext x; match x with | ⟨0, _⟩ => rfl | ⟨1, _⟩ => rfl | ⟨2, _⟩ => rfl | ⟨3, _⟩ => rfl⟩

theorem drop1 (a : Fin 128) (b : Fin 32) (c : Fin 4) (d : Fin 64) : reducesTo_S128x32x4x64_S128x4x64_d1.drop (ix4 a b c d) = ix3 a c d := by
  funext x
  refine Fin.ext ?_
  match x with
  | ⟨0, _⟩ => exact Shape.ReducesTo.drop_apply_val_of_eq reducesTo_S128x32x4x64_S128x4x64_d1 _ ⟨0, by decide⟩ 0
  | ⟨1, _⟩ => exact Shape.ReducesTo.drop_apply_val_of_eq reducesTo_S128x32x4x64_S128x4x64_d1 _ ⟨1, by decide⟩ 2
  | ⟨2, _⟩ => exact Shape.ReducesTo.drop_apply_val_of_eq reducesTo_S128x32x4x64_S128x4x64_d1 _ ⟨2, by decide⟩ 3

theorem drop3 (a : Fin 128) (b : Fin 1) (c : Fin 4) (d : Fin 64) : reducesTo_S128x1x4x64_S128x1x4_d3.drop (ix4 a b c d) = ix3 a b c := by
  funext x
  refine Fin.ext ?_
  match x with
  | ⟨0, _⟩ => exact Shape.ReducesTo.drop_apply_val_of_eq reducesTo_S128x1x4x64_S128x1x4_d3 _ ⟨0, by decide⟩ 0
  | ⟨1, _⟩ => exact Shape.ReducesTo.drop_apply_val_of_eq reducesTo_S128x1x4x64_S128x1x4_d3 _ ⟨1, by decide⟩ 1
  | ⟨2, _⟩ => exact Shape.ReducesTo.drop_apply_val_of_eq reducesTo_S128x1x4x64_S128x1x4_d3 _ ⟨2, by decide⟩ 2

theorem drop126 (a : Fin 128) (b : Fin 4) (c : Fin 16) (d : Fin 32897) : reducesTo_S128x4x16x32897_S128x4x16_d3.drop (ix4 a b c d) = ix3 a b c := by
  funext x
  refine Fin.ext ?_
  match x with
  | ⟨0, _⟩ => exact Shape.ReducesTo.drop_apply_val_of_eq reducesTo_S128x4x16x32897_S128x4x16_d3 _ ⟨0, by decide⟩ 0
  | ⟨1, _⟩ => exact Shape.ReducesTo.drop_apply_val_of_eq reducesTo_S128x4x16x32897_S128x4x16_d3 _ ⟨1, by decide⟩ 1
  | ⟨2, _⟩ => exact Shape.ReducesTo.drop_apply_val_of_eq reducesTo_S128x4x16x32897_S128x4x16_d3 _ ⟨2, by decide⟩ 2

/-- The new key's quantisation window. -/
theorem v3_apply (b : Fin 128) (x : Fin 32) (k : Fin 4) (d : Fin 64) : (res_main_v3 (F := Ideal) V0 : S128x32x4x64.Idx → EReal) (ix4 b x k d)
    = if x.val < 31 then r9 V0 (ix4 b ⟨97 + x.val % 31, by omega⟩ k d) else r1 V0 (ix4 b 0 k d) := by
  unfold res_main_v3
  pointwise
  split
  · next h =>
    refine congrArg (fun i => r9 V0 (ix4 b i k d)) (Fin.ext ?_)
    show 97 + x.val = 97 + x.val % 31
    omega
  · refine congrArg (fun i => r1 V0 (ix4 b i k d)) (Fin.ext ?_)
    show _ = 0
    omega

/-- Its least value. -/
theorem v5_fold (b : Fin 128) (k : Fin 4) (d : Fin 64) :
    Finset.fold min (Ideal.ofBits FTy.f32 2139095040#32) (res_main_v3 (F := Ideal) V0 : S128x32x4x64.Idx → EReal) {i | reducesTo_S128x32x4x64_S128x4x64_d1.drop i = ix3 b k d}
      = wlo (fun x => r9 V0 (ix4 b x k d)) (r1 V0 (ix4 b 0 k d)) := by
  refine eq_of_forall_le_iff fun z => ?_
  unfold wlo
  rw [Finset.le_fold_min, le_min_iff, Finset.le_inf_iff, ofBits_pinf]
  constructor
  · rintro ⟨-, h⟩
    have g (x : Fin 32) := h (ix4 b x k d) (by simp only [Finset.mem_filter, Finset.mem_univ, true_and]; exact drop1 _ _ _ _)
    simp only [v3_apply] at g
    refine ⟨fun x _ => ?_, ?_⟩
    · split
      · next hx =>
        have := g ⟨x.val - 97, by omega⟩
        rw [if_pos (by show x.val - 97 < 31; omega)] at this
        have e : (⟨97 + (x.val - 97) % 31, by omega⟩ : Fin 128) = x := Fin.ext (by show 97 + (x.val - 97) % 31 = x.val; omega)
        simpa only [e] using this
      · exact le_top
    · have := g ⟨31, by omega⟩
      rwa [if_neg (by show ¬ 31 < 31; omega)] at this
  · rintro ⟨h, h'⟩
    refine ⟨le_top, fun i hi => ?_⟩
    simp only [Finset.mem_filter, Finset.mem_univ, true_and] at hi
    obtain ⟨a, x, c, e, rfl⟩ := ix4_surj (a := 128) (b := 32) (c := 4) (d := 64) i
    rw [drop1] at hi
    have h1 : a = b := congrFun hi 0
    have h2 : c = k := congrFun hi 1
    have h3 : e = d := congrFun hi 2
    subst h1 h2 h3
    rw [v3_apply]
    split
    · have := h ⟨97 + x.val % 31, by omega⟩ (Finset.mem_univ _)
      rwa [if_pos (by show 97 ≤ 97 + x.val % 31; omega)] at this
    · exact h'

/-- Its greatest value. -/
theorem v7_fold (b : Fin 128) (k : Fin 4) (d : Fin 64) :
    Finset.fold max (Ideal.ofBits FTy.f32 4286578688#32) (res_main_v3 (F := Ideal) V0 : S128x32x4x64.Idx → EReal) {i | reducesTo_S128x32x4x64_S128x4x64_d1.drop i = ix3 b k d}
      = whi (fun x => r9 V0 (ix4 b x k d)) (r1 V0 (ix4 b 0 k d)) := by
  refine eq_of_forall_ge_iff fun z => ?_
  unfold whi
  rw [Finset.fold_max_le, max_le_iff, Finset.sup_le_iff, ofBits_ninf]
  constructor
  · rintro ⟨-, h⟩
    have g (x : Fin 32) := h (ix4 b x k d) (by simp only [Finset.mem_filter, Finset.mem_univ, true_and]; exact drop1 _ _ _ _)
    simp only [v3_apply] at g
    refine ⟨fun x _ => ?_, ?_⟩
    · split
      · next hx =>
        have := g ⟨x.val - 97, by omega⟩
        rw [if_pos (by show x.val - 97 < 31; omega)] at this
        have e : (⟨97 + (x.val - 97) % 31, by omega⟩ : Fin 128) = x := Fin.ext (by show 97 + (x.val - 97) % 31 = x.val; omega)
        simpa only [e] using this
      · exact bot_le
    · have := g ⟨31, by omega⟩
      rwa [if_neg (by show ¬ 31 < 31; omega)] at this
  · rintro ⟨h, h'⟩
    refine ⟨bot_le, fun i hi => ?_⟩
    simp only [Finset.mem_filter, Finset.mem_univ, true_and] at hi
    obtain ⟨a, x, c, e, rfl⟩ := ix4_surj (a := 128) (b := 32) (c := 4) (d := 64) i
    rw [drop1] at hi
    have h1 : a = b := congrFun hi 0
    have h2 : c = k := congrFun hi 1
    have h3 : e = d := congrFun hi 2
    subst h1 h2 h3
    rw [v3_apply]
    split
    · have := h ⟨97 + x.val % 31, by omega⟩ (Finset.mem_univ _)
      rwa [if_pos (by show 97 ≤ 97 + x.val % 31; omega)] at this
    · exact h'

theorem v5_apply (b : Fin 128) (k : Fin 4) (d : Fin 64) : (res_main_v5 (F := Ideal) V0 : S128x1x4x64.Idx → EReal) (ix4 b 0 k d)
    = wlo (fun x => r9 V0 (ix4 b x k d)) (r1 V0 (ix4 b 0 k d)) := by
  rw [← v5_fold]
  unfold res_main_v5
  pointwise

theorem v8_apply (b : Fin 128) (k : Fin 4) (d : Fin 64) : (res_main_v8 (F := Ideal) V0 : S128x1x4x64.Idx → EReal) (ix4 b 0 k d)
    = whi (fun x => r9 V0 (ix4 b x k d)) (r1 V0 (ix4 b 0 k d)) - wlo (fun x => r9 V0 (ix4 b x k d)) (r1 V0 (ix4 b 0 k d)) := by
  rw [← v5_apply, ← v7_fold]
  unfold res_main_v8
  pointwise

theorem one_bits : Ideal.ofBits FTy.f32 1065353216#32 = 1 := by
  simp [Ideal.ofBits, Ideal.ieee]
  rw [← EReal.coe_mul]
  norm_num

theorem int15 : FloatOps.sitofp (F := Ideal) FTy.f32 (15#32) = Ideal.ofBits FTy.f32 1097859072#32 := by
  rw [Cert.KernelIdeal.Val.fifteen]
  exact Cert.KernelIdeal.Val.code_float 15

theorem int0 : FloatOps.sitofp (F := Ideal) FTy.f32 (0#32) = (0 : EReal) := by
  refine (Cert.KernelIdeal.Val.code_float 0).trans ?_
  norm_num

/-- The new key's step. -/
theorem v13_apply (b : Fin 128) (k : Fin 4) (d : Fin 64) : (res_main_v13 (F := Ideal) V0 : S128x1x4x64.Idx → EReal) (ix4 b 0 k d)
    = qstep (wlo (fun x => r9 V0 (ix4 b x k d)) (r1 V0 (ix4 b 0 k d))) (whi (fun x => r9 V0 (ix4 b x k d)) (r1 V0 (ix4 b 0 k d))) := by
  unfold qstep
  rw [← v8_apply]
  unfold res_main_v13
  pointwise
  exact if_congr Iff.rfl rfl one_bits

/-- The new key's code. -/
theorem v18_apply (b : Fin 128) (k : Fin 4) (d : Fin 64) : (res_main_v18 (F := Ideal) V0 : S128x1x4x64.Idx → BitVec 32) (ix4 b 0 k d)
    = FloatOps.fptosi (F := Ideal) (φ := .f32) 32 (qcode (r1 V0 (ix4 b 0 k d)) ((res_main_v5 (F := Ideal) V0 : S128x1x4x64.Idx → EReal) (ix4 b 0 k d)) ((res_main_v13 (F := Ideal) V0 : S128x1x4x64.Idx → EReal) (ix4 b 0 k d))) := by
  unfold qcode
  rw [← int15, ← int0]
  unfold res_main_v18
  pointwise

/-- The new value as the arguments give it. -/
theorem v25_apply (b : Fin 128) (k : Fin 4) (d : Fin 64) : (res_main_v25 (F := Ideal) V0 : S128x1x4x64.Idx → EReal) (ix4 b 0 k d) = r2 V0 (ix4 b 0 k d) := by
  unfold res_main_v25
  pointwise

/-- The new value's least entry over its head, as the reduction writes it. -/
theorem v27_fold (b : Fin 128) (k : Fin 4) :
    Finset.fold min (Ideal.ofBits FTy.f32 2139095040#32) (res_main_v25 (F := Ideal) V0 : S128x1x4x64.Idx → EReal) {i | reducesTo_S128x1x4x64_S128x1x4_d3.drop i = ix3 b 0 k}
      = Finset.univ.inf fun e : Fin 64 => r2 V0 (ix4 b 0 k e) := by
  refine eq_of_forall_le_iff fun z => ?_
  rw [Finset.le_fold_min, Finset.le_inf_iff, ofBits_pinf]
  constructor
  · rintro ⟨-, h⟩ x -
    have := h (ix4 b 0 k x) (by simp only [Finset.mem_filter, Finset.mem_univ, true_and]; exact drop3 _ _ _ _)
    rwa [v25_apply] at this
  · intro h
    refine ⟨le_top, fun i hi => ?_⟩
    simp only [Finset.mem_filter, Finset.mem_univ, true_and] at hi
    obtain ⟨a, x, c, e, rfl⟩ := ix4_surj (a := 128) (b := 1) (c := 4) (d := 64) i
    rw [drop3] at hi
    have h1 : a = b := congrFun hi 0
    have h2 : c = k := congrFun hi 2
    have h3 : x = 0 := Fin.ext (by omega)
    subst h1 h2 h3
    rw [v25_apply]
    exact h e (Finset.mem_univ _)

/-- Its greatest entry, as the reduction writes it. -/
theorem v30_fold (b : Fin 128) (k : Fin 4) :
    Finset.fold max (Ideal.ofBits FTy.f32 4286578688#32) (res_main_v25 (F := Ideal) V0 : S128x1x4x64.Idx → EReal) {i | reducesTo_S128x1x4x64_S128x1x4_d3.drop i = ix3 b 0 k}
      = Finset.univ.sup fun e : Fin 64 => r2 V0 (ix4 b 0 k e) := by
  refine eq_of_forall_ge_iff fun z => ?_
  rw [Finset.fold_max_le, Finset.sup_le_iff, ofBits_ninf]
  constructor
  · rintro ⟨-, h⟩ x -
    have := h (ix4 b 0 k x) (by simp only [Finset.mem_filter, Finset.mem_univ, true_and]; exact drop3 _ _ _ _)
    rwa [v25_apply] at this
  · intro h
    refine ⟨bot_le, fun i hi => ?_⟩
    simp only [Finset.mem_filter, Finset.mem_univ, true_and] at hi
    obtain ⟨a, x, c, e, rfl⟩ := ix4_surj (a := 128) (b := 1) (c := 4) (d := 64) i
    rw [drop3] at hi
    have h1 : a = b := congrFun hi 0
    have h2 : c = k := congrFun hi 2
    have h3 : x = 0 := Fin.ext (by omega)
    subst h1 h2 h3
    rw [v25_apply]
    exact h e (Finset.mem_univ _)

/-- The new value's least entry over its head. -/
theorem v27_apply (b : Fin 128) (k : Fin 4) : (res_main_v27 (F := Ideal) V0 : S128x1x4x1.Idx → EReal) (ix4 b 0 k 0)
    = Finset.univ.inf fun e : Fin 64 => r2 V0 (ix4 b 0 k e) := by
  rw [← v27_fold]
  unfold res_main_v27
  pointwise

/-- The new value's range over its head. -/
theorem v30_apply (b : Fin 128) (k : Fin 4) : (res_main_v30 (F := Ideal) V0 : S128x1x4x1.Idx → EReal) (ix4 b 0 k 0)
    = (Finset.univ.sup fun e : Fin 64 => r2 V0 (ix4 b 0 k e)) - Finset.univ.inf fun e : Fin 64 => r2 V0 (ix4 b 0 k e) := by
  rw [← v27_apply, ← v30_fold]
  unfold res_main_v30
  pointwise

/-- The new value's step. -/
theorem v35_apply (b : Fin 128) (k : Fin 4) : (res_main_v35 (F := Ideal) V0 : S128x1x4x1.Idx → EReal) (ix4 b 0 k 0)
    = qstep (Finset.univ.inf fun e : Fin 64 => r2 V0 (ix4 b 0 k e)) (Finset.univ.sup fun e : Fin 64 => r2 V0 (ix4 b 0 k e)) := by
  unfold qstep
  rw [← v30_apply]
  unfold res_main_v35
  pointwise
  exact if_congr Iff.rfl rfl one_bits

/-- The new value's code. -/
theorem v42_apply (b : Fin 128) (k : Fin 4) (d : Fin 64) : (res_main_v42 (F := Ideal) V0 : S128x1x4x64.Idx → BitVec 32) (ix4 b 0 k d)
    = FloatOps.fptosi (F := Ideal) (φ := .f32) 32 (qcode (r2 V0 (ix4 b 0 k d)) ((res_main_v27 (F := Ideal) V0 : S128x1x4x1.Idx → EReal) (ix4 b 0 k 0)) ((res_main_v35 (F := Ideal) V0 : S128x1x4x1.Idx → EReal) (ix4 b 0 k 0))) := by
  unfold qcode
  rw [← int15, ← int0]
  rw [← v25_apply]
  unfold res_main_v42
  pointwise

/-- The new key's packed codes. -/
theorem v89_apply (b : Fin 128) (k : Fin 4) (d : Fin 32) : (res_main_v89 (F := Ideal) V0 : S128x1x4x32.Idx → BitVec 32) (ix4 b 0 k d)
    = BitVec.setWidth 32 (BitVec.setWidth 8 (IntOp.ori ((res_main_v18 (F := Ideal) V0 : S128x1x4x64.Idx → BitVec 32) (ix4 b 0 k ⟨2 * d.val, by omega⟩))
        (IntOp.shli ArithUnit.host ((res_main_v18 (F := Ideal) V0 : S128x1x4x64.Idx → BitVec 32) (ix4 b 0 k ⟨1 + 2 * d.val, by omega⟩)) 4#32))) := by
  unfold res_main_v89
  pointwise

/-- The new value's packed codes. -/
theorem v105_apply (b : Fin 128) (k : Fin 4) (d : Fin 32) : (res_main_v105 (F := Ideal) V0 : S128x1x4x32.Idx → BitVec 32) (ix4 b 0 k d)
    = BitVec.setWidth 32 (BitVec.setWidth 8 (IntOp.ori ((res_main_v42 (F := Ideal) V0 : S128x1x4x64.Idx → BitVec 32) (ix4 b 0 k ⟨2 * d.val, by omega⟩))
        (IntOp.shli ArithUnit.host ((res_main_v42 (F := Ideal) V0 : S128x1x4x64.Idx → BitVec 32) (ix4 b 0 k ⟨1 + 2 * d.val, by omega⟩)) 4#32))) := by
  unfold res_main_v105
  pointwise

/-- A code picked by its place in the byte. -/
theorem pick (q : Fin 64 → EReal) (d : Fin 64) : (if d.val % 2 < 1 then q ⟨2 * (d.val / 2), by omega⟩ else q ⟨1 + 2 * (d.val / 2), by omega⟩) = q d := by
  split
  · exact congrArg q (Fin.ext (by show 2 * (d.val / 2) = d.val; omega))
  · exact congrArg q (Fin.ext (by show 1 + 2 * (d.val / 2) = d.val; omega))

/-- The new key, packed and read back. -/
theorem knew_apply (b : Fin 128) (k : Fin 4) (d : Fin 64) :
    FloatOps.sitofp (F := Ideal) FTy.f32 (if d.val % 2 < 1 then IntOp.andi ((res_main_v89 (F := Ideal) V0 : S128x1x4x32.Idx → BitVec 32) (ix4 b 0 k ⟨d.val / 2, by omega⟩)) 15#32
        else IntOp.shrui ArithUnit.host ((res_main_v89 (F := Ideal) V0 : S128x1x4x32.Idx → BitVec 32) (ix4 b 0 k ⟨d.val / 2, by omega⟩)) 4#32)
      * (res_main_v13 (F := Ideal) V0 : S128x1x4x64.Idx → EReal) (ix4 b 0 k d) + (res_main_v5 (F := Ideal) V0 : S128x1x4x64.Idx → EReal) (ix4 b 0 k d)
    = knewS (r1 V0) (r9 V0) b k d := by
  have h := pack_read (d.val % 2) _ _ (qcode_nat _ _ _) (qcode_nat _ _ _) _
    ((v89_apply V0 b k ⟨d.val / 2, by omega⟩).trans (by rw [v18_apply, v18_apply]))
  rw [h]
  rw [pick (fun d => qcode (r1 V0 (ix4 b 0 k d)) ((res_main_v5 (F := Ideal) V0 : S128x1x4x64.Idx → EReal) (ix4 b 0 k d)) ((res_main_v13 (F := Ideal) V0 : S128x1x4x64.Idx → EReal) (ix4 b 0 k d))) d]
  rw [v5_apply, v13_apply]
  rfl

/-- The new value, packed and read back. -/
theorem vnew_apply (b : Fin 128) (k : Fin 4) (d : Fin 64) :
    FloatOps.sitofp (F := Ideal) FTy.f32 (if d.val % 2 < 1 then IntOp.andi ((res_main_v105 (F := Ideal) V0 : S128x1x4x32.Idx → BitVec 32) (ix4 b 0 k ⟨d.val / 2, by omega⟩)) 15#32
        else IntOp.shrui ArithUnit.host ((res_main_v105 (F := Ideal) V0 : S128x1x4x32.Idx → BitVec 32) (ix4 b 0 k ⟨d.val / 2, by omega⟩)) 4#32)
      * (res_main_v35 (F := Ideal) V0 : S128x1x4x1.Idx → EReal) (ix4 b 0 k 0) + (res_main_v27 (F := Ideal) V0 : S128x1x4x1.Idx → EReal) (ix4 b 0 k 0)
    = vnewS (r2 V0) b k d := by
  have h := pack_read (d.val % 2) _ _ (qcode_nat _ _ _) (qcode_nat _ _ _) _
    ((v105_apply V0 b k ⟨d.val / 2, by omega⟩).trans (by rw [v42_apply, v42_apply]))
  rw [h]
  rw [pick (fun d => qcode (r2 V0 (ix4 b 0 k d)) ((res_main_v27 (F := Ideal) V0 : S128x1x4x1.Idx → EReal) (ix4 b 0 k 0)) ((res_main_v35 (F := Ideal) V0 : S128x1x4x1.Idx → EReal) (ix4 b 0 k 0))) d]
  rw [v27_apply, v35_apply]
  rfl

end Cert.ReferenceIdeal.Val

end
-- ==== Proof.RefEq.lean ====
/- The reference's attention, read at an index, is the attention of the sequence in terms of the arguments. -/
module

public import proofs.«01_k».proof.Proof.RefQ
public import Idealize.ShloMosaic.Lib.Pointwise

@[expose] public section

set_option maxRecDepth 16384
set_option maxHeartbeats 1000000

noncomputable section

namespace Cert.ReferenceIdeal.Val

open Idealize.ShloMosaic Idealize.ShloMosaic.TcCoe Idealize.ShloMosaic.Tactic
open Cert.ReferenceIdeal Cert.ReferenceIdeal.Gen Cert.ReferenceIdeal.Value
open Cert.KernelIdeal.Val (qcode qstep wlo whi requant knewS vnewS nibv pack_read qcode_nat nib_read ofBits_pinf ofBits_ninf allOf past attn topOf prob keyS valS scoreS attnS past_eq sub_scale top_scale)

variable (V0 : Valuation τ sig (Elt Ideal))

/-- A channel's byte. -/
abbrev hf (x : Fin 64) : Fin 32 := ⟨x.val / 2, by omega⟩
/-- A head's key head. -/
abbrev kh (h : Fin 64) : Fin 4 := ⟨h.val / 16, by omega⟩
/-- A position's scale group. -/
abbrev ng (n : Fin 32897) (g : n.val < 32768) : Fin 1024 := ⟨n.val / 32, by omega⟩

/-- The keys at a position: the cache, the tail, the new key, as the reference joins them. -/
theorem key_join (b : Fin 128) (k : Fin 4) (x : Fin 64) (n : Fin 32897) (z : EReal) (hz : z = knewS (r1 V0) (r9 V0) b k x) :
    (if h : n.val < 32768 then FloatOps.sitofp (F := Ideal) FTy.f32 (if x.val % 2 < 1 then IntOp.andi ((res_main_v55 (F := Ideal) V0 : S128x32768x4x32.Idx → BitVec 32) (ix4 b ⟨n.val, h⟩ k ⟨x.val / 2, by omega⟩)) 15#32
          else IntOp.shrui ArithUnit.host ((res_main_v55 (F := Ideal) V0 : S128x32768x4x32.Idx → BitVec 32) (ix4 b ⟨n.val, h⟩ k ⟨x.val / 2, by omega⟩)) 4#32)
          * r4 V0 (ix4 b ⟨n.val / 32, by omega⟩ k x) + r5 V0 (ix4 b ⟨n.val / 32, by omega⟩ k x)
      else if h' : n.val - 32768 < 128 then r9 V0 (ix4 b ⟨n.val - 32768, h'⟩ k x) else z)
    = keyS (r1 V0) (r3 V0) (r4 V0) (r5 V0) (r9 V0) b k x n.val := by
  unfold keyS allOf
  by_cases h : n.val < 32768
  · rw [dif_pos h, if_pos h]
    exact (congrArg (fun q : EReal => q * r4 V0 (ix4 b ⟨n.val / 32, by omega⟩ k x) + r5 V0 (ix4 b ⟨n.val / 32, by omega⟩ k x))
      (nib_read (x.val % 2) (by omega) (r3 V0 (ix4 b ⟨n.val, h⟩ k ⟨x.val / 2, by omega⟩)))).trans
      (congrArg (fun q : Fin 32768 => nibv (x.val % 2) (r3 V0 (ix4 b q k ⟨x.val / 2, by omega⟩)) * r4 V0 (ix4 b ⟨q.val / 32, by omega⟩ k x)
        + r5 V0 (ix4 b ⟨q.val / 32, by omega⟩ k x)) (past_eq n.val h))
  · rw [dif_neg h, if_neg h]
    by_cases h' : n.val - 32768 < 128
    · rw [dif_pos h', dif_pos h']
    · rw [dif_neg h', dif_neg h', hz]

/-- The values at a position, likewise. -/
theorem val_join (b : Fin 128) (k : Fin 4) (x : Fin 64) (n : Fin 32897) (z : EReal) (hz : z = vnewS (r2 V0) b k x) :
    (if h : n.val < 32768 then FloatOps.sitofp (F := Ideal) FTy.f32 (if x.val % 2 < 1 then IntOp.andi ((res_main_v72 (F := Ideal) V0 : S128x32768x4x32.Idx → BitVec 32) (ix4 b ⟨n.val, h⟩ k ⟨x.val / 2, by omega⟩)) 15#32
          else IntOp.shrui ArithUnit.host ((res_main_v72 (F := Ideal) V0 : S128x32768x4x32.Idx → BitVec 32) (ix4 b ⟨n.val, h⟩ k ⟨x.val / 2, by omega⟩)) 4#32)
          * r7 V0 (ix3 b ⟨n.val, h⟩ k) + r8 V0 (ix3 b ⟨n.val, h⟩ k)
      else if h' : n.val - 32768 < 128 then r10 V0 (ix4 b ⟨n.val - 32768, h'⟩ k x) else z)
    = valS (r2 V0) (r6 V0) (r7 V0) (r8 V0) (r10 V0) b k x n.val := by
  unfold valS allOf
  by_cases h : n.val < 32768
  · rw [dif_pos h, if_pos h]
    simp only [← past_eq n.val h]
    exact congrArg (fun q : EReal => q * r7 V0 (ix3 b ⟨n.val, h⟩ k) + r8 V0 (ix3 b ⟨n.val, h⟩ k))
      (nib_read (x.val % 2) (by omega) (r6 V0 (ix4 b ⟨n.val, h⟩ k ⟨x.val / 2, by omega⟩)))
  · rw [dif_neg h, if_neg h]
    by_cases h' : n.val - 32768 < 128
    · rw [dif_pos h', dif_pos h']
    · rw [dif_neg h', dif_neg h', hz]

/-- A head's scaled score at a position. -/
theorem v126_apply (b : Fin 128) (h : Fin 64) (n : Fin 32897) :
    (res_main_v126 (F := Ideal) V0 : S128x4x16x32897.Idx → EReal) (ix4 b ⟨h.val / 16, by omega⟩ ⟨h.val % 16, by omega⟩ n)
    = scoreS (r0 V0) (r1 V0) (r3 V0) (r4 V0) (r5 V0) (r9 V0) b h n.val * Ideal.ofBits FTy.f32 1040187392#32 := by
  have hn (p : n.val - 32768 - 128 < 1) : (⟨n.val - 32768 - 128, p⟩ : Fin 1) = 0 := Fin.ext (by show n.val - 32768 - 128 = 0; omega)
  have e : (res_main_v126 (F := Ideal) V0 : S128x4x16x32897.Idx → EReal) (ix4 b (kh h) ⟨h.val % 16, by omega⟩ n)
      = (∑ x : Fin 64, r0 V0 (ix3 b 0 ⟨h.val / 16 * 1024 + h.val % 16 * 64 + x.val, by omega⟩) *
        (if g : n.val < 32768 then FloatOps.sitofp (F := Ideal) FTy.f32 (if _i : x.val % 2 < 1 then IntOp.andi ((res_main_v55 (F := Ideal) V0 : S128x32768x4x32.Idx → BitVec 32) (ix4 b ⟨n.val, g⟩ (kh h) (hf x))) 15#32
            else IntOp.shrui ArithUnit.host ((res_main_v55 (F := Ideal) V0 : S128x32768x4x32.Idx → BitVec 32) (ix4 b ⟨n.val, g⟩ (kh h) (hf x))) 4#32)
            * r4 V0 (ix4 b (ng n g) (kh h) x) + r5 V0 (ix4 b (ng n g) (kh h) x)
        else if g' : n.val - 32768 < 128 then r9 V0 (ix4 b ⟨n.val - 32768, g'⟩ (kh h) x)
        else FloatOps.sitofp (F := Ideal) FTy.f32 (if _i : x.val % 2 < 1 then IntOp.andi ((res_main_v89 (F := Ideal) V0 : S128x1x4x32.Idx → BitVec 32) (ix4 b 0 (kh h) (hf x))) 15#32
            else IntOp.shrui ArithUnit.host ((res_main_v89 (F := Ideal) V0 : S128x1x4x32.Idx → BitVec 32) (ix4 b 0 (kh h) (hf x))) 4#32)
            * (res_main_v13 (F := Ideal) V0 : S128x1x4x64.Idx → EReal) (ix4 b 0 (kh h) x)
            + (res_main_v5 (F := Ideal) V0 : S128x1x4x64.Idx → EReal) (ix4 b 0 (kh h) x)))
        * Ideal.ofBits FTy.f32 1040187392#32 := by
    unfold res_main_v126
    pointwise
    simp only [hn]
  rw [e]
  clear e
  simp only [dite_eq_ite]
  refine congrArg (fun q : EReal => q * Ideal.ofBits FTy.f32 1040187392#32) ?_
  unfold scoreS
  refine Finset.sum_congr rfl fun x _ => ?_
  have e : (⟨h.val / 16 * 1024 + h.val % 16 * 64 + x.val, by omega⟩ : Fin 4096) = ⟨h.val * 64 + x.val, by omega⟩ :=
    Fin.ext (by show h.val / 16 * 1024 + h.val % 16 * 64 + x.val = h.val * 64 + x.val; omega)
  refine congrArg₂ (fun p q : EReal => p * q) (congrArg (fun i => r0 V0 (ix3 b 0 i)) e) ?_
  exact key_join V0 b ⟨h.val / 16, by omega⟩ x n _ (knew_apply V0 b ⟨h.val / 16, by omega⟩ x)

/-- A head's greatest scaled score. -/
theorem v126_fold (b : Fin 128) (h : Fin 64) :
    Finset.fold max (Ideal.ofBits FTy.f32 4286578688#32) (res_main_v126 (F := Ideal) V0 : S128x4x16x32897.Idx → EReal) {i | reducesTo_S128x4x16x32897_S128x4x16_d3.drop i = ix3 b ⟨h.val / 16, by omega⟩ ⟨h.val % 16, by omega⟩}
      = topOf (scoreS (r0 V0) (r1 V0) (r3 V0) (r4 V0) (r5 V0) (r9 V0) b h) * Ideal.ofBits FTy.f32 1040187392#32 := by
  rw [← top_scale]
  refine eq_of_forall_ge_iff fun z => ?_
  rw [Finset.fold_max_le, Finset.sup_le_iff, ofBits_ninf]
  constructor
  · rintro ⟨-, g⟩ x hx
    have := g (ix4 b ⟨h.val / 16, by omega⟩ ⟨h.val % 16, by omega⟩ ⟨x, Finset.mem_range.mp hx⟩) (by simp only [Finset.mem_filter, Finset.mem_univ, true_and]; exact drop126 _ _ _ _)
    rwa [v126_apply] at this
  · intro g
    refine ⟨bot_le, fun i hi => ?_⟩
    simp only [Finset.mem_filter, Finset.mem_univ, true_and] at hi
    obtain ⟨a, x, y, e, rfl⟩ := ix4_surj (a := 128) (b := 4) (c := 16) (d := 32897) i
    rw [drop126] at hi
    have h1 : a = b := congrFun hi 0
    have h2 : x = ⟨h.val / 16, by omega⟩ := congrFun hi 1
    have h3 : y = ⟨h.val % 16, by omega⟩ := congrFun hi 2
    subst h1 h2 h3
    rw [v126_apply]
    exact g e.val (Finset.mem_range.mpr e.isLt)

/-- A head's softmax numerator at a position. -/
theorem v131_apply (b : Fin 128) (h : Fin 64) (n : Fin 32897) :
    (res_main_v131 (F := Ideal) V0 : S128x4x16x32897.Idx → EReal) (ix4 b ⟨h.val / 16, by omega⟩ ⟨h.val % 16, by omega⟩ n)
    = prob (scoreS (r0 V0) (r1 V0) (r3 V0) (r4 V0) (r5 V0) (r9 V0) b h n.val) (topOf (scoreS (r0 V0) (r1 V0) (r3 V0) (r4 V0) (r5 V0) (r9 V0) b h)) := by
  unfold prob
  rw [sub_scale, ← v126_apply, ← v126_fold]
  unfold res_main_v131
  pointwise

/-- The attention as sums over the positions. -/
theorem attn_fin (s v : ℕ → EReal) : attn s v
    = Ideal.div (∑ n : Fin 32897, prob (s n.val) (topOf s) * v n.val) (∑ n : Fin 32897, prob (s n.val) (topOf s)) := by
  unfold attn
  exact congrArg₂ Ideal.div (Finset.sum_range fun n => prob (s n) (topOf s) * v n) (Finset.sum_range fun n => prob (s n) (topOf s))

/-- The softmax's numerators. -/
abbrev w131 (i : S128x4x16x32897.Idx) : EReal := res_main_v131 (F := Ideal) V0 i

/-- The reference's result as its last operations write it. -/
theorem v139_read (b : Fin 128) (h d : Fin 64) :
    (val3 (F := Ideal) V0 (Proc.devRef .tc main_v139) : S128x64x64.Idx → EReal) (ix3 b h d)
    = Ideal.div (∑ n : Fin 32897, w131 V0 (ix4 b (kh h) ⟨h.val % 16, by omega⟩ n)
        * (if g : n.val < 32768 then FloatOps.sitofp (F := Ideal) FTy.f32 (if _i : d.val % 2 < 1 then IntOp.andi ((res_main_v72 (F := Ideal) V0 : S128x32768x4x32.Idx → BitVec 32) (ix4 b ⟨n.val, g⟩ (kh h) (hf d))) 15#32
            else IntOp.shrui ArithUnit.host ((res_main_v72 (F := Ideal) V0 : S128x32768x4x32.Idx → BitVec 32) (ix4 b ⟨n.val, g⟩ (kh h) (hf d))) 4#32)
            * r7 V0 (ix3 b ⟨n.val, g⟩ (kh h)) + r8 V0 (ix3 b ⟨n.val, g⟩ (kh h))
        else if g' : n.val - 32768 < 128 then r10 V0 (ix4 b ⟨n.val - 32768, g'⟩ (kh h) d)
        else FloatOps.sitofp (F := Ideal) FTy.f32 (if _i : d.val % 2 < 1 then IntOp.andi ((res_main_v105 (F := Ideal) V0 : S128x1x4x32.Idx → BitVec 32) (ix4 b 0 (kh h) (hf d))) 15#32
            else IntOp.shrui ArithUnit.host ((res_main_v105 (F := Ideal) V0 : S128x1x4x32.Idx → BitVec 32) (ix4 b 0 (kh h) (hf d))) 4#32)
            * (res_main_v35 (F := Ideal) V0 : S128x1x4x1.Idx → EReal) (ix4 b 0 (kh h) 0)
            + (res_main_v27 (F := Ideal) V0 : S128x1x4x1.Idx → EReal) (ix4 b 0 (kh h) 0)))
      (∑ n : Fin 32897, w131 V0 (ix4 b (kh h) ⟨h.val % 16, by omega⟩ n)) := by
  rw [val3_main_v139]
  pointwise

/-- The reference's result. -/
theorem v139_apply (b : Fin 128) (h d : Fin 64) :
    (val3 (F := Ideal) V0 (Proc.devRef .tc main_v139) : S128x64x64.Idx → EReal) (ix3 b h d)
    = attnS (r0 V0) (r1 V0) (r2 V0) (r3 V0) (r4 V0) (r5 V0) (r6 V0) (r7 V0) (r8 V0) (r9 V0) (r10 V0) b h d := by
  rw [v139_read]
  simp only [dite_eq_ite]
  unfold attnS
  rw [attn_fin]
  refine congrArg₂ Ideal.div (Finset.sum_congr rfl fun n _ => ?_) (Finset.sum_congr rfl fun n _ => v131_apply V0 b h n)
  exact congrArg₂ (fun p q : EReal => p * q) (v131_apply V0 b h n)
    (val_join V0 b ⟨h.val / 16, by omega⟩ d n _ (vnew_apply V0 b ⟨h.val / 16, by omega⟩ d))

end Cert.ReferenceIdeal.Val

end
-- ==== Proof.Claims.lean ====
/- The frames of the three programs, the statement of what each rewriting rule used says, and the equality of the
   kernel's attention with the reference's. -/
module

public import proofs.«01_k».proof.Defs
public import proofs.«01_k».proof.Proof.FrameIdeal
public import proofs.«01_k».proof.Proof.FrameBits
public import proofs.«01_k».proof.Proof.KRun
public import proofs.«01_k».proof.Proof.KEq
public import proofs.«01_k».proof.Proof.RefEq
public import proofs.«01_k».proof.Proof.Gen.Kernel
public import proofs.«01_k».proof.Proof.Gen.KernelIdeal
public import proofs.«01_k».proof.Proof.Gen.ReferenceIdeal.Run
public import Idealize.ShloMosaic.Lib.Bf16Pair
public import Idealize.ShloMosaic.Lib.Bf16PairInverse

@[expose] public section

set_option maxRecDepth 16384

noncomputable section

namespace Cert.Proof

open Idealize.ShloMosaic Idealize.SL.Sem

theorem quiescent_bits : Cert.quiescent_Kernel (hKernel := Cert.Kernel.Gen.facts) :=
  fun m g _ => Cert.Kernel.Hand.frame m g

theorem quiescent_ideal : Cert.quiescent_KernelIdeal (hKernelIdeal := Cert.KernelIdeal.Gen.facts) :=
  fun m g _ => Cert.KernelIdeal.Hand.frame m g

theorem quiescent_reference : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run m g)

/-- Each rule's statement, at the shapes it was used at. -/
theorem preserves : Cert.preserves_Kernel_KernelIdeal :=
  ⟨IdealRules.bf16_pair.bufferStatement _ _, IdealRules.bf16_pair.statement _ _, IdealRules.bf16_pair.packStatement _,
    IdealRules.bf16_pair.statement _ _, IdealRules.bf16_pair.statement _ _, IdealRules.bf16_pair.statement _ _,
    IdealRules.bf16_pair.packStatement _, IdealRules.bf16_pair.statement _ _⟩

/-- The kernel's run leaves every sequence's attention in its array. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v25_0) = Cert.KernelIdeal.Val.yAll m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono
    (fun r h c => ⟨(((Cert.KernelIdeal.Val.vdat m 0 c).toRForget_arrAt_iff (fgt := Cert.KernelIdeal.Val.fgt) (w := 11) rfl _ _).mp ((h c).1 11)).trans (Cert.KernelIdeal.Val.y_arr m c),
      ((h c).2 Cert.KernelIdeal.main_arg0 (Pipeline.mem_restRefs_of Cert.KernelIdeal.main_arg0 (by decide) (by decide))).trans (Cert.KernelIdeal.Gen.V_main_arg0 m c), ((h c).2 Cert.KernelIdeal.main_arg1 (Pipeline.mem_restRefs_of Cert.KernelIdeal.main_arg1 (by decide) (by decide))).trans (Cert.KernelIdeal.Gen.V_main_arg1 m c), ((h c).2 Cert.KernelIdeal.main_arg2 (Pipeline.mem_restRefs_of Cert.KernelIdeal.main_arg2 (by decide) (by decide))).trans (Cert.KernelIdeal.Gen.V_main_arg2 m c), ((h c).2 Cert.KernelIdeal.main_arg3 (Pipeline.mem_restRefs_of Cert.KernelIdeal.main_arg3 (by decide) (by decide))).trans (Cert.KernelIdeal.Gen.V_main_arg3 m c), ((h c).2 Cert.KernelIdeal.main_arg4 (Pipeline.mem_restRefs_of Cert.KernelIdeal.main_arg4 (by decide) (by decide))).trans (Cert.KernelIdeal.Gen.V_main_arg4 m c), ((h c).2 Cert.KernelIdeal.main_arg5 (Pipeline.mem_restRefs_of Cert.KernelIdeal.main_arg5 (by decide) (by decide))).trans (Cert.KernelIdeal.Gen.V_main_arg5 m c), ((h c).2 Cert.KernelIdeal.main_arg6 (Pipeline.mem_restRefs_of Cert.KernelIdeal.main_arg6 (by decide) (by decide))).trans (Cert.KernelIdeal.Gen.V_main_arg6 m c), ((h c).2 Cert.KernelIdeal.main_arg7 (Pipeline.mem_restRefs_of Cert.KernelIdeal.main_arg7 (by decide) (by decide))).trans (Cert.KernelIdeal.Gen.V_main_arg7 m c), ((h c).2 Cert.KernelIdeal.main_arg8 (Pipeline.mem_restRefs_of Cert.KernelIdeal.main_arg8 (by decide) (by decide))).trans (Cert.KernelIdeal.Gen.V_main_arg8 m c), ((h c).2 Cert.KernelIdeal.main_arg9 (Pipeline.mem_restRefs_of Cert.KernelIdeal.main_arg9 (by decide) (by decide))).trans (Cert.KernelIdeal.Gen.V_main_arg9 m c), ((h c).2 Cert.KernelIdeal.main_arg10 (Pipeline.mem_restRefs_of Cert.KernelIdeal.main_arg10 (by decide) (by decide))).trans (Cert.KernelIdeal.Gen.V_main_arg10 m c)⟩)
    (Cert.KernelIdeal.Val.vrun m g)

/-- An attention of the kernel is the sequence's attention in terms of the arguments. -/
theorem kernel_at (m : (ℓ : Loc Cert.KernelIdeal.nD Cert.KernelIdeal.τ Cert.KernelIdeal.sig) → Buf (Elt Ideal) ℓ) (c : Dev Cert.KernelIdeal.nD) (b : Fin 128) (h d : Fin 64) :
    Cert.KernelIdeal.Val.yAll m c (ix3 b h d) = Cert.KernelIdeal.Val.attnS (Cert.KernelIdeal.Val.ar0 m c) (Cert.KernelIdeal.Val.ar1 m c) (Cert.KernelIdeal.Val.ar2 m c) (Cert.KernelIdeal.Val.ar3 m c) (Cert.KernelIdeal.Val.ar4 m c) (Cert.KernelIdeal.Val.ar5 m c) (Cert.KernelIdeal.Val.ar6 m c) (Cert.KernelIdeal.Val.ar7 m c) (Cert.KernelIdeal.Val.ar8 m c) (Cert.KernelIdeal.Val.ar9 m c) (Cert.KernelIdeal.Val.ar10 m c) b h d :=
  Cert.KernelIdeal.Val.point_attn m c ⟨b.val, b.isLt⟩ h d

/-- The reference's attention is the kernel's when their arguments are equal. -/
theorem reference_at (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (p0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (p1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (p2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (p3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (p4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (p5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (p6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (p7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (p8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (p9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (p10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Value.val3 (F := Ideal) (StableHlo.launchContents m' c) (Proc.devRef .tc Cert.ReferenceIdeal.main_v139) : Cert.KernelIdeal.S128x64x64.Idx → EReal)
      = Cert.KernelIdeal.Val.yAll m c := by
  funext y
  obtain ⟨b, h, d, rfl⟩ := Cert.KernelIdeal.Val.ix3_surj (a := 128) (b := 64) (c := 64) y
  have q0 : Cert.ReferenceIdeal.Val.r0 (StableHlo.launchContents m' c) = Cert.KernelIdeal.Val.ar0 m c := p0
  have q1 : Cert.ReferenceIdeal.Val.r1 (StableHlo.launchContents m' c) = Cert.KernelIdeal.Val.ar1 m c := p1
  have q2 : Cert.ReferenceIdeal.Val.r2 (StableHlo.launchContents m' c) = Cert.KernelIdeal.Val.ar2 m c := p2
  have q3 : Cert.ReferenceIdeal.Val.r3 (StableHlo.launchContents m' c) = Cert.KernelIdeal.Val.ar3 m c := p3
  have q4 : Cert.ReferenceIdeal.Val.r4 (StableHlo.launchContents m' c) = Cert.KernelIdeal.Val.ar4 m c := p4
  have q5 : Cert.ReferenceIdeal.Val.r5 (StableHlo.launchContents m' c) = Cert.KernelIdeal.Val.ar5 m c := p5
  have q6 : Cert.ReferenceIdeal.Val.r6 (StableHlo.launchContents m' c) = Cert.KernelIdeal.Val.ar6 m c := p6
  have q7 : Cert.ReferenceIdeal.Val.r7 (StableHlo.launchContents m' c) = Cert.KernelIdeal.Val.ar7 m c := p7
  have q8 : Cert.ReferenceIdeal.Val.r8 (StableHlo.launchContents m' c) = Cert.KernelIdeal.Val.ar8 m c := p8
  have q9 : Cert.ReferenceIdeal.Val.r9 (StableHlo.launchContents m' c) = Cert.KernelIdeal.Val.ar9 m c := p9
  have q10 : Cert.ReferenceIdeal.Val.r10 (StableHlo.launchContents m' c) = Cert.KernelIdeal.Val.ar10 m c := p10
  rw [kernel_at, ← q0, ← q1, ← q2, ← q3, ← q4, ← q5, ← q6, ← q7, ← q8, ← q9, ← q10]
  exact Cert.ReferenceIdeal.Val.v139_apply _ b h d

/-- On equal arguments the kernel's attention is the reference's. -/
theorem algebraic : Cert.algebraic_KernelIdeal_ReferenceIdeal (hKernelIdeal := Cert.KernelIdeal.Gen.facts) (hReferenceIdeal := Cert.ReferenceIdeal.Gen.facts) :=
  fun m g m' g' _ ha => ⟨Cert.KernelIdeal.Val.yAll m, kernel_run m g,
    (θ_run Cert.ReferenceIdeal.defs _ _).mono
      (fun r h c => ⟨((h c).1.trans (Cert.ReferenceIdeal.Value.val3_main_v139 _).symm).trans
        (by obtain ⟨p0, p1, p2, p3, p4, p5, p6, p7, p8, p9, p10⟩ := ha c; exact reference_at m m' c p0 p1 p2 p3 p4 p5 p6 p7 p8 p9 p10), (h c).2⟩)
      (Cert.ReferenceIdeal.Value.run m' g')⟩

end Cert.Proof

end
-- ==== Proof.lean ====
/- The proof of the claim: the frames of the three programs, the rules' statements and the
   equality of the attention, from `Proof/Claims.lean`. -/
module

public import proofs.«01_k».proof.Defs
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    quiescent_bits, quiescent_ideal, quiescent_reference, preserves, algebraic⟩

end Cert.Proof

end
